-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_in_range [hPre_decay_in_range : Cert.Pre_decay_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_decay_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_in_range [hPre_decay_in_range : Cert.Pre_decay_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_ConfIn (m : (ℓ : Loc Cert.ConfIn.nD Cert.ConfIn.τ Cert.ConfIn.sig) → Buf (Elt Bits) ℓ) : Prop :=
  True

def Pre_ConfInIdeal (m : (ℓ : Loc Cert.ConfInIdeal.nD Cert.ConfInIdeal.τ Cert.ConfInIdeal.sig) → Buf (Elt Ideal) ℓ) : Prop :=
  True

def Pre_ConfInRefIdeal (m : (ℓ : Loc Cert.ConfInRefIdeal.nD Cert.ConfInRefIdeal.τ Cert.ConfInRefIdeal.sig) → Buf (Elt Ideal) ℓ) : Prop :=
  True

def Pre_ConfOut (m : (ℓ : Loc Cert.ConfOut.nD Cert.ConfOut.τ Cert.ConfOut.sig) → Buf (Elt Bits) ℓ) : Prop :=
  True

def Pre_ConfOutIdeal (m : (ℓ : Loc Cert.ConfOutIdeal.nD Cert.ConfOutIdeal.τ Cert.ConfOutIdeal.sig) → Buf (Elt Ideal) ℓ) : Prop :=
  True

def Pre_ConfOutRefIdeal (m : (ℓ : Loc Cert.ConfOutRefIdeal.nD Cert.ConfOutRefIdeal.τ Cert.ConfOutRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decay_in_range [hKernelIdeal : Cert.KernelIdeal.Facts] [hPre_decay_in_range : Cert.Pre_decay_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decay_in_range [hReferenceIdeal : Cert.ReferenceIdeal.Facts] [hPre_decay_in_range : Cert.Pre_decay_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1)
      ∧ r.2.mem ((c.tc : Thread Cert.HgrnIn.nD Cert.HgrnIn.τ).loc Cert.HgrnIn.main_arg2) = m ((c.tc : Thread Cert.HgrnIn.nD Cert.HgrnIn.τ).loc Cert.HgrnIn.main_arg2)
      ∧ r.2.mem ((c.tc : Thread Cert.HgrnIn.nD Cert.HgrnIn.τ).loc Cert.HgrnIn.main_arg3) = m ((c.tc : Thread Cert.HgrnIn.nD Cert.HgrnIn.τ).loc Cert.HgrnIn.main_arg3)
      ∧ r.2.mem ((c.tc : Thread Cert.HgrnIn.nD Cert.HgrnIn.τ).loc Cert.HgrnIn.main_arg4) = m ((c.tc : Thread Cert.HgrnIn.nD Cert.HgrnIn.τ).loc Cert.HgrnIn.main_arg4))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
      ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
      ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3)
      ∧ r.2.mem ((c.tc : Thread Cert.HgrnInIdeal.nD Cert.HgrnInIdeal.τ).loc Cert.HgrnInIdeal.main_arg4) = m ((c.tc : Thread Cert.HgrnInIdeal.nD Cert.HgrnInIdeal.τ).loc Cert.HgrnInIdeal.main_arg4))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1)
      ∧ r.2.mem ((c.tc : Thread Cert.HgrnInRefIdeal.nD Cert.HgrnInRefIdeal.τ).loc Cert.HgrnInRefIdeal.main_arg2) = m ((c.tc : Thread Cert.HgrnInRefIdeal.nD Cert.HgrnInRefIdeal.τ).loc Cert.HgrnInRefIdeal.main_arg2)
      ∧ r.2.mem ((c.tc : Thread Cert.HgrnInRefIdeal.nD Cert.HgrnInRefIdeal.τ).loc Cert.HgrnInRefIdeal.main_arg3) = m ((c.tc : Thread Cert.HgrnInRefIdeal.nD Cert.HgrnInRefIdeal.τ).loc Cert.HgrnInRefIdeal.main_arg3)
      ∧ r.2.mem ((c.tc : Thread Cert.HgrnInRefIdeal.nD Cert.HgrnInRefIdeal.τ).loc Cert.HgrnInRefIdeal.main_arg4) = m ((c.tc : Thread Cert.HgrnInRefIdeal.nD Cert.HgrnInRefIdeal.τ).loc Cert.HgrnInRefIdeal.main_arg4))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2)
      ∧ r.2.mem ((c.tc : Thread Cert.ShortConv.nD Cert.ShortConv.τ).loc Cert.ShortConv.main_arg3) = m ((c.tc : Thread Cert.ShortConv.nD Cert.ShortConv.τ).loc Cert.ShortConv.main_arg3)
      ∧ r.2.mem ((c.tc : Thread Cert.ShortConv.nD Cert.ShortConv.τ).loc Cert.ShortConv.main_arg4) = m ((c.tc : Thread Cert.ShortConv.nD Cert.ShortConv.τ).loc Cert.ShortConv.main_arg4))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
      ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
      ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2)
      ∧ r.2.mem ((c.tc : Thread Cert.ShortConvRefIdeal.nD Cert.ShortConvRefIdeal.τ).loc Cert.ShortConvRefIdeal.main_arg3) = m ((c.tc : Thread Cert.ShortConvRefIdeal.nD Cert.ShortConvRefIdeal.τ).loc Cert.ShortConvRefIdeal.main_arg3)
      ∧ r.2.mem ((c.tc : Thread Cert.ShortConvRefIdeal.nD Cert.ShortConvRefIdeal.τ).loc Cert.ShortConvRefIdeal.main_arg4) = m ((c.tc : Thread Cert.ShortConvRefIdeal.nD Cert.ShortConvRefIdeal.τ).loc Cert.ShortConvRefIdeal.main_arg4))
      ∧ r.2.sem = fun _ => 0)

def quiescent_ConfIn [hConfIn : Cert.ConfIn.Facts] : Prop :=
  ∀ (m : (ℓ : Loc Cert.ConfIn.nD Cert.ConfIn.τ Cert.ConfIn.sig) → Buf (Elt Bits) ℓ) (g : Dev Cert.ConfIn.nD → PrngReg), Pre_ConfIn m →
    θ_run (Cert.ConfIn.defs (F := Bits)) (onTc (τ := Cert.ConfIn.τ) (Cert.ConfIn.main (F := Bits))) ⟨m, fun _ => 0, g⟩ (fun r => (∀ c : Dev Cert.ConfIn.nD,
      r.2.mem ((c.tc : Thread Cert.ConfIn.nD Cert.ConfIn.τ).loc Cert.ConfIn.main_arg0) = m ((c.tc : Thread Cert.ConfIn.nD Cert.ConfIn.τ).loc Cert.ConfIn.main_arg0)
      ∧ r.2.mem ((c.tc : Thread Cert.ConfIn.nD Cert.ConfIn.τ).loc Cert.ConfIn.main_arg1) = m ((c.tc : Thread Cert.ConfIn.nD Cert.ConfIn.τ).loc Cert.ConfIn.main_arg1)
      ∧ r.2.mem ((c.tc : Thread Cert.ConfIn.nD Cert.ConfIn.τ).loc Cert.ConfIn.main_arg2) = m ((c.tc : Thread Cert.ConfIn.nD Cert.ConfIn.τ).loc Cert.ConfIn.main_arg2)
      ∧ r.2.mem ((c.tc : Thread Cert.ConfIn.nD Cert.ConfIn.τ).loc Cert.ConfIn.main_arg3) = m ((c.tc : Thread Cert.ConfIn.nD Cert.ConfIn.τ).loc Cert.ConfIn.main_arg3))
      ∧ r.2.sem = fun _ => 0)

def quiescent_ConfInIdeal [hConfInIdeal : Cert.ConfInIdeal.Facts] : Prop :=
  ∀ (m : (ℓ : Loc Cert.ConfInIdeal.nD Cert.ConfInIdeal.τ Cert.ConfInIdeal.sig) → Buf (Elt Ideal) ℓ) (g : Dev Cert.ConfInIdeal.nD → PrngReg), Pre_ConfInIdeal m →
    θ_run (Cert.ConfInIdeal.defs (F := Ideal)) (onTc (τ := Cert.ConfInIdeal.τ) (Cert.ConfInIdeal.main (F := Ideal))) ⟨m, fun _ => 0, g⟩ (fun r => (∀ c : Dev Cert.ConfInIdeal.nD,
      r.2.mem ((c.tc : Thread Cert.ConfInIdeal.nD Cert.ConfInIdeal.τ).loc Cert.ConfInIdeal.main_arg0) = m ((c.tc : Thread Cert.ConfInIdeal.nD Cert.ConfInIdeal.τ).loc Cert.ConfInIdeal.main_arg0)
      ∧ r.2.mem ((c.tc : Thread Cert.ConfInIdeal.nD Cert.ConfInIdeal.τ).loc Cert.ConfInIdeal.main_arg1) = m ((c.tc : Thread Cert.ConfInIdeal.nD Cert.ConfInIdeal.τ).loc Cert.ConfInIdeal.main_arg1)
      ∧ r.2.mem ((c.tc : Thread Cert.ConfInIdeal.nD Cert.ConfInIdeal.τ).loc Cert.ConfInIdeal.main_arg2) = m ((c.tc : Thread Cert.ConfInIdeal.nD Cert.ConfInIdeal.τ).loc Cert.ConfInIdeal.main_arg2)
      ∧ r.2.mem ((c.tc : Thread Cert.ConfInIdeal.nD Cert.ConfInIdeal.τ).loc Cert.ConfInIdeal.main_arg3) = m ((c.tc : Thread Cert.ConfInIdeal.nD Cert.ConfInIdeal.τ).loc Cert.ConfInIdeal.main_arg3))
      ∧ r.2.sem = fun _ => 0)

def quiescent_ConfInRefIdeal [hConfInRefIdeal : Cert.ConfInRefIdeal.Facts] : Prop :=
  ∀ (m : (ℓ : Loc Cert.ConfInRefIdeal.nD Cert.ConfInRefIdeal.τ Cert.ConfInRefIdeal.sig) → Buf (Elt Ideal) ℓ) (g : Dev Cert.ConfInRefIdeal.nD → PrngReg), Pre_ConfInRefIdeal m →
    θ_run (Cert.ConfInRefIdeal.defs (F := Ideal)) (onTc (τ := Cert.ConfInRefIdeal.τ) (Cert.ConfInRefIdeal.main (F := Ideal))) ⟨m, fun _ => 0, g⟩ (fun r => (∀ c : Dev Cert.ConfInRefIdeal.nD,
      r.2.mem ((c.tc : Thread Cert.ConfInRefIdeal.nD Cert.ConfInRefIdeal.τ).loc Cert.ConfInRefIdeal.main_arg0) = m ((c.tc : Thread Cert.ConfInRefIdeal.nD Cert.ConfInRefIdeal.τ).loc Cert.ConfInRefIdeal.main_arg0)
      ∧ r.2.mem ((c.tc : Thread Cert.ConfInRefIdeal.nD Cert.ConfInRefIdeal.τ).loc Cert.ConfInRefIdeal.main_arg1) = m ((c.tc : Thread Cert.ConfInRefIdeal.nD Cert.ConfInRefIdeal.τ).loc Cert.ConfInRefIdeal.main_arg1)
      ∧ r.2.mem ((c.tc : Thread Cert.ConfInRefIdeal.nD Cert.ConfInRefIdeal.τ).loc Cert.ConfInRefIdeal.main_arg2) = m ((c.tc : Thread Cert.ConfInRefIdeal.nD Cert.ConfInRefIdeal.τ).loc Cert.ConfInRefIdeal.main_arg2)
      ∧ r.2.mem ((c.tc : Thread Cert.ConfInRefIdeal.nD Cert.ConfInRefIdeal.τ).loc Cert.ConfInRefIdeal.main_arg3) = m ((c.tc : Thread Cert.ConfInRefIdeal.nD Cert.ConfInRefIdeal.τ).loc Cert.ConfInRefIdeal.main_arg3))
      ∧ r.2.sem = fun _ => 0)

def quiescent_ConfOut [hConfOut : Cert.ConfOut.Facts] : Prop :=
  ∀ (m : (ℓ : Loc Cert.ConfOut.nD Cert.ConfOut.τ Cert.ConfOut.sig) → Buf (Elt Bits) ℓ) (g : Dev Cert.ConfOut.nD → PrngReg), Pre_ConfOut m →
    θ_run (Cert.ConfOut.defs (F := Bits)) (onTc (τ := Cert.ConfOut.τ) (Cert.ConfOut.main (F := Bits))) ⟨m, fun _ => 0, g⟩ (fun r => (∀ c : Dev Cert.ConfOut.nD,
      r.2.mem ((c.tc : Thread Cert.ConfOut.nD Cert.ConfOut.τ).loc Cert.ConfOut.main_arg0) = m ((c.tc : Thread Cert.ConfOut.nD Cert.ConfOut.τ).loc Cert.ConfOut.main_arg0)
      ∧ r.2.mem ((c.tc : Thread Cert.ConfOut.nD Cert.ConfOut.τ).loc Cert.ConfOut.main_arg1) = m ((c.tc : Thread Cert.ConfOut.nD Cert.ConfOut.τ).loc Cert.ConfOut.main_arg1)
      ∧ r.2.mem ((c.tc : Thread Cert.ConfOut.nD Cert.ConfOut.τ).loc Cert.ConfOut.main_arg2) = m ((c.tc : Thread Cert.ConfOut.nD Cert.ConfOut.τ).loc Cert.ConfOut.main_arg2)
      ∧ r.2.mem ((c.tc : Thread Cert.ConfOut.nD Cert.ConfOut.τ).loc Cert.ConfOut.main_arg3) = m ((c.tc : Thread Cert.ConfOut.nD Cert.ConfOut.τ).loc Cert.ConfOut.main_arg3)
      ∧ r.2.mem ((c.tc : Thread Cert.ConfOut.nD Cert.ConfOut.τ).loc Cert.ConfOut.main_arg4) = m ((c.tc : Thread Cert.ConfOut.nD Cert.ConfOut.τ).loc Cert.ConfOut.main_arg4)
      ∧ r.2.mem ((c.tc : Thread Cert.ConfOut.nD Cert.ConfOut.τ).loc Cert.ConfOut.main_arg5) = m ((c.tc : Thread Cert.ConfOut.nD Cert.ConfOut.τ).loc Cert.ConfOut.main_arg5)
      ∧ r.2.mem ((c.tc : Thread Cert.ConfOut.nD Cert.ConfOut.τ).loc Cert.ConfOut.main_arg6) = m ((c.tc : Thread Cert.ConfOut.nD Cert.ConfOut.τ).loc Cert.ConfOut.main_arg6)
      ∧ r.2.mem ((c.tc : Thread Cert.ConfOut.nD Cert.ConfOut.τ).loc Cert.ConfOut.main_arg7) = m ((c.tc : Thread Cert.ConfOut.nD Cert.ConfOut.τ).loc Cert.ConfOut.main_arg7))
      ∧ r.2.sem = fun _ => 0)

def quiescent_ConfOutIdeal [hConfOutIdeal : Cert.ConfOutIdeal.Facts] : Prop :=
  ∀ (m : (ℓ : Loc Cert.ConfOutIdeal.nD Cert.ConfOutIdeal.τ Cert.ConfOutIdeal.sig) → Buf (Elt Ideal) ℓ) (g : Dev Cert.ConfOutIdeal.nD → PrngReg), Pre_ConfOutIdeal m →
    θ_run (Cert.ConfOutIdeal.defs (F := Ideal)) (onTc (τ := Cert.ConfOutIdeal.τ) (Cert.ConfOutIdeal.main (F := Ideal))) ⟨m, fun _ => 0, g⟩ (fun r => (∀ c : Dev Cert.ConfOutIdeal.nD,
      r.2.mem ((c.tc : Thread Cert.ConfOutIdeal.nD Cert.ConfOutIdeal.τ).loc Cert.ConfOutIdeal.main_arg0) = m ((c.tc : Thread Cert.ConfOutIdeal.nD Cert.ConfOutIdeal.τ).loc Cert.ConfOutIdeal.main_arg0)
      ∧ r.2.mem ((c.tc : Thread Cert.ConfOutIdeal.nD Cert.ConfOutIdeal.τ).loc Cert.ConfOutIdeal.main_arg1) = m ((c.tc : Thread Cert.ConfOutIdeal.nD Cert.ConfOutIdeal.τ).loc Cert.ConfOutIdeal.main_arg1)
      ∧ r.2.mem ((c.tc : Thread Cert.ConfOutIdeal.nD Cert.ConfOutIdeal.τ).loc Cert.ConfOutIdeal.main_arg2) = m ((c.tc : Thread Cert.ConfOutIdeal.nD Cert.ConfOutIdeal.τ).loc Cert.ConfOutIdeal.main_arg2)
      ∧ r.2.mem ((c.tc : Thread Cert.ConfOutIdeal.nD Cert.ConfOutIdeal.τ).loc Cert.ConfOutIdeal.main_arg3) = m ((c.tc : Thread Cert.ConfOutIdeal.nD Cert.ConfOutIdeal.τ).loc Cert.ConfOutIdeal.main_arg3)
      ∧ r.2.mem ((c.tc : Thread Cert.ConfOutIdeal.nD Cert.ConfOutIdeal.τ).loc Cert.ConfOutIdeal.main_arg4) = m ((c.tc : Thread Cert.ConfOutIdeal.nD Cert.ConfOutIdeal.τ).loc Cert.ConfOutIdeal.main_arg4)
      ∧ r.2.mem ((c.tc : Thread Cert.ConfOutIdeal.nD Cert.ConfOutIdeal.τ).loc Cert.ConfOutIdeal.main_arg5) = m ((c.tc : Thread Cert.ConfOutIdeal.nD Cert.ConfOutIdeal.τ).loc Cert.ConfOutIdeal.main_arg5)
      ∧ r.2.mem ((c.tc : Thread Cert.ConfOutIdeal.nD Cert.ConfOutIdeal.τ).loc Cert.ConfOutIdeal.main_arg6) = m ((c.tc : Thread Cert.ConfOutIdeal.nD Cert.ConfOutIdeal.τ).loc Cert.ConfOutIdeal.main_arg6)
      ∧ r.2.mem ((c.tc : Thread Cert.ConfOutIdeal.nD Cert.ConfOutIdeal.τ).loc Cert.ConfOutIdeal.main_arg7) = m ((c.tc : Thread Cert.ConfOutIdeal.nD Cert.ConfOutIdeal.τ).loc Cert.ConfOutIdeal.main_arg7))
      ∧ r.2.sem = fun _ => 0)

def quiescent_ConfOutRefIdeal [hConfOutRefIdeal : Cert.ConfOutRefIdeal.Facts] : Prop :=
  ∀ (m : (ℓ : Loc Cert.ConfOutRefIdeal.nD Cert.ConfOutRefIdeal.τ Cert.ConfOutRefIdeal.sig) → Buf (Elt Ideal) ℓ) (g : Dev Cert.ConfOutRefIdeal.nD → PrngReg), Pre_ConfOutRefIdeal m →
    θ_run (Cert.ConfOutRefIdeal.defs (F := Ideal)) (onTc (τ := Cert.ConfOutRefIdeal.τ) (Cert.ConfOutRefIdeal.main (F := Ideal))) ⟨m, fun _ => 0, g⟩ (fun r => (∀ c : Dev Cert.ConfOutRefIdeal.nD,
      r.2.mem ((c.tc : Thread Cert.ConfOutRefIdeal.nD Cert.ConfOutRefIdeal.τ).loc Cert.ConfOutRefIdeal.main_arg0) = m ((c.tc : Thread Cert.ConfOutRefIdeal.nD Cert.ConfOutRefIdeal.τ).loc Cert.ConfOutRefIdeal.main_arg0)
      ∧ r.2.mem ((c.tc : Thread Cert.ConfOutRefIdeal.nD Cert.ConfOutRefIdeal.τ).loc Cert.ConfOutRefIdeal.main_arg1) = m ((c.tc : Thread Cert.ConfOutRefIdeal.nD Cert.ConfOutRefIdeal.τ).loc Cert.ConfOutRefIdeal.main_arg1)
      ∧ r.2.mem ((c.tc : Thread Cert.ConfOutRefIdeal.nD Cert.ConfOutRefIdeal.τ).loc Cert.ConfOutRefIdeal.main_arg2) = m ((c.tc : Thread Cert.ConfOutRefIdeal.nD Cert.ConfOutRefIdeal.τ).loc Cert.ConfOutRefIdeal.main_arg2)
      ∧ r.2.mem ((c.tc : Thread Cert.ConfOutRefIdeal.nD Cert.ConfOutRefIdeal.τ).loc Cert.ConfOutRefIdeal.main_arg3) = m ((c.tc : Thread Cert.ConfOutRefIdeal.nD Cert.ConfOutRefIdeal.τ).loc Cert.ConfOutRefIdeal.main_arg3)
      ∧ r.2.mem ((c.tc : Thread Cert.ConfOutRefIdeal.nD Cert.ConfOutRefIdeal.τ).loc Cert.ConfOutRefIdeal.main_arg4) = m ((c.tc : Thread Cert.ConfOutRefIdeal.nD Cert.ConfOutRefIdeal.τ).loc Cert.ConfOutRefIdeal.main_arg4)
      ∧ r.2.mem ((c.tc : Thread Cert.ConfOutRefIdeal.nD Cert.ConfOutRefIdeal.τ).loc Cert.ConfOutRefIdeal.main_arg5) = m ((c.tc : Thread Cert.ConfOutRefIdeal.nD Cert.ConfOutRefIdeal.τ).loc Cert.ConfOutRefIdeal.main_arg5)
      ∧ r.2.mem ((c.tc : Thread Cert.ConfOutRefIdeal.nD Cert.ConfOutRefIdeal.τ).loc Cert.ConfOutRefIdeal.main_arg6) = m ((c.tc : Thread Cert.ConfOutRefIdeal.nD Cert.ConfOutRefIdeal.τ).loc Cert.ConfOutRefIdeal.main_arg6)
      ∧ r.2.mem ((c.tc : Thread Cert.ConfOutRefIdeal.nD Cert.ConfOutRefIdeal.τ).loc Cert.ConfOutRefIdeal.main_arg7) = m ((c.tc : Thread Cert.ConfOutRefIdeal.nD Cert.ConfOutRefIdeal.τ).loc Cert.ConfOutRefIdeal.main_arg7))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6)
      ∧ r.2.mem ((c.tc : Thread Cert.DenseRefIdeal.nD Cert.DenseRefIdeal.τ).loc Cert.DenseRefIdeal.main_arg7) = m ((c.tc : Thread Cert.DenseRefIdeal.nD Cert.DenseRefIdeal.τ).loc Cert.DenseRefIdeal.main_arg7))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def preserves_Kernel_KernelIdeal : Prop :=
  True

def algebraic_KernelIdeal_ReferenceIdeal_pre_decay_in_range [hKernelIdeal : Cert.KernelIdeal.Facts] [hReferenceIdeal : Cert.ReferenceIdeal.Facts] [hPre_decay_in_range : Cert.Pre_decay_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)
      ∧ m' ((c.tc : Thread Cert.HgrnInRefIdeal.nD Cert.HgrnInRefIdeal.τ).loc Cert.HgrnInRefIdeal.main_arg2) = m ((c.tc : Thread Cert.HgrnInIdeal.nD Cert.HgrnInIdeal.τ).loc Cert.HgrnInIdeal.main_arg2)
      ∧ m' ((c.tc : Thread Cert.HgrnInRefIdeal.nD Cert.HgrnInRefIdeal.τ).loc Cert.HgrnInRefIdeal.main_arg3) = m ((c.tc : Thread Cert.HgrnInIdeal.nD Cert.HgrnInIdeal.τ).loc Cert.HgrnInIdeal.main_arg3)
      ∧ m' ((c.tc : Thread Cert.HgrnInRefIdeal.nD Cert.HgrnInRefIdeal.τ).loc Cert.HgrnInRefIdeal.main_arg4) = m ((c.tc : Thread Cert.HgrnInIdeal.nD Cert.HgrnInIdeal.τ).loc Cert.HgrnInIdeal.main_arg4)) →
    ∃ (v0 : (c : Dev Cert.HgrnInIdeal.nD) → Buf (Elt Ideal) ((c.tc : Thread Cert.HgrnInIdeal.nD Cert.HgrnInIdeal.τ).loc Cert.HgrnInIdeal.main_v3_0)) (v1 : (c : Dev Cert.HgrnInIdeal.nD) → Buf (Elt Ideal) ((c.tc : Thread Cert.HgrnInIdeal.nD Cert.HgrnInIdeal.τ).loc Cert.HgrnInIdeal.main_v3_1)) (v2 : (c : Dev Cert.HgrnInIdeal.nD) → Buf (Elt Ideal) ((c.tc : Thread Cert.HgrnInIdeal.nD Cert.HgrnInIdeal.τ).loc Cert.HgrnInIdeal.main_v3_2)) (v3 : (c : Dev Cert.HgrnInIdeal.nD) → Buf (Elt Ideal) ((c.tc : Thread Cert.HgrnInIdeal.nD Cert.HgrnInIdeal.τ).loc Cert.HgrnInIdeal.main_v3_3)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v3_0) = v0 c
          ∧ r.2.mem ((c.tc : Thread Cert.HgrnInIdeal.nD Cert.HgrnInIdeal.τ).loc Cert.HgrnInIdeal.main_v3_1) = v1 c
          ∧ r.2.mem ((c.tc : Thread Cert.HgrnInIdeal.nD Cert.HgrnInIdeal.τ).loc Cert.HgrnInIdeal.main_v3_2) = v2 c
          ∧ r.2.mem ((c.tc : Thread Cert.HgrnInIdeal.nD Cert.HgrnInIdeal.τ).loc Cert.HgrnInIdeal.main_v3_3) = v3 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
          ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
          ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3)
          ∧ r.2.mem ((c.tc : Thread Cert.HgrnInIdeal.nD Cert.HgrnInIdeal.τ).loc Cert.HgrnInIdeal.main_arg4) = m ((c.tc : Thread Cert.HgrnInIdeal.nD Cert.HgrnInIdeal.τ).loc Cert.HgrnInIdeal.main_arg4))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v56) = v0 c
          ∧ r.2.mem ((c.tc : Thread Cert.HgrnInRefIdeal.nD Cert.HgrnInRefIdeal.τ).loc Cert.HgrnInRefIdeal.main_v51) = v1 c
          ∧ r.2.mem ((c.tc : Thread Cert.HgrnInRefIdeal.nD Cert.HgrnInRefIdeal.τ).loc Cert.HgrnInRefIdeal.main_v57) = v2 c
          ∧ r.2.mem ((c.tc : Thread Cert.HgrnInRefIdeal.nD Cert.HgrnInRefIdeal.τ).loc Cert.HgrnInRefIdeal.main_v58) = v3 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1)
          ∧ r.2.mem ((c.tc : Thread Cert.HgrnInRefIdeal.nD Cert.HgrnInRefIdeal.τ).loc Cert.HgrnInRefIdeal.main_arg2) = m' ((c.tc : Thread Cert.HgrnInRefIdeal.nD Cert.HgrnInRefIdeal.τ).loc Cert.HgrnInRefIdeal.main_arg2)
          ∧ r.2.mem ((c.tc : Thread Cert.HgrnInRefIdeal.nD Cert.HgrnInRefIdeal.τ).loc Cert.HgrnInRefIdeal.main_arg3) = m' ((c.tc : Thread Cert.HgrnInRefIdeal.nD Cert.HgrnInRefIdeal.τ).loc Cert.HgrnInRefIdeal.main_arg3)
          ∧ r.2.mem ((c.tc : Thread Cert.HgrnInRefIdeal.nD Cert.HgrnInRefIdeal.τ).loc Cert.HgrnInRefIdeal.main_arg4) = m' ((c.tc : Thread Cert.HgrnInRefIdeal.nD Cert.HgrnInRefIdeal.τ).loc Cert.HgrnInRefIdeal.main_arg4))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)
      ∧ m' ((c.tc : Thread Cert.ShortConvRefIdeal.nD Cert.ShortConvRefIdeal.τ).loc Cert.ShortConvRefIdeal.main_arg3) = m ((c.tc : Thread Cert.ShortConvIdeal.nD Cert.ShortConvIdeal.τ).loc Cert.ShortConvIdeal.main_arg3)
      ∧ m' ((c.tc : Thread Cert.ShortConvRefIdeal.nD Cert.ShortConvRefIdeal.τ).loc Cert.ShortConvRefIdeal.main_arg4) = m ((c.tc : Thread Cert.ShortConvIdeal.nD Cert.ShortConvIdeal.τ).loc Cert.ShortConvIdeal.main_arg4)) →
    ∃ (v0 : (c : Dev Cert.ShortConvIdeal.nD) → Buf (Elt Ideal) ((c.tc : Thread Cert.ShortConvIdeal.nD Cert.ShortConvIdeal.τ).loc Cert.ShortConvIdeal.main_v3)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v3) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
          ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
          ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v45) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2)
          ∧ r.2.mem ((c.tc : Thread Cert.ShortConvRefIdeal.nD Cert.ShortConvRefIdeal.τ).loc Cert.ShortConvRefIdeal.main_arg3) = m' ((c.tc : Thread Cert.ShortConvRefIdeal.nD Cert.ShortConvRefIdeal.τ).loc Cert.ShortConvRefIdeal.main_arg3)
          ∧ r.2.mem ((c.tc : Thread Cert.ShortConvRefIdeal.nD Cert.ShortConvRefIdeal.τ).loc Cert.ShortConvRefIdeal.main_arg4) = m' ((c.tc : Thread Cert.ShortConvRefIdeal.nD Cert.ShortConvRefIdeal.τ).loc Cert.ShortConvRefIdeal.main_arg4))

def preserves_ConfIn_ConfInIdeal : Prop :=
  True

def algebraic_ConfInIdeal_ConfInRefIdeal [hConfInIdeal : Cert.ConfInIdeal.Facts] [hConfInRefIdeal : Cert.ConfInRefIdeal.Facts] : Prop :=
  ∀ (m : (ℓ : Loc Cert.ConfInIdeal.nD Cert.ConfInIdeal.τ Cert.ConfInIdeal.sig) → Buf (Elt Ideal) ℓ) (g : Dev Cert.ConfInIdeal.nD → PrngReg)
    (m' : (ℓ : Loc Cert.ConfInRefIdeal.nD Cert.ConfInRefIdeal.τ Cert.ConfInRefIdeal.sig) → Buf (Elt Ideal) ℓ) (g' : Dev Cert.ConfInRefIdeal.nD → PrngReg), Pre_ConfInIdeal m →
    (∀ c : Dev Cert.ConfInIdeal.nD,
      m' ((c.tc : Thread Cert.ConfInRefIdeal.nD Cert.ConfInRefIdeal.τ).loc Cert.ConfInRefIdeal.main_arg0) = m ((c.tc : Thread Cert.ConfInIdeal.nD Cert.ConfInIdeal.τ).loc Cert.ConfInIdeal.main_arg0)
      ∧ m' ((c.tc : Thread Cert.ConfInRefIdeal.nD Cert.ConfInRefIdeal.τ).loc Cert.ConfInRefIdeal.main_arg1) = m ((c.tc : Thread Cert.ConfInIdeal.nD Cert.ConfInIdeal.τ).loc Cert.ConfInIdeal.main_arg1)
      ∧ m' ((c.tc : Thread Cert.ConfInRefIdeal.nD Cert.ConfInRefIdeal.τ).loc Cert.ConfInRefIdeal.main_arg2) = m ((c.tc : Thread Cert.ConfInIdeal.nD Cert.ConfInIdeal.τ).loc Cert.ConfInIdeal.main_arg2)
      ∧ m' ((c.tc : Thread Cert.ConfInRefIdeal.nD Cert.ConfInRefIdeal.τ).loc Cert.ConfInRefIdeal.main_arg3) = m ((c.tc : Thread Cert.ConfInIdeal.nD Cert.ConfInIdeal.τ).loc Cert.ConfInIdeal.main_arg3)) →
    ∃ (v0 : (c : Dev Cert.ConfInIdeal.nD) → Buf (Elt Ideal) ((c.tc : Thread Cert.ConfInIdeal.nD Cert.ConfInIdeal.τ).loc Cert.ConfInIdeal.main_v3)),
      θ_run (Cert.ConfInIdeal.defs (F := Ideal)) (onTc (τ := Cert.ConfInIdeal.τ) (Cert.ConfInIdeal.main (F := Ideal))) ⟨m, fun _ => 0, g⟩ (fun r => ∀ c : Dev Cert.ConfInIdeal.nD,
          r.2.mem ((c.tc : Thread Cert.ConfInIdeal.nD Cert.ConfInIdeal.τ).loc Cert.ConfInIdeal.main_v3) = v0 c
          ∧ r.2.mem ((c.tc : Thread Cert.ConfInIdeal.nD Cert.ConfInIdeal.τ).loc Cert.ConfInIdeal.main_arg0) = m ((c.tc : Thread Cert.ConfInIdeal.nD Cert.ConfInIdeal.τ).loc Cert.ConfInIdeal.main_arg0)
          ∧ r.2.mem ((c.tc : Thread Cert.ConfInIdeal.nD Cert.ConfInIdeal.τ).loc Cert.ConfInIdeal.main_arg1) = m ((c.tc : Thread Cert.ConfInIdeal.nD Cert.ConfInIdeal.τ).loc Cert.ConfInIdeal.main_arg1)
          ∧ r.2.mem ((c.tc : Thread Cert.ConfInIdeal.nD Cert.ConfInIdeal.τ).loc Cert.ConfInIdeal.main_arg2) = m ((c.tc : Thread Cert.ConfInIdeal.nD Cert.ConfInIdeal.τ).loc Cert.ConfInIdeal.main_arg2)
          ∧ r.2.mem ((c.tc : Thread Cert.ConfInIdeal.nD Cert.ConfInIdeal.τ).loc Cert.ConfInIdeal.main_arg3) = m ((c.tc : Thread Cert.ConfInIdeal.nD Cert.ConfInIdeal.τ).loc Cert.ConfInIdeal.main_arg3))
      ∧ θ_run (Cert.ConfInRefIdeal.defs (F := Ideal)) (onTc (τ := Cert.ConfInRefIdeal.τ) (Cert.ConfInRefIdeal.main (F := Ideal))) ⟨m', fun _ => 0, g'⟩ (fun r => ∀ c : Dev Cert.ConfInRefIdeal.nD,
          r.2.mem ((c.tc : Thread Cert.ConfInRefIdeal.nD Cert.ConfInRefIdeal.τ).loc Cert.ConfInRefIdeal.main_v25) = v0 c
          ∧ r.2.mem ((c.tc : Thread Cert.ConfInRefIdeal.nD Cert.ConfInRefIdeal.τ).loc Cert.ConfInRefIdeal.main_arg0) = m' ((c.tc : Thread Cert.ConfInRefIdeal.nD Cert.ConfInRefIdeal.τ).loc Cert.ConfInRefIdeal.main_arg0)
          ∧ r.2.mem ((c.tc : Thread Cert.ConfInRefIdeal.nD Cert.ConfInRefIdeal.τ).loc Cert.ConfInRefIdeal.main_arg1) = m' ((c.tc : Thread Cert.ConfInRefIdeal.nD Cert.ConfInRefIdeal.τ).loc Cert.ConfInRefIdeal.main_arg1)
          ∧ r.2.mem ((c.tc : Thread Cert.ConfInRefIdeal.nD Cert.ConfInRefIdeal.τ).loc Cert.ConfInRefIdeal.main_arg2) = m' ((c.tc : Thread Cert.ConfInRefIdeal.nD Cert.ConfInRefIdeal.τ).loc Cert.ConfInRefIdeal.main_arg2)
          ∧ r.2.mem ((c.tc : Thread Cert.ConfInRefIdeal.nD Cert.ConfInRefIdeal.τ).loc Cert.ConfInRefIdeal.main_arg3) = m' ((c.tc : Thread Cert.ConfInRefIdeal.nD Cert.ConfInRefIdeal.τ).loc Cert.ConfInRefIdeal.main_arg3))

def preserves_ConfOut_ConfOutIdeal : Prop :=
  True

def algebraic_ConfOutIdeal_ConfOutRefIdeal [hConfOutIdeal : Cert.ConfOutIdeal.Facts] [hConfOutRefIdeal : Cert.ConfOutRefIdeal.Facts] : Prop :=
  ∀ (m : (ℓ : Loc Cert.ConfOutIdeal.nD Cert.ConfOutIdeal.τ Cert.ConfOutIdeal.sig) → Buf (Elt Ideal) ℓ) (g : Dev Cert.ConfOutIdeal.nD → PrngReg)
    (m' : (ℓ : Loc Cert.ConfOutRefIdeal.nD Cert.ConfOutRefIdeal.τ Cert.ConfOutRefIdeal.sig) → Buf (Elt Ideal) ℓ) (g' : Dev Cert.ConfOutRefIdeal.nD → PrngReg), Pre_ConfOutIdeal m →
    (∀ c : Dev Cert.ConfOutIdeal.nD,
      m' ((c.tc : Thread Cert.ConfOutRefIdeal.nD Cert.ConfOutRefIdeal.τ).loc Cert.ConfOutRefIdeal.main_arg0) = m ((c.tc : Thread Cert.ConfOutIdeal.nD Cert.ConfOutIdeal.τ).loc Cert.ConfOutIdeal.main_arg0)
      ∧ m' ((c.tc : Thread Cert.ConfOutRefIdeal.nD Cert.ConfOutRefIdeal.τ).loc Cert.ConfOutRefIdeal.main_arg1) = m ((c.tc : Thread Cert.ConfOutIdeal.nD Cert.ConfOutIdeal.τ).loc Cert.ConfOutIdeal.main_arg1)
      ∧ m' ((c.tc : Thread Cert.ConfOutRefIdeal.nD Cert.ConfOutRefIdeal.τ).loc Cert.ConfOutRefIdeal.main_arg2) = m ((c.tc : Thread Cert.ConfOutIdeal.nD Cert.ConfOutIdeal.τ).loc Cert.ConfOutIdeal.main_arg2)
      ∧ m' ((c.tc : Thread Cert.ConfOutRefIdeal.nD Cert.ConfOutRefIdeal.τ).loc Cert.ConfOutRefIdeal.main_arg3) = m ((c.tc : Thread Cert.ConfOutIdeal.nD Cert.ConfOutIdeal.τ).loc Cert.ConfOutIdeal.main_arg3)
      ∧ m' ((c.tc : Thread Cert.ConfOutRefIdeal.nD Cert.ConfOutRefIdeal.τ).loc Cert.ConfOutRefIdeal.main_arg4) = m ((c.tc : Thread Cert.ConfOutIdeal.nD Cert.ConfOutIdeal.τ).loc Cert.ConfOutIdeal.main_arg4)
      ∧ m' ((c.tc : Thread Cert.ConfOutRefIdeal.nD Cert.ConfOutRefIdeal.τ).loc Cert.ConfOutRefIdeal.main_arg5) = m ((c.tc : Thread Cert.ConfOutIdeal.nD Cert.ConfOutIdeal.τ).loc Cert.ConfOutIdeal.main_arg5)
      ∧ m' ((c.tc : Thread Cert.ConfOutRefIdeal.nD Cert.ConfOutRefIdeal.τ).loc Cert.ConfOutRefIdeal.main_arg6) = m ((c.tc : Thread Cert.ConfOutIdeal.nD Cert.ConfOutIdeal.τ).loc Cert.ConfOutIdeal.main_arg6)
      ∧ m' ((c.tc : Thread Cert.ConfOutRefIdeal.nD Cert.ConfOutRefIdeal.τ).loc Cert.ConfOutRefIdeal.main_arg7) = m ((c.tc : Thread Cert.ConfOutIdeal.nD Cert.ConfOutIdeal.τ).loc Cert.ConfOutIdeal.main_arg7)) →
    ∃ (v0 : (c : Dev Cert.ConfOutIdeal.nD) → Buf (Elt Ideal) ((c.tc : Thread Cert.ConfOutIdeal.nD Cert.ConfOutIdeal.τ).loc Cert.ConfOutIdeal.main_v5)),
      θ_run (Cert.ConfOutIdeal.defs (F := Ideal)) (onTc (τ := Cert.ConfOutIdeal.τ) (Cert.ConfOutIdeal.main (F := Ideal))) ⟨m, fun _ => 0, g⟩ (fun r => ∀ c : Dev Cert.ConfOutIdeal.nD,
          r.2.mem ((c.tc : Thread Cert.ConfOutIdeal.nD Cert.ConfOutIdeal.τ).loc Cert.ConfOutIdeal.main_v5) = v0 c
          ∧ r.2.mem ((c.tc : Thread Cert.ConfOutIdeal.nD Cert.ConfOutIdeal.τ).loc Cert.ConfOutIdeal.main_arg0) = m ((c.tc : Thread Cert.ConfOutIdeal.nD Cert.ConfOutIdeal.τ).loc Cert.ConfOutIdeal.main_arg0)
          ∧ r.2.mem ((c.tc : Thread Cert.ConfOutIdeal.nD Cert.ConfOutIdeal.τ).loc Cert.ConfOutIdeal.main_arg1) = m ((c.tc : Thread Cert.ConfOutIdeal.nD Cert.ConfOutIdeal.τ).loc Cert.ConfOutIdeal.main_arg1)
          ∧ r.2.mem ((c.tc : Thread Cert.ConfOutIdeal.nD Cert.ConfOutIdeal.τ).loc Cert.ConfOutIdeal.main_arg2) = m ((c.tc : Thread Cert.ConfOutIdeal.nD Cert.ConfOutIdeal.τ).loc Cert.ConfOutIdeal.main_arg2)
          ∧ r.2.mem ((c.tc : Thread Cert.ConfOutIdeal.nD Cert.ConfOutIdeal.τ).loc Cert.ConfOutIdeal.main_arg3) = m ((c.tc : Thread Cert.ConfOutIdeal.nD Cert.ConfOutIdeal.τ).loc Cert.ConfOutIdeal.main_arg3)
          ∧ r.2.mem ((c.tc : Thread Cert.ConfOutIdeal.nD Cert.ConfOutIdeal.τ).loc Cert.ConfOutIdeal.main_arg4) = m ((c.tc : Thread Cert.ConfOutIdeal.nD Cert.ConfOutIdeal.τ).loc Cert.ConfOutIdeal.main_arg4)
          ∧ r.2.mem ((c.tc : Thread Cert.ConfOutIdeal.nD Cert.ConfOutIdeal.τ).loc Cert.ConfOutIdeal.main_arg5) = m ((c.tc : Thread Cert.ConfOutIdeal.nD Cert.ConfOutIdeal.τ).loc Cert.ConfOutIdeal.main_arg5)
          ∧ r.2.mem ((c.tc : Thread Cert.ConfOutIdeal.nD Cert.ConfOutIdeal.τ).loc Cert.ConfOutIdeal.main_arg6) = m ((c.tc : Thread Cert.ConfOutIdeal.nD Cert.ConfOutIdeal.τ).loc Cert.ConfOutIdeal.main_arg6)
          ∧ r.2.mem ((c.tc : Thread Cert.ConfOutIdeal.nD Cert.ConfOutIdeal.τ).loc Cert.ConfOutIdeal.main_arg7) = m ((c.tc : Thread Cert.ConfOutIdeal.nD Cert.ConfOutIdeal.τ).loc Cert.ConfOutIdeal.main_arg7))
      ∧ θ_run (Cert.ConfOutRefIdeal.defs (F := Ideal)) (onTc (τ := Cert.ConfOutRefIdeal.τ) (Cert.ConfOutRefIdeal.main (F := Ideal))) ⟨m', fun _ => 0, g'⟩ (fun r => ∀ c : Dev Cert.ConfOutRefIdeal.nD,
          r.2.mem ((c.tc : Thread Cert.ConfOutRefIdeal.nD Cert.ConfOutRefIdeal.τ).loc Cert.ConfOutRefIdeal.main_v249) = v0 c
          ∧ r.2.mem ((c.tc : Thread Cert.ConfOutRefIdeal.nD Cert.ConfOutRefIdeal.τ).loc Cert.ConfOutRefIdeal.main_arg0) = m' ((c.tc : Thread Cert.ConfOutRefIdeal.nD Cert.ConfOutRefIdeal.τ).loc Cert.ConfOutRefIdeal.main_arg0)
          ∧ r.2.mem ((c.tc : Thread Cert.ConfOutRefIdeal.nD Cert.ConfOutRefIdeal.τ).loc Cert.ConfOutRefIdeal.main_arg1) = m' ((c.tc : Thread Cert.ConfOutRefIdeal.nD Cert.ConfOutRefIdeal.τ).loc Cert.ConfOutRefIdeal.main_arg1)
          ∧ r.2.mem ((c.tc : Thread Cert.ConfOutRefIdeal.nD Cert.ConfOutRefIdeal.τ).loc Cert.ConfOutRefIdeal.main_arg2) = m' ((c.tc : Thread Cert.ConfOutRefIdeal.nD Cert.ConfOutRefIdeal.τ).loc Cert.ConfOutRefIdeal.main_arg2)
          ∧ r.2.mem ((c.tc : Thread Cert.ConfOutRefIdeal.nD Cert.ConfOutRefIdeal.τ).loc Cert.ConfOutRefIdeal.main_arg3) = m' ((c.tc : Thread Cert.ConfOutRefIdeal.nD Cert.ConfOutRefIdeal.τ).loc Cert.ConfOutRefIdeal.main_arg3)
          ∧ r.2.mem ((c.tc : Thread Cert.ConfOutRefIdeal.nD Cert.ConfOutRefIdeal.τ).loc Cert.ConfOutRefIdeal.main_arg4) = m' ((c.tc : Thread Cert.ConfOutRefIdeal.nD Cert.ConfOutRefIdeal.τ).loc Cert.ConfOutRefIdeal.main_arg4)
          ∧ r.2.mem ((c.tc : Thread Cert.ConfOutRefIdeal.nD Cert.ConfOutRefIdeal.τ).loc Cert.ConfOutRefIdeal.main_arg5) = m' ((c.tc : Thread Cert.ConfOutRefIdeal.nD Cert.ConfOutRefIdeal.τ).loc Cert.ConfOutRefIdeal.main_arg5)
          ∧ r.2.mem ((c.tc : Thread Cert.ConfOutRefIdeal.nD Cert.ConfOutRefIdeal.τ).loc Cert.ConfOutRefIdeal.main_arg6) = m' ((c.tc : Thread Cert.ConfOutRefIdeal.nD Cert.ConfOutRefIdeal.τ).loc Cert.ConfOutRefIdeal.main_arg6)
          ∧ r.2.mem ((c.tc : Thread Cert.ConfOutRefIdeal.nD Cert.ConfOutRefIdeal.τ).loc Cert.ConfOutRefIdeal.main_arg7) = m' ((c.tc : Thread Cert.ConfOutRefIdeal.nD Cert.ConfOutRefIdeal.τ).loc Cert.ConfOutRefIdeal.main_arg7))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)
      ∧ m' ((c.tc : Thread Cert.DenseRefIdeal.nD Cert.DenseRefIdeal.τ).loc Cert.DenseRefIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v5) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v25) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6)
          ∧ r.2.mem ((c.tc : Thread Cert.DenseRefIdeal.nD Cert.DenseRefIdeal.τ).loc Cert.DenseRefIdeal.main_arg7) = m' ((c.tc : Thread Cert.DenseRefIdeal.nD Cert.DenseRefIdeal.τ).loc Cert.DenseRefIdeal.main_arg7))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def Claim : Prop :=
  ∃ (hKernel : Cert.Kernel.Facts) (hKernelIdeal : Cert.KernelIdeal.Facts) (hReferenceIdeal : Cert.ReferenceIdeal.Facts) (hHgrnIn : Cert.HgrnIn.Facts) (hHgrnInIdeal : Cert.HgrnInIdeal.Facts) (hHgrnInRefIdeal : Cert.HgrnInRefIdeal.Facts) (hShortConv : Cert.ShortConv.Facts) (hShortConvIdeal : Cert.ShortConvIdeal.Facts) (hShortConvRefIdeal : Cert.ShortConvRefIdeal.Facts) (hConfIn : Cert.ConfIn.Facts) (hConfInIdeal : Cert.ConfInIdeal.Facts) (hConfInRefIdeal : Cert.ConfInRefIdeal.Facts) (hConfOut : Cert.ConfOut.Facts) (hConfOutIdeal : Cert.ConfOutIdeal.Facts) (hConfOutRefIdeal : Cert.ConfOutRefIdeal.Facts) (hDense : Cert.Dense.Facts) (hDenseIdeal : Cert.DenseIdeal.Facts) (hDenseRefIdeal : Cert.DenseRefIdeal.Facts) (hFinalNorm : Cert.FinalNorm.Facts) (hFinalNormIdeal : Cert.FinalNormIdeal.Facts) (hFinalNormRefIdeal : Cert.FinalNormRefIdeal.Facts) (hOutProj : Cert.OutProj.Facts) (hOutProjIdeal : Cert.OutProjIdeal.Facts) (hOutProjRefIdeal : Cert.OutProjRefIdeal.Facts) (hPre_decay_in_range : Cert.Pre_decay_in_range.Facts),
    quiescent_Kernel (hKernel := hKernel)
    ∧ quiescent_KernelIdeal (hKernelIdeal := hKernelIdeal)
    ∧ quiescent_KernelIdeal_pre_decay_in_range (hKernelIdeal := hKernelIdeal) (hPre_decay_in_range := hPre_decay_in_range)
    ∧ quiescent_ReferenceIdeal (hReferenceIdeal := hReferenceIdeal)
    ∧ quiescent_ReferenceIdeal_pre_decay_in_range (hReferenceIdeal := hReferenceIdeal) (hPre_decay_in_range := hPre_decay_in_range)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_ConfIn (hConfIn := hConfIn)
    ∧ quiescent_ConfInIdeal (hConfInIdeal := hConfInIdeal)
    ∧ quiescent_ConfInRefIdeal (hConfInRefIdeal := hConfInRefIdeal)
    ∧ quiescent_ConfOut (hConfOut := hConfOut)
    ∧ quiescent_ConfOutIdeal (hConfOutIdeal := hConfOutIdeal)
    ∧ quiescent_ConfOutRefIdeal (hConfOutRefIdeal := hConfOutRefIdeal)
    ∧ quiescent_Dense (hDense := hDense)
    ∧ quiescent_DenseIdeal (hDenseIdeal := hDenseIdeal)
    ∧ quiescent_DenseRefIdeal (hDenseRefIdeal := hDenseRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Kernel_KernelIdeal
    ∧ algebraic_KernelIdeal_ReferenceIdeal_pre_decay_in_range (hKernelIdeal := hKernelIdeal) (hReferenceIdeal := hReferenceIdeal) (hPre_decay_in_range := hPre_decay_in_range)
    ∧ preserves_HgrnIn_HgrnInIdeal
    ∧ algebraic_HgrnInIdeal_HgrnInRefIdeal (hHgrnInIdeal := hHgrnInIdeal) (hHgrnInRefIdeal := hHgrnInRefIdeal)
    ∧ preserves_ShortConv_ShortConvIdeal
    ∧ algebraic_ShortConvIdeal_ShortConvRefIdeal (hShortConvIdeal := hShortConvIdeal) (hShortConvRefIdeal := hShortConvRefIdeal)
    ∧ preserves_ConfIn_ConfInIdeal
    ∧ algebraic_ConfInIdeal_ConfInRefIdeal (hConfInIdeal := hConfInIdeal) (hConfInRefIdeal := hConfInRefIdeal)
    ∧ preserves_ConfOut_ConfOutIdeal
    ∧ algebraic_ConfOutIdeal_ConfOutRefIdeal (hConfOutIdeal := hConfOutIdeal) (hConfOutRefIdeal := hConfOutRefIdeal)
    ∧ preserves_Dense_DenseIdeal
    ∧ algebraic_DenseIdeal_DenseRefIdeal (hDenseIdeal := hDenseIdeal) (hDenseRefIdeal := hDenseRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_OutProj_OutProjIdeal
    ∧ algebraic_OutProjIdeal_OutProjRefIdeal (hOutProjIdeal := hOutProjIdeal) (hOutProjRefIdeal := hOutProjRefIdeal)
-- ==== Pre_decay_in_range.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bitsLt_bf16_f32 : FTy.bits .bf16 < FTy.bits .f32

variable [Facts]

def fn_part1 {F : FTy → Type} [FloatOps F] (main_v12 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v12 main_v17
  main_v18

def fn {F : FTy → Type} [FloatOps F] (main_arg0 : FVec F S8192x2048 .bf16) (main_arg1 : FVec F S8192x2048 .f32) (main_arg2 : FVec F S8192x2048 .bf16) (main_arg3 : FVec F S8192x2048 .bf16) : IVec S_ 1 :=
  let main_cst : FVec F S_ .f32 := constant S_ .f32 0x3E99999A#32
  let main_v0 : FVec F S8192x2048 .f32 := broadcastInDim S8192x2048 ![] bcast_S_S8192x2048 main_cst
  let main_v1 : IVec S8192x2048 1 := cmpf .oge main_arg1 main_v0
  let main_c : IVec S_ 1 := constantI S_ 1 1#1
  let main_v2 : IVec S_ 1 := (fun x v => Host.reduce IntOp.andi x v reducesTo_S8192x2048_S_d0_1 h_S_) main_v1 main_c
  let main_cst_0 : FVec F S_ .f32 := constant S_ .f32 0x3F800000#32
  let main_v3 : FVec F S8192x2048 .f32 := broadcastInDim S8192x2048 ![] bcast_S_S8192x2048 main_cst_0
  let main_v4 : IVec S8192x2048 1 := cmpf .ole main_arg1 main_v3
  let main_c_1 : IVec S_ 1 := constantI S_ 1 1#1
  let main_v5 : IVec S_ 1 := (fun x v => Host.reduce IntOp.andi x v reducesTo_S8192x2048_S_d0_1 h_S_) main_v4 main_c_1
  let main_v6 : IVec S_ 1 := andi main_v2 main_v5
  let main_v7 : FVec F S8192x2048 .f32 := (extf .f32 · bitsLt_bf16_f32) main_arg0
  let main_v8 : FVec F S8192x2048 .f32 := Host.absf main_v7
  let main_cst_2 : FVec F S_ .f32 := constant S_ .f32 0x7F800000#32
  let main_v9 : FVec F S8192x2048 .f32 := broadcastInDim S8192x2048 ![] bcast_S_S8192x2048 main_cst_2
  let main_v10 : IVec S8192x2048 1 := cmpf .olt main_v8 main_v9
  let main_c_3 : IVec S_ 1 := constantI S_ 1 1#1
  let main_v11 : IVec S_ 1 := (fun x v => Host.reduce IntOp.andi x v reducesTo_S8192x2048_S_d0_1 h_S_) main_v10 main_c_3
  let main_v12 : IVec S_ 1 := andi main_v6 main_v11
  let main_v13 : FVec F S8192x2048 .f32 := (extf .f32 · bitsLt_bf16_f32) main_arg2
  let main_v14 : FVec F S8192x2048 .f32 := Host.absf main_v13
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v12 main_v16
-- ==== Kernel.lean ====
abbrev S8192x2048 : Shape := ⟨2, ![8192, 2048]⟩
abbrev S128x2048 : Shape := ⟨2, ![128, 2048]⟩
abbrev S16x128x128 : Shape := ⟨3, ![16, 128, 128]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S16x128x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def k0_mult1 : BitVec 32 :=
  let c0_i32_2 : BitVec 32 := 0#32
  let c128_i32 : BitVec 32 := 128#32
  let v10 : BitVec 32 := Scalar.muli c0_i32_2 c128_i32
  v10
def k0_off1 (c0_i32_2 : BitVec 32) : Fin 2 → Nat :=
  let c0 : Index := 0#32
  let c128_i32 : BitVec 32 := 128#32
  let v10 : BitVec 32 := Scalar.muli c0_i32_2 c128_i32
  let v11 : BitVec 32 := v10
  let v12 : Index := Scalar.indexCast v11
  ![0, v12.toNat]
def k0_mult2 : BitVec 32 :=
  let c1_i32 : BitVec 32 := 1#32
  let c128_i32_25 : BitVec 32 := 128#32
  let v95 : BitVec 32 := Scalar.muli c1_i32 c128_i32_25
  v95
def k0_mult3 : BitVec 32 :=
  let c2_i32 : BitVec 32 := 2#32
  let c128_i32_49 : BitVec 32 := 128#32
  let v180 : BitVec 32 := Scalar.muli c2_i32 c128_i32_49
  v180
def k0_mult4 : BitVec 32 :=
  let c3_i32 : BitVec 32 := 3#32
  let c128_i32_73 : BitVec 32 := 128#32
  let v265 : BitVec 32 := Scalar.muli c3_i32 c128_i32_73
  v265
def k0_mult5 : BitVec 32 :=
  let c4_i32 : BitVec 32 := 4#32
  let c128_i32_97 : BitVec 32 := 128#32
  let v350 : BitVec 32 := Scalar.muli c4_i32 c128_i32_97
  v350
def k0_mult6 : BitVec 32 :=
  let c5_i32 : BitVec 32 := 5#32
  let c128_i32_121 : BitVec 32 := 128#32
  let v435 : BitVec 32 := Scalar.muli c5_i32 c128_i32_121
  v435
def k0_mult7 : BitVec 32 :=
  let c6_i32 : BitVec 32 := 6#32
  let c128_i32_145 : BitVec 32 := 128#32
  let v520 : BitVec 32 := Scalar.muli c6_i32 c128_i32_145
  v520
def k0_mult8 : BitVec 32 :=
  let c7_i32 : BitVec 32 := 7#32
  let c128_i32_169 : BitVec 32 := 128#32
  let v605 : BitVec 32 := Scalar.muli c7_i32 c128_i32_169
  v605
def k0_mult9 : BitVec 32 :=
  let c8_i32 : BitVec 32 := 8#32
  let c128_i32_193 : BitVec 32 := 128#32
  let v690 : BitVec 32 := Scalar.muli c8_i32 c128_i32_193
  v690
def k0_mult10 : BitVec 32 :=
  let c9_i32 : BitVec 32 := 9#32
  let c128_i32_217 : BitVec 32 := 128#32
  let v775 : BitVec 32 := Scalar.muli c9_i32 c128_i32_217
  v775
def k0_mult11 : BitVec 32 :=
  let c10_i32 : BitVec 32 := 10#32
  let c128_i32_241 : BitVec 32 := 128#32
  let v860 : BitVec 32 := Scalar.muli c10_i32 c128_i32_241
  v860
def k0_mult12 : BitVec 32 :=
  let c11_i32 : BitVec 32 := 11#32
  let c128_i32_265 : BitVec 32 := 128#32
  let v945 : BitVec 32 := Scalar.muli c11_i32 c128_i32_265
  v945
def k0_mult13 : BitVec 32 :=
  let c12_i32 : BitVec 32 := 12#32
  let c128_i32_289 : BitVec 32 := 128#32
  let v1030 : BitVec 32 := Scalar.muli c12_i32 c128_i32_289
  v1030
def k0_mult14 : BitVec 32 :=
  let c13_i32 : BitVec 32 := 13#32
  let c128_i32_313 : BitVec 32 := 128#32
  let v1115 : BitVec 32 := Scalar.muli c13_i32 c128_i32_313
  v1115
def k0_mult15 : BitVec 32 :=
  let c14_i32 : BitVec 32 := 14#32
  let c128_i32_337 : BitVec 32 := 128#32
  let v1200 : BitVec 32 := Scalar.muli c14_i32 c128_i32_337
  v1200
def k0_mult16 : BitVec 32 :=
  let c15_i32 : BitVec 32 := 15#32
  let c128_i32_361 : BitVec 32 := 128#32
  let v1285 : BitVec 32 := Scalar.muli c15_i32 c128_i32_361
  v1285
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x2048 : Shape := ⟨2, ![8192, 2048]⟩
abbrev S_ : Shape := ⟨0, ![]⟩
abbrev S64x64 : Shape := ⟨2, ![64, 64]⟩
abbrev S64x64x1 : Shape := ⟨3, ![64, 64, 1]⟩
abbrev S16x128x128 : Shape := ⟨3, ![16, 128, 128]⟩
abbrev S128x64x16x128 : Shape := ⟨4, ![128, 64, 16, 128]⟩
abbrev S128x16x64x128 : Shape := ⟨4, ![128, 16, 64, 128]⟩
abbrev S1x16x64x128 : Shape := ⟨4, ![1, 16, 64, 128]⟩
abbrev S16x64x128 : Shape := ⟨3, ![16, 64, 128]⟩
abbrev S16x64x1x128 : Shape := ⟨4, ![16, 64, 1, 128]⟩
abbrev S16x1x64x128 : Shape := ⟨4, ![16, 1, 64, 128]⟩
abbrev S16x64x64x128 : Shape := ⟨4, ![16, 64, 64, 128]⟩
abbrev S16x64x64 : Shape := ⟨3, ![16, 64, 64]⟩
abbrev S16x1x128 : Shape := ⟨3, ![16, 1, 128]⟩
abbrev S16x128 : Shape := ⟨2, ![16, 128]⟩
abbrev S16x128x1 : Shape := ⟨3, ![16, 128, 1]⟩
abbrev S8192x16x128 : Shape := ⟨3, ![8192, 16, 128]⟩
abbrev S8192x16 : Shape := ⟨2, ![8192, 16]⟩
abbrev S8192x16x1 : Shape := ⟨3, ![8192, 16, 1]⟩

abbrev nBuf : Space → Nat
  | .hbm => 130
  | .vmem => 0
  | .smem => 0
  | _ => 0

abbrev hbmTy0_0 (i : Nat) : BufTy := match i % 128 with
  | 0 => ⟨S8192x2048, .bf16⟩
  | 1 => ⟨S8192x2048, .f32⟩
  | 2 => ⟨S8192x2048, .bf16⟩
  | 3 => ⟨S8192x2048, .bf16⟩
  | 4 => ⟨S8192x2048, .f32⟩
  | 5 => ⟨S_, .f32⟩
  | 6 => ⟨S8192x2048, .f32⟩
  | 7 => ⟨S8192x2048, .f32⟩
  | 8 => ⟨S_, .i1⟩
  | 9 => ⟨S64x64, .i1⟩
  | 10 => ⟨S64x64, .i32⟩
  | 11 => ⟨S_, .i32⟩
  | 12 => ⟨S64x64, .i32⟩
  | 13 => ⟨S64x64, .i32⟩
  | 14 => ⟨S64x64, .i32⟩
  | 15 => ⟨S64x64, .i1⟩
  | 16 => ⟨S_, .i1⟩
  | 17 => ⟨S64x64, .i1⟩
  | 18 => ⟨S64x64, .i1⟩
  | 19 => ⟨S64x64x1, .i1⟩
  | 20 => ⟨S_, .f32⟩
  | 21 => ⟨S16x128x128, .f32⟩
  | 22 => ⟨S8192x2048, .f32⟩
  | 23 => ⟨S128x64x16x128, .f32⟩
  | 24 => ⟨S128x16x64x128, .f32⟩
  | 25 => ⟨S128x64x16x128, .f32⟩
  | 26 => ⟨S128x16x64x128, .f32⟩
  | 27 => ⟨S8192x2048, .f32⟩
  | 28 => ⟨S128x64x16x128, .f32⟩
  | 29 => ⟨S128x16x64x128, .f32⟩
  | 30 => ⟨S128x64x16x128, .f32⟩
  | 31 => ⟨S128x16x64x128, .f32⟩
  | 32 => ⟨S_, .f32⟩
  | 33 => ⟨S128x16x64x128, .f32⟩
  | 34 => ⟨S_, .i32⟩
  | 35 => ⟨S128x16x64x128, .f32⟩
  | 36 => ⟨S128x16x64x128, .f32⟩
  | 37 => ⟨S128x16x64x128, .f32⟩
  | 38 => ⟨S128x16x64x128, .f32⟩
  | 39 => ⟨S64x64x1, .i1⟩
  | 40 => ⟨S_, .i32⟩
  | 41 => ⟨S16x128x128, .f32⟩
  | 42 => ⟨S128x16x64x128, .f32⟩
  | 43 => ⟨S_, .i32⟩
  | 44 => ⟨S_, .i1⟩
  | 45 => ⟨S_, .i32⟩
  | 46 => ⟨S_, .i32⟩
  | 47 => ⟨S_, .i32⟩
  | 48 => ⟨S1x16x64x128, .f32⟩
  | 49 => ⟨S16x64x128, .f32⟩
  | 50 => ⟨S_, .i32⟩
  | 51 => ⟨S_, .i32⟩
  | 52 => ⟨S_, .i32⟩
  | 53 => ⟨S1x16x64x128, .f32⟩
  | 54 => ⟨S16x64x128, .f32⟩
  | 55 => ⟨S_, .i32⟩
  | 56 => ⟨S_, .i32⟩
  | 57 => ⟨S_, .i32⟩
  | 58 => ⟨S1x16x64x128, .f32⟩
  | 59 => ⟨S16x64x128, .f32⟩
  | 60 => ⟨S_, .i32⟩
  | 61 => ⟨S_, .i32⟩
  | 62 => ⟨S_, .i32⟩
  | 63 => ⟨S1x16x64x128, .f32⟩
  | 64 => ⟨S16x64x128, .f32⟩
  | 65 => ⟨S_, .f32⟩
  | 66 => ⟨S_, .f32⟩
  | 67 => ⟨S16x64x128, .f32⟩
  | 68 => ⟨S16x64x1x128, .f32⟩
  | 69 => ⟨S16x1x64x128, .f32⟩
  | 70 => ⟨S16x64x64x128, .f32⟩
  | 71 => ⟨S16x64x64x128, .f32⟩
  | 72 => ⟨S16x64x64x128, .f32⟩
  | 73 => ⟨S_, .f32⟩
  | 74 => ⟨S_, .f32⟩
  | 75 => ⟨S16x64x64x128, .i1⟩
  | 76 => ⟨S16x64x64x128, .f32⟩
  | 77 => ⟨S16x64x64x128, .f32⟩
  | 78 => ⟨S16x64x64x128, .f32⟩
  | 79 => ⟨S16x64x1x128, .f32⟩
  | 80 => ⟨S16x64x64x128, .f32⟩
  | 81 => ⟨S16x64x64x128, .f32⟩
  | 82 => ⟨S16x1x64x128, .f32⟩
  | 83 => ⟨S16x64x64x128, .f32⟩
  | 84 => ⟨S16x64x64x128, .f32⟩
  | 85 => ⟨S_, .f32⟩
  | 86 => ⟨S16x64x64, .f32⟩
  | 87 => ⟨S16x64x128, .f32⟩
  | 88 => ⟨S16x64x128, .f32⟩
  | 89 => ⟨S16x64x128, .f32⟩
  | 90 => ⟨S16x64x128, .f32⟩
  | 91 => ⟨S16x64x128, .f32⟩
  | 92 => ⟨S16x1x128, .f32⟩
  | 93 => ⟨S16x1x128, .f32⟩
  | 94 => ⟨S16x128, .f32⟩
  | 95 => ⟨S16x128x1, .f32⟩
  | 96 => ⟨S16x128x128, .f32⟩
  | 97 => ⟨S16x128x128, .f32⟩
  | 98 => ⟨S16x64x128, .f32⟩
  | 99 => ⟨S16x64x128, .f32⟩
  | 100 => ⟨S16x64x128, .f32⟩
  | 101 => ⟨S16x64x128, .f32⟩
  | 102 => ⟨S16x128x128, .f32⟩
  | 103 => ⟨S16x128x128, .f32⟩
  | 104 => ⟨S1x16x64x128, .f32⟩
  | 105 => ⟨S_, .i32⟩
  | 106 => ⟨S_, .i32⟩
  | 107 => ⟨S_, .i32⟩
  | 108 => ⟨S128x16x64x128, .f32⟩
  | 109 => ⟨S_, .i32⟩
  | 110 => ⟨S_, .i32⟩
  | 111 => ⟨S128x64x16x128, .f32⟩
  | 112 => ⟨S8192x16x128, .f32⟩
  | 113 => ⟨S8192x16x128, .f32⟩
  | 114 => ⟨S_, .f32⟩
  | 115 => ⟨S8192x16, .f32⟩
  | 116 => ⟨S8192x16x1, .f32⟩
  | 117 => ⟨S_, .f32⟩
  | 118 => ⟨S8192x16x1, .f32⟩
  | 119 => ⟨S8192x16x1, .f32⟩
  | 120 => ⟨S_, .f32⟩
  | 121 => ⟨S8192x16x1, .f32⟩
  | 122 => ⟨S8192x16x1, .f32⟩
  | 123 => ⟨S8192x16x1, .f32⟩
  | 124 => ⟨S8192x16x128, .f32⟩
  | 125 => ⟨S8192x16x128, .f32⟩
  | 126 => ⟨S8192x2048, .f32⟩
  | 127 => ⟨S8192x2048, .f32⟩
  | _ => ⟨S8192x2048, .bf16⟩

abbrev hbmTy0_1 (i : Nat) : BufTy := match i % 128 with
  | 0 => ⟨S8192x2048, .f32⟩
  | 1 => ⟨S8192x2048, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_c_2 : Ref sig .tc := ⟨.hbm, 34, rfl⟩
abbrev main_v18_0 : Ref sig .tc := ⟨.hbm, 35, rfl⟩
abbrev main_v18_1 : Ref sig .tc := ⟨.hbm, 36, rfl⟩
abbrev main_v18_2 : Ref sig .tc := ⟨.hbm, 37, rfl⟩
abbrev main_v18_3 : Ref sig .tc := ⟨.hbm, 38, rfl⟩
abbrev main_v18_4 : Ref sig .tc := ⟨.hbm, 39, rfl⟩
abbrev main_v18_5 : Ref sig .tc := ⟨.hbm, 40, rfl⟩
abbrev main_v18_6 : Ref sig .tc := ⟨.hbm, 41, rfl⟩
abbrev main_v18_7 : Ref sig .tc := ⟨.hbm, 42, rfl⟩
abbrev main_while0c_c_13 : Ref sig .tc := ⟨.hbm, 43, rfl⟩
abbrev main_while0c_v35 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_v0 : Ref sig .tc := ⟨.hbm, 48, rfl⟩
abbrev main_while0b_v35 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_v0 : Ref sig .tc := ⟨.hbm, 53, rfl⟩
abbrev main_while0b_v36 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_v0 : Ref sig .tc := ⟨.hbm, 58, rfl⟩
abbrev main_while0b_v37 : Ref sig .tc := ⟨.hbm, 59, rfl⟩
abbrev main_while0b_call4_c : Ref sig .tc := ⟨.hbm, 60, rfl⟩
abbrev main_while0b_call4_c_0 : Ref sig .tc := ⟨.hbm, 61, rfl⟩
abbrev main_while0b_call4_c_1 : Ref sig .tc := ⟨.hbm, 62, rfl⟩
abbrev main_while0b_call4_v0 : Ref sig .tc := ⟨.hbm, 63, rfl⟩
abbrev main_while0b_v38 : Ref sig .tc := ⟨.hbm, 64, rfl⟩
abbrev main_while0b_call5_call0_cst : Ref sig .tc := ⟨.hbm, 65, rfl⟩
abbrev main_while0b_call5_call0_v0 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_cst_13 : Ref sig .tc := ⟨.hbm, 73, rfl⟩
abbrev main_while0b_call6_v0 : Ref sig .tc := ⟨.hbm, 74, rfl⟩
abbrev main_while0b_call6_v1 : Ref sig .tc := ⟨.hbm, 75, rfl⟩
abbrev main_while0b_call6_v2 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_cst_14 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_call7_v0 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_v71 : Ref sig .tc := ⟨.hbm, 108, rfl⟩
abbrev main_while0b_c_15 : Ref sig .tc := ⟨.hbm, 109, rfl⟩
abbrev main_while0b_v72 : Ref sig .tc := ⟨.hbm, 110, rfl⟩
abbrev main_v19 : Ref sig .tc := ⟨.hbm, 111, rfl⟩
abbrev main_v20 : Ref sig .tc := ⟨.hbm, 112, rfl⟩
abbrev main_v21 : Ref sig .tc := ⟨.hbm, 113, rfl⟩
abbrev main_cst_3 : Ref sig .tc := ⟨.hbm, 114, rfl⟩
abbrev main_v22 : Ref sig .tc := ⟨.hbm, 115, rfl⟩
abbrev main_v23 : Ref sig .tc := ⟨.hbm, 116, rfl⟩
abbrev main_cst_4 : Ref sig .tc := ⟨.hbm, 117, rfl⟩
abbrev main_v24 : Ref sig .tc := ⟨.hbm, 118, rfl⟩
abbrev main_v25 : Ref sig .tc := ⟨.hbm, 119, rfl⟩
abbrev main_cst_5 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩

abbrev nD : Nat := 1
abbrev τ : Topo := Topo.v7x

variable {F : FTy → Type} [FloatOps F]

abbrev main_while0_count : Scf.Loop 32 := ⟨0#32, 128#32, 1#32⟩
-- ==== HgrnIn.lean ====
abbrev S8192x2048 : Shape := ⟨2, ![8192, 2048]⟩
abbrev S2048 : Shape := ⟨1, ![2048]⟩
abbrev S2048x8192 : Shape := ⟨2, ![2048, 8192]⟩
abbrev S4x2048 : Shape := ⟨2, ![4, 2048]⟩
abbrev S1x2048 : Shape := ⟨2, ![1, 2048]⟩
abbrev S1024x2048 : Shape := ⟨2, ![1024, 2048]⟩
abbrev S2048x512 : Shape := ⟨2, ![2048, 512]⟩
abbrev S4x512 : Shape := ⟨2, ![4, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 12
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S4x2048, .f32⟩
  | .hbm, ⟨4, _⟩ => ⟨S2048, .f32⟩
  | .hbm, ⟨5, _⟩ => ⟨S1x2048, .f32⟩
  | .hbm, ⟨6, _⟩ => ⟨S2048x8192, .bf16⟩
  | .hbm, ⟨7, _⟩ => ⟨S1x2048, .f32⟩
  | .hbm, ⟨8, _⟩ => ⟨S8192x2048, .bf16⟩
  | .hbm, ⟨9, _⟩ => ⟨S8192x2048, .f32⟩
  | .hbm, ⟨10, _⟩ => ⟨S8192x2048, .bf16⟩
  | .hbm, ⟨11, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S4x512, .f32⟩
  | .local _ .vmem, ⟨12, _⟩ => ⟨S4x512, .f32⟩
  | .local _ .vmem, ⟨13, _⟩ => ⟨S1x512, .f32⟩
  | .local _ .vmem, ⟨14, _⟩ => ⟨S1x512, .f32⟩
  | .local _ .vmem, ⟨15, _⟩ => ⟨S1024x512, .bf16⟩
  | .local _ .vmem, ⟨16, _⟩ => ⟨S1024x512, .bf16⟩
  | .local _ .vmem, ⟨17, _⟩ => ⟨S1024x512, .f32⟩
  | .local _ .vmem, ⟨18, _⟩ => ⟨S1024x512, .f32⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== HgrnInRefIdeal.lean ====
abbrev S8192x2048 : Shape := ⟨2, ![8192, 2048]⟩
abbrev S2048 : Shape := ⟨1, ![2048]⟩
abbrev S2048x8192 : Shape := ⟨2, ![2048, 8192]⟩
abbrev S4x2048 : Shape := ⟨2, ![4, 2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S4x2048, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S_, .f32⟩
  | .hbm, ⟨21, _⟩ => ⟨S4x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S4x2048, .f32⟩
  | .hbm, ⟨26, _⟩ => ⟨S4x2048, .f32⟩
  | .hbm, ⟨27, _⟩ => ⟨S1x2048, .f32⟩
  | .hbm, ⟨28, _⟩ => ⟨S2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192x2048, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S1x2048, .f32⟩
  | .hbm, ⟨86, _⟩ => ⟨S8192x2048, .f32⟩
  | .hbm, ⟨87, _⟩ => ⟨S8192x2048, .f32⟩
  | .hbm, ⟨88, _⟩ => ⟨S8192x2048, .bf16⟩
  | .hbm, ⟨89, _⟩ => ⟨S8192x2048, .bf16⟩
  | .hbm, ⟨90, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_v0 : Ref sig .tc := ⟨.hbm, 76, rfl⟩
abbrev main_call2_v1 : Ref sig .tc := ⟨.hbm, 77, rfl⟩
abbrev main_call2_cst : Ref sig .tc := ⟨.hbm, 78, rfl⟩
abbrev main_call2_v2 : Ref sig .tc := ⟨.hbm, 79, rfl⟩
abbrev main_call2_v3 : Ref sig .tc := ⟨.hbm, 80, rfl⟩
abbrev main_call2_cst_0 : Ref sig .tc := ⟨.hbm, 81, rfl⟩
abbrev main_call2_v4 : Ref sig .tc := ⟨.hbm, 82, rfl⟩
abbrev main_call2_v5 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== ShortConv.lean ====
abbrev S8192x2048 : Shape := ⟨2, ![8192, 2048]⟩
abbrev S2048 : Shape := ⟨1, ![2048]⟩
abbrev S2048x6144 : Shape := ⟨2, ![2048, 6144]⟩
abbrev S3x2048 : Shape := ⟨2, ![3, 2048]⟩
abbrev S1x2048 : Shape := ⟨2, ![1, 2048]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S4x1032x512 : Shape := ⟨3, ![4, 1032, 512]⟩
abbrev S1024 : Shape := ⟨1, ![1024]⟩
abbrev S1024x1 : Shape := ⟨2, ![1024, 1]⟩
abbrev S8x512 : Shape := ⟨2, ![8, 512]⟩
abbrev S1x8x512 : Shape := ⟨3, ![1, 8, 512]⟩
abbrev S1x1024x512 : Shape := ⟨3, ![1, 1024, 512]⟩

abbrev nBuf : Space → Nat
  | .hbm => 9
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6144, .f32⟩
  | .hbm, ⟨3, _⟩ => ⟨S3x2048, .f32⟩
  | .hbm, ⟨4, _⟩ => ⟨S2048, .f32⟩
  | .hbm, ⟨5, _⟩ => ⟨S1x2048, .f32⟩
  | .hbm, ⟨6, _⟩ => ⟨S2048x6144, .bf16⟩
  | .hbm, ⟨7, _⟩ => ⟨S1x2048, .f32⟩
  | .hbm, ⟨8, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | .local _ .vmem, ⟨16, _⟩ => ⟨S4x1032x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v51 : Index := Scalar.indexCast arg1
  let c0_26 : Index := 0#32
  let c0_27 : Index := 0#32
  ![v51.toNat, 0, 0]
def k0_off2 (i : grid0.Coords) : Fin 3 → Nat :=
  let arg1 : BitVec 32 := BitVec.ofNat 32 (i 1).val
  let v17 : Index := Scalar.indexCast arg1
  let c8 : Index := 8#32
  let c0_12 : Index := 0#32
  ![v17.toNat, 8, 0]
def k0_off3 (i : grid0.Coords) : Fin 3 → Nat :=
  let arg1 : BitVec 32 := BitVec.ofNat 32 (i 1).val
  let v29 : Index := Scalar.indexCast arg1
  let c6 : Index := 6#32
  let c0_18 : Index := 0#32
  ![v29.toNat, 6, 0]
def k0_off4 (i : grid0.Coords) : Fin 3 → Nat :=
  let arg1 : BitVec 32 := BitVec.ofNat 32 (i 1).val
  let v36 : Index := Scalar.indexCast arg1
  let c7 : Index := 7#32
  let c0_20 : Index := 0#32
  ![v36.toNat, 7, 0]
def k0_off5 (i : grid0.Coords) : Fin 3 → Nat :=
  let arg1 : BitVec 32 := BitVec.ofNat 32 (i 1).val
  let v46 : Index := Scalar.indexCast arg1
  let c0_23 : Index := 0#32
  let c0_24 : Index := 0#32
  ![v46.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ShortConvRefIdeal.lean ====
abbrev S8192x2048 : Shape := ⟨2, ![8192, 2048]⟩
abbrev S2048 : Shape := ⟨1, ![2048]⟩
abbrev S2048x6144 : Shape := ⟨2, ![2048, 6144]⟩
abbrev S3x2048 : Shape := ⟨2, ![3, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6144 : Shape := ⟨2, ![8192, 6144]⟩
abbrev S8194x2048 : Shape := ⟨2, ![8194, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6144, .f32⟩
  | .hbm, ⟨3, _⟩ => ⟨S3x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x6144, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .i32⟩
  | .hbm, ⟨27, _⟩ => ⟨S_, .f32⟩
  | .hbm, ⟨28, _⟩ => ⟨S8194x2048, .f32⟩
  | .hbm, ⟨29, _⟩ => ⟨S1x2048, .f32⟩
  | .hbm, ⟨30, _⟩ => ⟨S2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S2048, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== ConfIn.lean ====
abbrev S8192x2048 : Shape := ⟨2, ![8192, 2048]⟩
abbrev S2048 : Shape := ⟨1, ![2048]⟩
abbrev S2048x4096 : Shape := ⟨2, ![2048, 4096]⟩
abbrev S4096 : Shape := ⟨1, ![4096]⟩
abbrev S1x2048 : Shape := ⟨2, ![1, 2048]⟩
abbrev S1x4096 : Shape := ⟨2, ![1, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S4096, .f32⟩
  | .hbm, ⟨4, _⟩ => ⟨S1x2048, .f32⟩
  | .hbm, ⟨5, _⟩ => ⟨S2048x4096, .bf16⟩
  | .hbm, ⟨6, _⟩ => ⟨S1x4096, .f32⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConfInRefIdeal.lean ====
abbrev S8192x2048 : Shape := ⟨2, ![8192, 2048]⟩
abbrev S2048 : Shape := ⟨1, ![2048]⟩
abbrev S2048x4096 : Shape := ⟨2, ![2048, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S4096, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== ConfOut.lean ====
abbrev S8192x2048 : Shape := ⟨2, ![8192, 2048]⟩
abbrev S31x2048 : Shape := ⟨2, ![31, 2048]⟩
abbrev S2048 : Shape := ⟨1, ![2048]⟩
abbrev S2048x2048 : Shape := ⟨2, ![2048, 2048]⟩
abbrev S1x2048 : Shape := ⟨2, ![1, 2048]⟩
abbrev S256x2048 : Shape := ⟨2, ![256, 2048]⟩
abbrev S32x2048 : Shape := ⟨2, ![32, 2048]⟩
abbrev S288x2048 : Shape := ⟨2, ![288, 2048]⟩
abbrev S7x280x256 : Shape := ⟨3, ![7, 280, 256]⟩
abbrev S280x256 : Shape := ⟨2, ![280, 256]⟩
abbrev S1x280x256 : Shape := ⟨3, ![1, 280, 256]⟩
abbrev S1x256 : Shape := ⟨2, ![1, 256]⟩
abbrev S64x256 : Shape := ⟨2, ![64, 256]⟩
abbrev S1x64x256 : Shape := ⟨3, ![1, 64, 256]⟩
abbrev S256 : Shape := ⟨1, ![256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S31x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S8192x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048x2048, .bf16⟩
  | .hbm, ⟨12, _⟩ => ⟨S1x2048, .f32⟩
  | .hbm, ⟨13, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S32x2048, .f32⟩
  | .local _ .vmem, ⟨3, _⟩ => ⟨S32x2048, .f32⟩
  | .local _ .vmem, ⟨4, _⟩ => ⟨S31x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S288x2048, .f32⟩
  | .local _ .vmem, ⟨15, _⟩ => ⟨S256x2048, .f32⟩
  | .local _ .vmem, ⟨16, _⟩ => ⟨S256x2048, .bf16⟩
  | .local _ .vmem, ⟨17, _⟩ => ⟨S7x280x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c8_i32 : BitVec 32 := 8#32
  let v25 : BitVec 32 := Scalar.addi c0_i32_19 c8_i32
  let c1_i32 : BitVec 32 := 1#32
  ⟨c0_i32_19, v25, c1_i32⟩
def k0_mult1 (k0_t1 : Fin k0_t1_loop.trips) : BitVec 32 :=
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  v57
def k0_off1 (k0_t1 : Fin k0_t1_loop.trips) : Fin 2 → Nat :=
  let c1 : Index := 1#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v59 : Index := Scalar.indexCast v58
  ![1, v59.toNat]
def k0_off2 (k0_t1 : Fin k0_t1_loop.trips) : Fin 2 → Nat :=
  let c2 : Index := 2#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v64 : Index := Scalar.indexCast v58
  ![2, v64.toNat]
def k0_off3 (k0_t1 : Fin k0_t1_loop.trips) : Fin 2 → Nat :=
  let c3 : Index := 3#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v69 : Index := Scalar.indexCast v58
  ![3, v69.toNat]
def k0_off4 (k0_t1 : Fin k0_t1_loop.trips) : Fin 2 → Nat :=
  let c4 : Index := 4#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v74 : Index := Scalar.indexCast v58
  ![4, v74.toNat]
def k0_off5 (k0_t1 : Fin k0_t1_loop.trips) : Fin 2 → Nat :=
  let c5 : Index := 5#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v79 : Index := Scalar.indexCast v58
  ![5, v79.toNat]
def k0_off6 (k0_t1 : Fin k0_t1_loop.trips) : Fin 2 → Nat :=
  let c6 : Index := 6#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v84 : Index := Scalar.indexCast v58
  ![6, v84.toNat]
def k0_off7 (k0_t1 : Fin k0_t1_loop.trips) : Fin 2 → Nat :=
  let c7 : Index := 7#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v89 : Index := Scalar.indexCast v58
  ![7, v89.toNat]
def k0_off8 (k0_t1 : Fin k0_t1_loop.trips) : Fin 2 → Nat :=
  let c0_55 : Index := 0#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v94 : Index := Scalar.indexCast v58
  ![0, v94.toNat]
def k0_off9 (k0_t1 : Fin k0_t1_loop.trips) : Fin 2 → Nat :=
  let c0_59 : Index := 0#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v101 : Index := Scalar.indexCast v58
  ![0, v101.toNat]
def k0_off10 (k0_t1 : Fin k0_t1_loop.trips) : Fin 2 → Nat :=
  let c1_63 : Index := 1#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v108 : Index := Scalar.indexCast v58
  ![1, v108.toNat]
def k0_off11 (k0_t1 : Fin k0_t1_loop.trips) : Fin 2 → Nat :=
  let c2_67 : Index := 2#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v115 : Index := Scalar.indexCast v58
  ![2, v115.toNat]
def k0_off12 (k0_t1 : Fin k0_t1_loop.trips) : Fin 2 → Nat :=
  let c3_71 : Index := 3#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v122 : Index := Scalar.indexCast v58
  ![3, v122.toNat]
def k0_off13 (k0_t1 : Fin k0_t1_loop.trips) : Fin 2 → Nat :=
  let c4_75 : Index := 4#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v129 : Index := Scalar.indexCast v58
  ![4, v129.toNat]
def k0_off14 (k0_t1 : Fin k0_t1_loop.trips) : Fin 2 → Nat :=
  let c5_79 : Index := 5#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v136 : Index := Scalar.indexCast v58
  ![5, v136.toNat]
def k0_off15 (k0_t1 : Fin k0_t1_loop.trips) : Fin 2 → Nat :=
  let c8 : Index := 8#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v141 : Index := Scalar.indexCast v58
  ![8, v141.toNat]
def k0_off16 (k0_t1 : Fin k0_t1_loop.trips) : Fin 2 → Nat :=
  let c6_80 : Index := 6#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v143 : Index := Scalar.indexCast v58
  ![6, v143.toNat]
def k0_off17 (k0_t1 : Fin k0_t1_loop.trips) : Fin 2 → Nat :=
  let c7_84 : Index := 7#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v150 : Index := Scalar.indexCast v58
  ![7, v150.toNat]
def k0_off18 (k0_t1 : Fin k0_t1_loop.trips) : Fin 2 → Nat :=
  let c8_88 : Index := 8#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v157 : Index := Scalar.indexCast v58
  ![8, v157.toNat]
def k0_off19 (k0_t1 : Fin k0_t1_loop.trips) : Fin 2 → Nat :=
  let c9 : Index := 9#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v164 : Index := Scalar.indexCast v58
  ![9, v164.toNat]
def k0_off20 (k0_t1 : Fin k0_t1_loop.trips) : Fin 2 → Nat :=
  let c10 : Index := 10#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v171 : Index := Scalar.indexCast v58
  ![10, v171.toNat]
def k0_off21 (k0_t1 : Fin k0_t1_loop.trips) : Fin 2 → Nat :=
  let c11 : Index := 11#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v178 : Index := Scalar.indexCast v58
  ![11, v178.toNat]
def k0_off22 (k0_t1 : Fin k0_t1_loop.trips) : Fin 2 → Nat :=
  let c12 : Index := 12#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v185 : Index := Scalar.indexCast v58
  ![12, v185.toNat]
def k0_off23 (k0_t1 : Fin k0_t1_loop.trips) : Fin 2 → Nat :=
  let c13 : Index := 13#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v192 : Index := Scalar.indexCast v58
  ![13, v192.toNat]
def k0_off24 (k0_t1 : Fin k0_t1_loop.trips) : Fin 2 → Nat :=
  let c16 : Index := 16#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v197 : Index := Scalar.indexCast v58
  ![16, v197.toNat]
def k0_off25 (k0_t1 : Fin k0_t1_loop.trips) : Fin 2 → Nat :=
  let c14 : Index := 14#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v199 : Index := Scalar.indexCast v58
  ![14, v199.toNat]
def k0_off26 (k0_t1 : Fin k0_t1_loop.trips) : Fin 2 → Nat :=
  let c15 : Index := 15#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v206 : Index := Scalar.indexCast v58
  ![15, v206.toNat]
def k0_off27 (k0_t1 : Fin k0_t1_loop.trips) : Fin 2 → Nat :=
  let c16_110 : Index := 16#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v213 : Index := Scalar.indexCast v58
  ![16, v213.toNat]
def k0_off28 (k0_t1 : Fin k0_t1_loop.trips) : Fin 2 → Nat :=
  let c17 : Index := 17#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v220 : Index := Scalar.indexCast v58
  ![17, v220.toNat]
def k0_off29 (k0_t1 : Fin k0_t1_loop.trips) : Fin 2 → Nat :=
  let c18 : Index := 18#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v227 : Index := Scalar.indexCast v58
  ![18, v227.toNat]
def k0_off30 (k0_t1 : Fin k0_t1_loop.trips) : Fin 2 → Nat :=
  let c19 : Index := 19#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v234 : Index := Scalar.indexCast v58
  ![19, v234.toNat]
def k0_off31 (k0_t1 : Fin k0_t1_loop.trips) : Fin 2 → Nat :=
  let c20 : Index := 20#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v241 : Index := Scalar.indexCast v58
  ![20, v241.toNat]
def k0_off32 (k0_t1 : Fin k0_t1_loop.trips) : Fin 2 → Nat :=
  let c21 : Index := 21#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v248 : Index := Scalar.indexCast v58
  ![21, v248.toNat]
def k0_off33 (k0_t1 : Fin k0_t1_loop.trips) : Fin 2 → Nat :=
  let c24 : Index := 24#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v253 : Index := Scalar.indexCast v58
  ![24, v253.toNat]
def k0_off34 (k0_t1 : Fin k0_t1_loop.trips) : Fin 2 → Nat :=
  let c22 : Index := 22#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v255 : Index := Scalar.indexCast v58
  ![22, v255.toNat]
def k0_off35 (k0_t1 : Fin k0_t1_loop.trips) : Fin 2 → Nat :=
  let c23 : Index := 23#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v262 : Index := Scalar.indexCast v58
  ![23, v262.toNat]
def k0_off36 (k0_t1 : Fin k0_t1_loop.trips) : Fin 2 → Nat :=
  let c24_132 : Index := 24#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v269 : Index := Scalar.indexCast v58
  ![24, v269.toNat]
def k0_off37 (k0_t1 : Fin k0_t1_loop.trips) : Fin 2 → Nat :=
  let c25 : Index := 25#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v276 : Index := Scalar.indexCast v58
  ![25, v276.toNat]
def k0_off38 (k0_t1 : Fin k0_t1_loop.trips) : Fin 2 → Nat :=
  let c26 : Index := 26#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v283 : Index := Scalar.indexCast v58
  ![26, v283.toNat]
def k0_off39 (k0_t1 : Fin k0_t1_loop.trips) : Fin 2 → Nat :=
  let c27 : Index := 27#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v290 : Index := Scalar.indexCast v58
  ![27, v290.toNat]
def k0_off40 (k0_t1 : Fin k0_t1_loop.trips) : Fin 2 → Nat :=
  let c28 : Index := 28#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v297 : Index := Scalar.indexCast v58
  ![28, v297.toNat]
def k0_off41 (k0_t1 : Fin k0_t1_loop.trips) : Fin 2 → Nat :=
  let c29 : Index := 29#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v304 : Index := Scalar.indexCast v58
  ![29, v304.toNat]
def k0_off42 (k0_t1 : Fin k0_t1_loop.trips) : Fin 2 → Nat :=
  let c32_148 : Index := 32#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v309 : Index := Scalar.indexCast v58
  ![32, v309.toNat]
def k0_off43 (k0_t1 : Fin k0_t1_loop.trips) : Fin 2 → Nat :=
  let c30 : Index := 30#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v311 : Index := Scalar.indexCast v58
  ![30, v311.toNat]
def k0_off44 (k0_t1 : Fin k0_t1_loop.trips) : Fin 2 → Nat :=
  let c0_149 : Index := 0#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v316 : Index := Scalar.indexCast v58
  ![0, v316.toNat]
def k0_off45 (k0_t1 : Fin k0_t1_loop.trips) : Fin 2 → Nat :=
  let c72 : Index := 72#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v367 : Index := Scalar.indexCast v58
  ![72, v367.toNat]
def k0_off46 (k0_t1 : Fin k0_t1_loop.trips) : Fin 2 → Nat :=
  let c80 : Index := 80#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v423 : Index := Scalar.indexCast v58
  ![80, v423.toNat]
def k0_off47 (k0_t1 : Fin k0_t1_loop.trips) : Fin 2 → Nat :=
  let c88 : Index := 88#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v479 : Index := Scalar.indexCast v58
  ![88, v479.toNat]
def k0_off48 (k0_t1 : Fin k0_t1_loop.trips) : Fin 2 → Nat :=
  let c96 : Index := 96#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v535 : Index := Scalar.indexCast v58
  ![96, v535.toNat]
def k0_off49 (k0_t1 : Fin k0_t1_loop.trips) : Fin 2 → Nat :=
  let c64_262 : Index := 64#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v542 : Index := Scalar.indexCast v58
  ![64, v542.toNat]
def k0_off50 (k0_t1 : Fin k0_t1_loop.trips) : Fin 2 → Nat :=
  let c136 : Index := 136#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v593 : Index := Scalar.indexCast v58
  ![136, v593.toNat]
def k0_off51 (k0_t1 : Fin k0_t1_loop.trips) : Fin 2 → Nat :=
  let c144 : Index := 144#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v649 : Index := Scalar.indexCast v58
  ![144, v649.toNat]
def k0_off52 (k0_t1 : Fin k0_t1_loop.trips) : Fin 2 → Nat :=
  let c152 : Index := 152#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v705 : Index := Scalar.indexCast v58
  ![152, v705.toNat]
def k0_off53 (k0_t1 : Fin k0_t1_loop.trips) : Fin 2 → Nat :=
  let c160 : Index := 160#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v761 : Index := Scalar.indexCast v58
  ![160, v761.toNat]
def k0_off54 (k0_t1 : Fin k0_t1_loop.trips) : Fin 2 → Nat :=
  let c128_375 : Index := 128#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v768 : Index := Scalar.indexCast v58
  ![128, v768.toNat]
def k0_off55 (k0_t1 : Fin k0_t1_loop.trips) : Fin 2 → Nat :=
  let c200 : Index := 200#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v819 : Index := Scalar.indexCast v58
  ![200, v819.toNat]
def k0_off56 (k0_t1 : Fin k0_t1_loop.trips) : Fin 2 → Nat :=
  let c208 : Index := 208#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v875 : Index := Scalar.indexCast v58
  ![208, v875.toNat]
def k0_off57 (k0_t1 : Fin k0_t1_loop.trips) : Fin 2 → Nat :=
  let c216 : Index := 216#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v931 : Index := Scalar.indexCast v58
  ![216, v931.toNat]
def k0_off58 (k0_t1 : Fin k0_t1_loop.trips) : Fin 2 → Nat :=
  let c224 : Index := 224#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v987 : Index := Scalar.indexCast v58
  ![224, v987.toNat]
def k0_off59 (k0_t1 : Fin k0_t1_loop.trips) : Fin 2 → Nat :=
  let c192_488 : Index := 192#32
  let c0_i32_19 : BitVec 32 := 0#32
  let c1_i32 : BitVec 32 := 1#32
  let arg16 : BitVec 32 := Scf.iv c0_i32_19 c1_i32 k0_t1
  let c256_i32 : BitVec 32 := 256#32
  let v57 : BitVec 32 := Scalar.muli arg16 c256_i32
  let v58 : BitVec 32 := v57
  let v994 : Index := Scalar.indexCast v58
  ![192, v994.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConfOutRefIdeal.lean ====
abbrev S8192x2048 : Shape := ⟨2, ![8192, 2048]⟩
abbrev S31x2048 : Shape := ⟨2, ![31, 2048]⟩
abbrev S2048 : Shape := ⟨1, ![2048]⟩
abbrev S2048x2048 : Shape := ⟨2, ![2048, 2048]⟩
abbrev S_ : Shape := ⟨0, ![]⟩
abbrev S8222x2048 : Shape := ⟨2, ![8222, 2048]⟩
abbrev S1x2048 : Shape := ⟨2, ![1, 2048]⟩
abbrev S8192 : Shape := ⟨1, ![8192]⟩
abbrev S8192x1 : Shape := ⟨2, ![8192, 1]⟩

abbrev nBuf : Space → Nat
  | .hbm => 274
  | .vmem => 0
  | .smem => 0
  | _ => 0

abbrev hbmTy0_0 (i : Nat) : BufTy := match i % 128 with
  | 0 => ⟨S8192x2048, .f32⟩
  | 1 => ⟨S31x2048, .f32⟩
  | 2 => ⟨S2048, .f32⟩
  | 3 => ⟨S2048, .f32⟩
  | 4 => ⟨S2048, .f32⟩
  | 5 => ⟨S2048x2048, .f32⟩
  | 6 => ⟨S2048, .f32⟩
  | 7 => ⟨S8192x2048, .f32⟩
  | 8 => ⟨S_, .i32⟩
  | 9 => ⟨S_, .f32⟩
  | 10 => ⟨S8222x2048, .f32⟩
  | 11 => ⟨S1x2048, .f32⟩
  | 12 => ⟨S2048, .f32⟩
  | 13 => ⟨S8192x2048, .f32⟩
  | 14 => ⟨S1x2048, .f32⟩
  | 15 => ⟨S8192x2048, .f32⟩
  | 16 => ⟨S8192x2048, .f32⟩
  | 17 => ⟨S_, .f32⟩
  | 18 => ⟨S8192x2048, .f32⟩
  | 19 => ⟨S8192x2048, .f32⟩
  | 20 => ⟨S1x2048, .f32⟩
  | 21 => ⟨S2048, .f32⟩
  | 22 => ⟨S8192x2048, .f32⟩
  | 23 => ⟨S1x2048, .f32⟩
  | 24 => ⟨S8192x2048, .f32⟩
  | 25 => ⟨S8192x2048, .f32⟩
  | 26 => ⟨S8192x2048, .f32⟩
  | 27 => ⟨S1x2048, .f32⟩
  | 28 => ⟨S2048, .f32⟩
  | 29 => ⟨S8192x2048, .f32⟩
  | 30 => ⟨S1x2048, .f32⟩
  | 31 => ⟨S8192x2048, .f32⟩
  | 32 => ⟨S8192x2048, .f32⟩
  | 33 => ⟨S8192x2048, .f32⟩
  | 34 => ⟨S1x2048, .f32⟩
  | 35 => ⟨S2048, .f32⟩
  | 36 => ⟨S8192x2048, .f32⟩
  | 37 => ⟨S1x2048, .f32⟩
  | 38 => ⟨S8192x2048, .f32⟩
  | 39 => ⟨S8192x2048, .f32⟩
  | 40 => ⟨S8192x2048, .f32⟩
  | 41 => ⟨S1x2048, .f32⟩
  | 42 => ⟨S2048, .f32⟩
  | 43 => ⟨S8192x2048, .f32⟩
  | 44 => ⟨S1x2048, .f32⟩
  | 45 => ⟨S8192x2048, .f32⟩
  | 46 => ⟨S8192x2048, .f32⟩
  | 47 => ⟨S8192x2048, .f32⟩
  | 48 => ⟨S1x2048, .f32⟩
  | 49 => ⟨S2048, .f32⟩
  | 50 => ⟨S8192x2048, .f32⟩
  | 51 => ⟨S1x2048, .f32⟩
  | 52 => ⟨S8192x2048, .f32⟩
  | 53 => ⟨S8192x2048, .f32⟩
  | 54 => ⟨S8192x2048, .f32⟩
  | 55 => ⟨S1x2048, .f32⟩
  | 56 => ⟨S2048, .f32⟩
  | 57 => ⟨S8192x2048, .f32⟩
  | 58 => ⟨S1x2048, .f32⟩
  | 59 => ⟨S8192x2048, .f32⟩
  | 60 => ⟨S8192x2048, .f32⟩
  | 61 => ⟨S8192x2048, .f32⟩
  | 62 => ⟨S1x2048, .f32⟩
  | 63 => ⟨S2048, .f32⟩
  | 64 => ⟨S8192x2048, .f32⟩
  | 65 => ⟨S1x2048, .f32⟩
  | 66 => ⟨S8192x2048, .f32⟩
  | 67 => ⟨S8192x2048, .f32⟩
  | 68 => ⟨S8192x2048, .f32⟩
  | 69 => ⟨S1x2048, .f32⟩
  | 70 => ⟨S2048, .f32⟩
  | 71 => ⟨S8192x2048, .f32⟩
  | 72 => ⟨S1x2048, .f32⟩
  | 73 => ⟨S8192x2048, .f32⟩
  | 74 => ⟨S8192x2048, .f32⟩
  | 75 => ⟨S8192x2048, .f32⟩
  | 76 => ⟨S1x2048, .f32⟩
  | 77 => ⟨S2048, .f32⟩
  | 78 => ⟨S8192x2048, .f32⟩
  | 79 => ⟨S1x2048, .f32⟩
  | 80 => ⟨S8192x2048, .f32⟩
  | 81 => ⟨S8192x2048, .f32⟩
  | 82 => ⟨S8192x2048, .f32⟩
  | 83 => ⟨S1x2048, .f32⟩
  | 84 => ⟨S2048, .f32⟩
  | 85 => ⟨S8192x2048, .f32⟩
  | 86 => ⟨S1x2048, .f32⟩
  | 87 => ⟨S8192x2048, .f32⟩
  | 88 => ⟨S8192x2048, .f32⟩
  | 89 => ⟨S8192x2048, .f32⟩
  | 90 => ⟨S1x2048, .f32⟩
  | 91 => ⟨S2048, .f32⟩
  | 92 => ⟨S8192x2048, .f32⟩
  | 93 => ⟨S1x2048, .f32⟩
  | 94 => ⟨S8192x2048, .f32⟩
  | 95 => ⟨S8192x2048, .f32⟩
  | 96 => ⟨S8192x2048, .f32⟩
  | 97 => ⟨S1x2048, .f32⟩
  | 98 => ⟨S2048, .f32⟩
  | 99 => ⟨S8192x2048, .f32⟩
  | 100 => ⟨S1x2048, .f32⟩
  | 101 => ⟨S8192x2048, .f32⟩
  | 102 => ⟨S8192x2048, .f32⟩
  | 103 => ⟨S8192x2048, .f32⟩
  | 104 => ⟨S1x2048, .f32⟩
  | 105 => ⟨S2048, .f32⟩
  | 106 => ⟨S8192x2048, .f32⟩
  | 107 => ⟨S1x2048, .f32⟩
  | 108 => ⟨S8192x2048, .f32⟩
  | 109 => ⟨S8192x2048, .f32⟩
  | 110 => ⟨S8192x2048, .f32⟩
  | 111 => ⟨S1x2048, .f32⟩
  | 112 => ⟨S2048, .f32⟩
  | 113 => ⟨S8192x2048, .f32⟩
  | 114 => ⟨S1x2048, .f32⟩
  | 115 => ⟨S8192x2048, .f32⟩
  | 116 => ⟨S8192x2048, .f32⟩
  | 117 => ⟨S8192x2048, .f32⟩
  | 118 => ⟨S1x2048, .f32⟩
  | 119 => ⟨S2048, .f32⟩
  | 120 => ⟨S8192x2048, .f32⟩
  | 121 => ⟨S1x2048, .f32⟩
  | 122 => ⟨S8192x2048, .f32⟩
  | 123 => ⟨S8192x2048, .f32⟩
  | 124 => ⟨S8192x2048, .f32⟩
  | 125 => ⟨S1x2048, .f32⟩
  | 126 => ⟨S2048, .f32⟩
  | 127 => ⟨S8192x2048, .f32⟩
  | _ => ⟨S8192x2048, .f32⟩

abbrev hbmTy0_1 (i : Nat) : BufTy := match i % 128 with
  | 0 => ⟨S1x2048, .f32⟩
  | 1 => ⟨S8192x2048, .f32⟩
  | 2 => ⟨S8192x2048, .f32⟩
  | 3 => ⟨S8192x2048, .f32⟩
  | 4 => ⟨S1x2048, .f32⟩
  | 5 => ⟨S2048, .f32⟩
  | 6 => ⟨S8192x2048, .f32⟩
  | 7 => ⟨S1x2048, .f32⟩
  | 8 => ⟨S8192x2048, .f32⟩
  | 9 => ⟨S8192x2048, .f32⟩
  | 10 => ⟨S8192x2048, .f32⟩
  | 11 => ⟨S1x2048, .f32⟩
  | 12 => ⟨S2048, .f32⟩
  | 13 => ⟨S8192x2048, .f32⟩
  | 14 => ⟨S1x2048, .f32⟩
  | 15 => ⟨S8192x2048, .f32⟩
  | 16 => ⟨S8192x2048, .f32⟩
  | 17 => ⟨S8192x2048, .f32⟩
  | 18 => ⟨S1x2048, .f32⟩
  | 19 => ⟨S2048, .f32⟩
  | 20 => ⟨S8192x2048, .f32⟩
  | 21 => ⟨S1x2048, .f32⟩
  | 22 => ⟨S8192x2048, .f32⟩
  | 23 => ⟨S8192x2048, .f32⟩
  | 24 => ⟨S8192x2048, .f32⟩
  | 25 => ⟨S1x2048, .f32⟩
  | 26 => ⟨S2048, .f32⟩
  | 27 => ⟨S8192x2048, .f32⟩
  | 28 => ⟨S1x2048, .f32⟩
  | 29 => ⟨S8192x2048, .f32⟩
  | 30 => ⟨S8192x2048, .f32⟩
  | 31 => ⟨S8192x2048, .f32⟩
  | 32 => ⟨S1x2048, .f32⟩
  | 33 => ⟨S2048, .f32⟩
  | 34 => ⟨S8192x2048, .f32⟩
  | 35 => ⟨S1x2048, .f32⟩
  | 36 => ⟨S8192x2048, .f32⟩
  | 37 => ⟨S8192x2048, .f32⟩
  | 38 => ⟨S8192x2048, .f32⟩
  | 39 => ⟨S1x2048, .f32⟩
  | 40 => ⟨S2048, .f32⟩
  | 41 => ⟨S8192x2048, .f32⟩
  | 42 => ⟨S1x2048, .f32⟩
  | 43 => ⟨S8192x2048, .f32⟩
  | 44 => ⟨S8192x2048, .f32⟩
  | 45 => ⟨S8192x2048, .f32⟩
  | 46 => ⟨S1x2048, .f32⟩
  | 47 => ⟨S2048, .f32⟩
  | 48 => ⟨S8192x2048, .f32⟩
  | 49 => ⟨S1x2048, .f32⟩
  | 50 => ⟨S8192x2048, .f32⟩
  | 51 => ⟨S8192x2048, .f32⟩
  | 52 => ⟨S8192x2048, .f32⟩
  | 53 => ⟨S1x2048, .f32⟩
  | 54 => ⟨S2048, .f32⟩
  | 55 => ⟨S8192x2048, .f32⟩
  | 56 => ⟨S1x2048, .f32⟩
  | 57 => ⟨S8192x2048, .f32⟩
  | 58 => ⟨S8192x2048, .f32⟩
  | 59 => ⟨S8192x2048, .f32⟩
  | 60 => ⟨S1x2048, .f32⟩
  | 61 => ⟨S2048, .f32⟩
  | 62 => ⟨S8192x2048, .f32⟩
  | 63 => ⟨S1x2048, .f32⟩
  | 64 => ⟨S8192x2048, .f32⟩
  | 65 => ⟨S8192x2048, .f32⟩
  | 66 => ⟨S8192x2048, .f32⟩
  | 67 => ⟨S1x2048, .f32⟩
  | 68 => ⟨S2048, .f32⟩
  | 69 => ⟨S8192x2048, .f32⟩
  | 70 => ⟨S1x2048, .f32⟩
  | 71 => ⟨S8192x2048, .f32⟩
  | 72 => ⟨S8192x2048, .f32⟩
  | 73 => ⟨S8192x2048, .f32⟩
  | 74 => ⟨S1x2048, .f32⟩
  | 75 => ⟨S2048, .f32⟩
  | 76 => ⟨S8192x2048, .f32⟩
  | 77 => ⟨S1x2048, .f32⟩
  | 78 => ⟨S8192x2048, .f32⟩
  | 79 => ⟨S8192x2048, .f32⟩
  | 80 => ⟨S8192x2048, .f32⟩
  | 81 => ⟨S1x2048, .f32⟩
  | 82 => ⟨S2048, .f32⟩
  | 83 => ⟨S8192x2048, .f32⟩
  | 84 => ⟨S1x2048, .f32⟩
  | 85 => ⟨S8192x2048, .f32⟩
  | 86 => ⟨S8192x2048, .f32⟩
  | 87 => ⟨S8192x2048, .f32⟩
  | 88 => ⟨S1x2048, .f32⟩
  | 89 => ⟨S2048, .f32⟩
  | 90 => ⟨S8192x2048, .f32⟩
  | 91 => ⟨S1x2048, .f32⟩
  | 92 => ⟨S8192x2048, .f32⟩
  | 93 => ⟨S8192x2048, .f32⟩
  | 94 => ⟨S8192x2048, .f32⟩
  | 95 => ⟨S1x2048, .f32⟩
  | 96 => ⟨S2048, .f32⟩
  | 97 => ⟨S8192x2048, .f32⟩
  | 98 => ⟨S1x2048, .f32⟩
  | 99 => ⟨S8192x2048, .f32⟩
  | 100 => ⟨S8192x2048, .f32⟩
  | 101 => ⟨S8192x2048, .f32⟩
  | 102 => ⟨S1x2048, .f32⟩
  | 103 => ⟨S8192x2048, .f32⟩
  | 104 => ⟨S8192x2048, .f32⟩
  | 105 => ⟨S_, .f32⟩
  | 106 => ⟨S8192, .f32⟩
  | 107 => ⟨S8192x1, .f32⟩
  | 108 => ⟨S_, .f32⟩
  | 109 => ⟨S8192x1, .f32⟩
  | 110 => ⟨S8192x1, .f32⟩
  | 111 => ⟨S8192x2048, .f32⟩
  | 112 => ⟨S8192x2048, .f32⟩
  | 113 => ⟨S8192x2048, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192x1, .f32⟩
  | 122 => ⟨S8192x1, .f32⟩
  | 123 => ⟨S8192x1, .f32⟩
  | 124 => ⟨S8192x2048, .f32⟩
  | 125 => ⟨S8192x2048, .f32⟩
  | 126 => ⟨S1x2048, .f32⟩
  | 127 => ⟨S8192x2048, .f32⟩
  | _ => ⟨S8192x2048, .f32⟩

abbrev hbmTy0_2 (i : Nat) : BufTy := match i % 128 with
  | 0 => ⟨S8192x2048, .f32⟩
  | 1 => ⟨S1x2048, .f32⟩
  | 2 => ⟨S8192x2048, .f32⟩
  | 3 => ⟨S8192x2048, .f32⟩
  | 4 => ⟨S8192x2048, .f32⟩
  | 5 => ⟨S8192x2048, .f32⟩
  | 6 => ⟨S_, .f32⟩
  | 7 => ⟨S8192x2048, .f32⟩
  | 8 => ⟨S8192x2048, .f32⟩
  | 9 => ⟨S_, .f32⟩
  | 10 => ⟨S8192x2048, .f32⟩
  | 11 => ⟨S8192x2048, .f32⟩
  | 12 => ⟨S8192x2048, .f32⟩
  | 13 => ⟨S8192x2048, .f32⟩
  | 14 => ⟨S1x2048, .f32⟩
  | 15 => ⟨S8192x2048, .f32⟩
  | 16 => ⟨S8192x2048, .f32⟩
  | 17 => ⟨S8192x2048, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_cst_0 : Ref sig .tc := ⟨.hbm, 233, rfl⟩
abbrev main_v222 : Ref sig .tc := ⟨.hbm, 234, rfl⟩
abbrev main_v223 : Ref sig .tc := ⟨.hbm, 235, rfl⟩
abbrev main_cst_1 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_cst_2 : Ref sig .tc := ⟨.hbm, 242, rfl⟩
abbrev main_v229 : Ref sig .tc := ⟨.hbm, 243, rfl⟩
abbrev main_v230 : Ref sig .tc := ⟨.hbm, 244, rfl⟩
abbrev main_cst_3 : Ref sig .tc := ⟨.hbm, 245, rfl⟩
abbrev main_v231 : Ref sig .tc := ⟨.hbm, 246, rfl⟩
abbrev main_v232 : Ref sig .tc := ⟨.hbm, 247, rfl⟩
abbrev main_cst_4 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_call1_v0 : Ref sig .tc := ⟨.hbm, 260, rfl⟩
abbrev main_call1_v1 : Ref sig .tc := ⟨.hbm, 261, rfl⟩
abbrev main_call1_cst : Ref sig .tc := ⟨.hbm, 262, rfl⟩
abbrev main_call1_v2 : Ref sig .tc := ⟨.hbm, 263, rfl⟩
abbrev main_call1_v3 : Ref sig .tc := ⟨.hbm, 264, rfl⟩
abbrev main_call1_cst_0 : Ref sig .tc := ⟨.hbm, 265, rfl⟩
abbrev main_call1_v4 : Ref sig .tc := ⟨.hbm, 266, rfl⟩
abbrev main_call1_v5 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩

abbrev nD : Nat := 1
abbrev τ : Topo := Topo.v7x

variable {F : FTy → Type} [FloatOps F]
-- ==== Dense.lean ====
abbrev S8192x2048 : Shape := ⟨2, ![8192, 2048]⟩
abbrev S16384x2048 : Shape := ⟨2, ![16384, 2048]⟩
abbrev S8x128x8192 : Shape := ⟨3, ![8, 128, 8192]⟩
abbrev S2048x8192 : Shape := ⟨2, ![2048, 8192]⟩
abbrev S2048x16384 : Shape := ⟨2, ![2048, 16384]⟩
abbrev S2048x512 : Shape := ⟨2, ![2048, 512]⟩
abbrev S256x2048 : Shape := ⟨2, ![256, 2048]⟩
abbrev S2048x256 : Shape := ⟨2, ![2048, 256]⟩
abbrev S8x128x512 : Shape := ⟨3, ![8, 128, 512]⟩
abbrev S512x2048 : Shape := ⟨2, ![512, 2048]⟩
abbrev S256x512 : Shape := ⟨2, ![256, 512]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S16384x2048, .f32⟩
  | .hbm, ⟨2, _⟩ => ⟨S16384x2048, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S16384x2048, .bf16⟩
  | .hbm, ⟨11, _⟩ => ⟨S2048x16384, .f32⟩
  | .hbm, ⟨12, _⟩ => ⟨S2048x16384, .bf16⟩
  | .hbm, ⟨13, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S256x2048, .bf16⟩
  | .local _ .vmem, ⟨3, _⟩ => ⟨S256x2048, .bf16⟩
  | .local _ .vmem, ⟨4, _⟩ => ⟨S2048x256, .bf16⟩
  | .local _ .vmem, ⟨5, _⟩ => ⟨S2048x256, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S2048x512, .f32⟩
  | .local _ .vmem, ⟨19, _⟩ => ⟨S256x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 64], ![false, false]⟩

def k0_off1 (i : grid0.Coords) (c0_i32_4 : BitVec 32) : Fin 3 → Nat :=
  let c0_8 : Index := 0#32
  let arg1 : BitVec 32 := BitVec.ofNat 32 (i 1).val
  let c2_i32 : BitVec 32 := 2#32
  let v8 : BitVec 32 := Scalar.muli arg1 c2_i32
  let v9 : BitVec 32 := Scalar.addi v8 c0_i32_4
  let v12 : Index := Scalar.indexCast v9
  let c0_9 : Index := 0#32
  ![0, v12.toNat, 0]
def k0_off2 (i : grid0.Coords) (c0_i32_4 : BitVec 32) : Fin 3 → Nat :=
  let c1_18 : Index := 1#32
  let arg1 : BitVec 32 := BitVec.ofNat 32 (i 1).val
  let c2_i32 : BitVec 32 := 2#32
  let v8 : BitVec 32 := Scalar.muli arg1 c2_i32
  let v9 : BitVec 32 := Scalar.addi v8 c0_i32_4
  let v28 : Index := Scalar.indexCast v9
  let c0_19 : Index := 0#32
  ![1, v28.toNat, 0]
def k0_off3 (i : grid0.Coords) (c0_i32_4 : BitVec 32) : Fin 3 → Nat :=
  let c2_28 : Index := 2#32
  let arg1 : BitVec 32 := BitVec.ofNat 32 (i 1).val
  let c2_i32 : BitVec 32 := 2#32
  let v8 : BitVec 32 := Scalar.muli arg1 c2_i32
  let v9 : BitVec 32 := Scalar.addi v8 c0_i32_4
  let v45 : Index := Scalar.indexCast v9
  let c0_29 : Index := 0#32
  ![2, v45.toNat, 0]
def k0_off4 (i : grid0.Coords) (c0_i32_4 : BitVec 32) : Fin 3 → Nat :=
  let c3_38 : Index := 3#32
  let arg1 : BitVec 32 := BitVec.ofNat 32 (i 1).val
  let c2_i32 : BitVec 32 := 2#32
  let v8 : BitVec 32 := Scalar.muli arg1 c2_i32
  let v9 : BitVec 32 := Scalar.addi v8 c0_i32_4
  let v62 : Index := Scalar.indexCast v9
  let c0_39 : Index := 0#32
  ![3, v62.toNat, 0]
def k0_off5 (i : grid0.Coords) (c0_i32_4 : BitVec 32) : Fin 3 → Nat :=
  let c4_48 : Index := 4#32
  let arg1 : BitVec 32 := BitVec.ofNat 32 (i 1).val
  let c2_i32 : BitVec 32 := 2#32
  let v8 : BitVec 32 := Scalar.muli arg1 c2_i32
  let v9 : BitVec 32 := Scalar.addi v8 c0_i32_4
  let v79 : Index := Scalar.indexCast v9
  let c0_49 : Index := 0#32
  ![4, v79.toNat, 0]
def k0_off6 (i : grid0.Coords) (c0_i32_4 : BitVec 32) : Fin 3 → Nat :=
  let c5_58 : Index := 5#32
  let arg1 : BitVec 32 := BitVec.ofNat 32 (i 1).val
  let c2_i32 : BitVec 32 := 2#32
  let v8 : BitVec 32 := Scalar.muli arg1 c2_i32
  let v9 : BitVec 32 := Scalar.addi v8 c0_i32_4
  let v96 : Index := Scalar.indexCast v9
  let c0_59 : Index := 0#32
  ![5, v96.toNat, 0]
def k0_off7 (i : grid0.Coords) (c0_i32_4 : BitVec 32) : Fin 3 → Nat :=
  let c6_68 : Index := 6#32
  let arg1 : BitVec 32 := BitVec.ofNat 32 (i 1).val
  let c2_i32 : BitVec 32 := 2#32
  let v8 : BitVec 32 := Scalar.muli arg1 c2_i32
  let v9 : BitVec 32 := Scalar.addi v8 c0_i32_4
  let v113 : Index := Scalar.indexCast v9
  let c0_69 : Index := 0#32
  ![6, v113.toNat, 0]
def k0_off8 (i : grid0.Coords) (c0_i32_4 : BitVec 32) : Fin 3 → Nat :=
  let c7_78 : Index := 7#32
  let arg1 : BitVec 32 := BitVec.ofNat 32 (i 1).val
  let c2_i32 : BitVec 32 := 2#32
  let v8 : BitVec 32 := Scalar.muli arg1 c2_i32
  let v9 : BitVec 32 := Scalar.addi v8 c0_i32_4
  let v130 : Index := Scalar.indexCast v9
  let c0_79 : Index := 0#32
  ![7, v130.toNat, 0]
def k0_cond2 (i : grid0.Coords) : BitVec 1 :=
  let arg1 : BitVec 32 := BitVec.ofNat 32 (i 1).val
  let c63_i32 : BitVec 32 := 63#32
  let v319 : BitVec 1 := Scalar.cmpi .eq arg1 c63_i32
  let v320 : BitVec 32 := Scalar.extui v319
  let c0_i32_193 : BitVec 32 := 0#32
  let v321 : BitVec 1 := Scalar.cmpi .ne v320 c0_i32_193
  v321

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DenseRefIdeal.lean ====
abbrev S8192x2048 : Shape := ⟨2, ![8192, 2048]⟩
abbrev S16384x2048 : Shape := ⟨2, ![16384, 2048]⟩
abbrev S8x128x8192 : Shape := ⟨3, ![8, 128, 8192]⟩
abbrev S8x1x128x8192 : Shape := ⟨4, ![8, 1, 128, 8192]⟩
abbrev S8x128x1x8192 : Shape := ⟨4, ![8, 128, 1, 8192]⟩
abbrev S8x128x128x8192 : Shape := ⟨4, ![8, 128, 128, 8192]⟩
abbrev S_ : Shape := ⟨0, ![]⟩
abbrev S128x128x8192 : Shape := ⟨3, ![128, 128, 8192]⟩
abbrev S16384x8192 : Shape := ⟨2, ![16384, 8192]⟩
abbrev S8192x16384 : Shape := ⟨2, ![8192, 16384]⟩
abbrev S2048x16384 : Shape := ⟨2, ![2048, 16384]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16384x2048, .f32⟩
  | .hbm, ⟨2, _⟩ => ⟨S16384x2048, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8192x2048, .f32⟩
  | .hbm, ⟨8, _⟩ => ⟨S8x1x128x8192, .f32⟩
  | .hbm, ⟨9, _⟩ => ⟨S8x128x1x8192, .f32⟩
  | .hbm, ⟨10, _⟩ => ⟨S8x128x128x8192, .f32⟩
  | .hbm, ⟨11, _⟩ => ⟨S8x128x128x8192, .f32⟩
  | .hbm, ⟨12, _⟩ => ⟨S8x128x128x8192, .i1⟩
  | .hbm, ⟨13, _⟩ => ⟨S8x1x128x8192, .f32⟩
  | .hbm, ⟨14, _⟩ => ⟨S8x128x1x8192, .f32⟩
  | .hbm, ⟨15, _⟩ => ⟨S8x128x128x8192, .f32⟩
  | .hbm, ⟨16, _⟩ => ⟨S8x128x128x8192, .f32⟩
  | .hbm, ⟨17, _⟩ => ⟨S8x128x128x8192, .f32⟩
  | .hbm, ⟨18, _⟩ => ⟨S_, .f32⟩
  | .hbm, ⟨19, _⟩ => ⟨S_, .f32⟩
  | .hbm, ⟨20, _⟩ => ⟨S8x128x128x8192, .f32⟩
  | .hbm, ⟨21, _⟩ => ⟨S8x128x128x8192, .f32⟩
  | .hbm, ⟨22, _⟩ => ⟨S_, .f32⟩
  | .hbm, ⟨23, _⟩ => ⟨S128x128x8192, .f32⟩
  | .hbm, ⟨24, _⟩ => ⟨S16384x8192, .f32⟩
  | .hbm, ⟨25, _⟩ => ⟨S8192x16384, .f32⟩
  | .hbm, ⟨26, _⟩ => ⟨S2048x16384, .f32⟩
  | .hbm, ⟨27, _⟩ => ⟨S8192x16384, .f32⟩
  | .hbm, ⟨28, _⟩ => ⟨S_, .f32⟩
  | .hbm, ⟨29, _⟩ => ⟨S8192x16384, .f32⟩
  | .hbm, ⟨30, _⟩ => ⟨S8192x16384, .f32⟩
  | .hbm, ⟨31, _⟩ => ⟨S8192x16384, .f32⟩
  | .hbm, ⟨32, _⟩ => ⟨S_, .f32⟩
  | .hbm, ⟨33, _⟩ => ⟨S8192x16384, .f32⟩
  | .hbm, ⟨34, _⟩ => ⟨S8192x16384, .f32⟩
  | .hbm, ⟨35, _⟩ => ⟨S8192x16384, .f32⟩
  | .hbm, ⟨36, _⟩ => ⟨S8192x16384, .f32⟩
  | .hbm, ⟨37, _⟩ => ⟨S8192x16384, .f32⟩
  | .hbm, ⟨38, _⟩ => ⟨S8192x2048, .f32⟩
  | .hbm, ⟨39, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== FinalNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S_ : Shape := ⟨0, ![]⟩
abbrev S1x2048 : Shape := ⟨2, ![1, 2048]⟩
abbrev S512x2048 : Shape := ⟨2, ![512, 2048]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S_, .f32⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.OutValue.lean ====
/-
  The output projection: the block product of the kernel is the whole product of the reference, row by row.
-/
module

public import proofs.«01_k».proof.Proof.Gen.OutProjIdeal.Value
public import proofs.«01_k».proof.Proof.Gen.OutProjRefIdeal.Run
public import Idealize.ShloMosaic.Lib.Pipeline.Value
public import Idealize.ShloMosaic.Lib.Pointwise

@[expose] public section

set_option maxRecDepth 16384

noncomputable section

namespace Cert.OutProjIdeal.RefValue

open Cert.OutProjIdeal Cert.OutProjIdeal.Gen Idealize.ShloMosaic Idealize.ShloMosaic.TcCoe Idealize.ShloMosaic.Tactic
open Idealize.SL.Sem Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The product of `y` and `w` added to `x`, entry by entry. -/
def proj (y : S8192x2048.Idx → EReal) (w : S2048x2048.Idx → EReal) (x : S8192x2048.Idx → EReal) : S8192x2048.Idx → EReal := fun i =>
  x i + ∑ k : Fin 2048, y (ix2 (i 0) k) * w (ix2 k (i 1))

/-- Where the blocks of a point lie: row block `t` of the activations, of the residual and of the result; the weights and
    the bias row whole. -/
theorem idx (t : Fin cfg0.N) : win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 :=
  (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0) t

/-- Row `r` of row block `t`. -/
def row (t : Fin cfg0.N) (r : Fin 512) : Fin 8192 := ⟨512 * t.val + r.val, by
  have h : t.val < 16 := lt_of_lt_of_eq t.isLt N_0
  omega⟩

/-- The activations' block of a point. -/
theorem iblk0 (c : Dev nD) (t : Fin cfg0.N) (y : S512x2048.Idx) :
    iblk m c 0 t y = m ((c : Thread nD τ).loc main_arg0) (ix2 (row t (y 0)) (y 1)) := by
  show V m c main_arg0 _ = _
  rw [V_main_arg0]
  obtain ⟨h, h', -⟩ := idx t
  refine congrArg _ (funext fun a => Fin.ext ?_)
  match a with
  | ⟨0, _⟩ => show win0_0.index t 0 * 512 + 1 * (y 0).val = 512 * t.val + (y 0).val; rw [h]; omega
  | ⟨1, _⟩ => show win0_0.index t 1 * 2048 + 1 * (y 1).val = (y 1).val; rw [h']; omega

/-- The residual's block of a point. -/
theorem iblk3 (c : Dev nD) (t : Fin cfg0.N) (y : S512x2048.Idx) :
    iblk m c 3 t y = m ((c : Thread nD τ).loc main_arg2) (ix2 (row t (y 0)) (y 1)) := by
  show V m c main_arg2 _ = _
  rw [V_main_arg2]
  obtain ⟨-, -, -, -, -, -, h, h', -⟩ := idx t
  refine congrArg _ (funext fun a => Fin.ext ?_)
  match a with
  | ⟨0, _⟩ => show win0_3.index t 0 * 512 + 1 * (y 0).val = 512 * t.val + (y 0).val; rw [h]; omega
  | ⟨1, _⟩ => show win0_3.index t 1 * 2048 + 1 * (y 1).val = (y 1).val; rw [h']; omega

/-- The weights' block of a point: the weights, whose cast is the identity. -/
theorem iblk1 (c : Dev nD) (t : Fin cfg0.N) (y : S2048x2048.Idx) :
    iblk m c 1 t y = m ((c : Thread nD τ).loc main_arg1) y := by
  have e : V m c main_v0 = m ((c : Thread nD τ).loc main_arg1) := by
    have : V m c main_v0 = truncf (F := Ideal) (s := S2048x2048) (φ := .f32) .bf16 (m ((c : Thread nD τ).loc main_arg1)) bitsLt_bf16_f32 := by
      show StableHlo.after hostOps0 (fun b => m (c, b)) main_v0 = _
      unfold hostOps0; after_results
    rw [this]; rfl
  show V m c main_v0 _ = _
  rw [e]
  obtain ⟨-, -, h, h', -⟩ := idx t
  refine congrArg _ (funext fun a => Fin.ext ?_)
  match a with
  | ⟨0, _⟩ => show win0_1.index t 0 * 2048 + 1 * (y 0).val = (y 0).val; rw [h]; omega
  | ⟨1, _⟩ => show win0_1.index t 1 * 2048 + 1 * (y 1).val = (y 1).val; rw [h']; omega

/-- The bias block of a point: zero. -/
theorem iblk2 (c : Dev nD) (t : Fin cfg0.N) (y : S1x2048.Idx) : iblk m c 2 t y = (0 : EReal) := by
  have e : V m c main_v1 = fun _ => (0 : EReal) := by
    have : V m c main_v1 = broadcastInDim S1x2048 ![] bcast_S_S1x2048 (constant (F := Ideal) S_ .f32 0x00000000#32) := by
      show StableHlo.after hostOps0 (fun b => m (c, b)) main_v1 = _
      unfold hostOps0; after_results
    rw [this]
    funext y
    pointwise
  show V m c main_v1 _ = _
  rw [e]

/-- The projection with its residual, of device `c`'s arguments. -/
def G (c : Dev nD) : Buf (Elt Ideal) ((c : Thread nD τ).loc main_v2) :=
  proj (m ((c : Thread nD τ).loc main_arg0)) (m ((c : Thread nD τ).loc main_arg1)) (m ((c : Thread nD τ).loc main_arg2))

/-- What a point writes back is its rows of the projection. -/
theorem flushed_eq (c : Dev nD) (t : Fin cfg0.N) :
    (dats m 0 c).flushed 4 t = ((cfg0.win 4).blk t).view.read (Elt Ideal) (G m c) := by
  rw [Value.flushed4]
  unfold out0_4
  rw [View.canon_unit_zero hz, View.ld_unit_zero hz, View.ld_unit_zero hz, View.ld_unit_zero hz, View.ld_unit_zero hz]
  funext y
  show k0_pay1 (F := Ideal) (iblk m c 3 t) (iblk m c 0 t) (iblk m c 1 t) (iblk m c 2 t) y = G m c (((cfg0.win 4).blk t).view.emb y)
  have e : (((cfg0.win 4).blk t).view.emb y) = (ix2 (row t (y 0)) (y 1) : S8192x2048.Idx) := by
    obtain ⟨-, -, -, -, -, -, -, -, h, h'⟩ := idx t
    refine funext fun a => Fin.ext ?_
    match a with
    | ⟨0, _⟩ => show win0_4.index t 0 * 512 + 1 * (y 0).val = 512 * t.val + (y 0).val; rw [h]; omega
    | ⟨1, _⟩ => show win0_4.index t 1 * 2048 + 1 * (y 1).val = (y 1).val; rw [h']; omega
  refine Eq.trans ?_ (congrArg (G m c) e).symm
  unfold G proj
  pointwise [k0_pay1]
  simp only [iblk0, iblk1, iblk2, iblk3, add_zero, zero_add]
  rfl

/-- The indices of a point's block: its 512 rows. -/
theorem mem_blk (t : Fin cfg0.N) (i : S8192x2048.Idx) (hi : (i 0 : Nat) / 512 = t.val) : i ∈ ((cfg0.win 4).blk t).view.set := by
  show i ∈ ((View.whole main_v2).slice (win0_4.rect t)).set
  rw [View.set_slice_whole, Rect.mem_set_unit]
  obtain ⟨-, -, -, -, -, -, -, -, h, h'⟩ := idx t
  have h1 : (i 1 : Nat) < 2048 := (i 1).isLt
  intro a
  match a with
  | ⟨0, _⟩ =>
    show win0_4.index t 0 * 512 ≤ (i 0 : Nat) ∧ (i 0 : Nat) < win0_4.index t 0 * 512 + 512
    rw [h]; omega
  | ⟨1, _⟩ =>
    show win0_4.index t 1 * 2048 ≤ (i 1 : Nat) ∧ (i 1 : Nat) < win0_4.index t 1 * 2048 + 2048
    rw [h']; omega

/-- Every row of the result is in some point's block. -/
theorem cover (i : S8192x2048.Idx) : ∃ t : Fin cfg0.N, (cfg0.win 4).flush t = true ∧ i ∈ ((cfg0.win 4).blk t).view.set := by
  have h0 : (i 0 : Nat) < 8192 := (i 0).isLt
  exact ⟨⟨(i 0).val / 512, lt_of_lt_of_eq (by omega : (i 0).val / 512 < 16) N_0.symm⟩, flush0_4 _, mem_blk _ i rfl⟩

/-- So the result array ends at the projection, -/
theorem final (c : Dev nD) : (dats m 0 c).arrAt 4 cfg0.N = G m c :=
  (dats m 0 c).arrAt_eq_of_cover 4 (G m c) (fun t _ => flushed_eq m c t) cover

/-- and the run, read: the result at the projection, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.OutProjIdeal.RefValue

namespace Cert.OutProjRefIdeal.RefValue

open Cert.OutProjRefIdeal Cert.OutProjRefIdeal.Gen Idealize.ShloMosaic

/-- The reference's value is the same function of the arguments. -/
theorem value (y : Vec Ideal S8192x2048 .bf16) (w : Vec Ideal S2048x2048 .f32) (x : Vec Ideal S8192x2048 .f32) :
    addf (F := Ideal) (φ := .f32) x (Host.dotGeneral (φ₂ := .f32) dot_S8192x2048_S2048x2048_S8192x2048_1_0_0_1_n_n none (extf .f32 y bitsLt_bf16_f32) w)
      = Cert.OutProjIdeal.RefValue.proj y w x := by
  funext i
  unfold Cert.OutProjIdeal.RefValue.proj
  pointwise

end Cert.OutProjRefIdeal.RefValue
-- ==== Proof.Common.lean ====
/-
  Whole-buffer loads and stores of a matrix, read: a load of the whole reads the buffer, a store of the whole leaves its value, and a
  load right after a store of the whole reads the stored value.
-/
module

public import Idealize.ShloMosaic.Lib.Pipeline.Value
public import Idealize.ShloMosaic.Lib.Ring
public import Idealize.ShloMosaic.Lib.Pointwise

@[expose] public section

noncomputable section

namespace Cert.Common

open Idealize.ShloMosaic

variable {F : FTy → Type} [FloatOps F]

/-- Both coordinates of the origin are zero. -/
theorem hz : (![0, 0] : Fin 2 → Nat) = fun _ => 0 := funext fun a => by fin_cases a <;> rfl

/-- A load of the whole of a matrix. -/
theorem ld2 {a b : ℕ} {e : EltTy} (x : Vec F ⟨2, ![a, b]⟩ e)
    (inb : ∀ i, (![0, 0] : Fin 2 → ℕ) i + (![a, b] : Fin 2 → ℕ) i ≤ (⟨2, ![a, b]⟩ : Shape).size i) :
    View.ld x (Rect.unit (s := ⟨2, ![a, b]⟩) ![0, 0] ![a, b] inb) = x :=
  View.ld_unit_zero (S := ⟨2, ![a, b]⟩) hz inb x

/-- A store of the whole of a matrix. -/
theorem canon2 {a b : ℕ} {e : EltTy} (w : Vec F ⟨2, ![a, b]⟩ e)
    (inb : ∀ i, (![0, 0] : Fin 2 → ℕ) i + (![a, b] : Fin 2 → ℕ) i ≤ (⟨2, ![a, b]⟩ : Shape).size i) :
    View.canon [(⟨Rect.unit (s := ⟨2, ![a, b]⟩) ![0, 0] ![a, b] inb, w⟩ : View.Piece (Elt F) ⟨2, ![a, b]⟩ e)] = w :=
  View.canon_unit_zero (S := ⟨2, ![a, b]⟩) hz inb w

/-- A load of the whole of a matrix just after the whole of it was stored. -/
theorem readCov2 {sig : RefSig} {κ : Kind} {sp : Space} {a b : ℕ} {e : EltTy} (v : View sig κ sp ⟨2, ![a, b]⟩ e)
    (inb inb' : ∀ i, (![0, 0] : Fin 2 → ℕ) i + (![a, b] : Fin 2 → ℕ) i ≤ (⟨2, ![a, b]⟩ : Shape).size i)
    (w : Vec F ⟨2, ![a, b]⟩ e) :
    v.readCov [(⟨Rect.unit (s := ⟨2, ![a, b]⟩) ![0, 0] ![a, b] inb, w⟩ : View.Piece (Elt F) ⟨2, ![a, b]⟩ e)]
        (Rect.unit (s := ⟨2, ![a, b]⟩) ![0, 0] ![a, b] inb').toLoadRect = w := by
  rw [View.readCov_eq_canon', canon2]
  exact ld2 w inb'

/-- The matrix `x` with every row divided by its root mean square (`eps` under the root) and every column scaled by `g`. -/
def rms {a b : ℕ} (n eps : EReal) (x : (⟨2, ![a, b]⟩ : Shape).Idx → EReal) (g : (⟨1, ![b]⟩ : Shape).Idx → EReal) :
    (⟨2, ![a, b]⟩ : Shape).Idx → EReal := fun i =>
  x i * Ideal.rsqrt (Ideal.div (∑ k : Fin b, x (ix2 (i 0) k) * x (ix2 (i 0) k)) n + eps) * g (ix1 (i 1))

end Cert.Common

end
-- ==== Proof.ConfValue.lean ====
/-
  The conformer's first half (normalise, project twice, gate): the kernel's blocks, with the normalised rows kept between the points
  of a row block, hold the value the reference computes on the whole arrays.
-/
module

public import proofs.«01_k».proof.Proof.Gen.ConfInIdeal.Value
public import proofs.«01_k».proof.Proof.Gen.ConfInRefIdeal.Run
public import proofs.«01_k».proof.Proof.Common

@[expose] public section

set_option maxRecDepth 16384

noncomputable section

namespace Cert.ConfInIdeal.RefValue

open Cert.ConfInIdeal Cert.ConfInIdeal.Gen Idealize.ShloMosaic Idealize.ShloMosaic.TcCoe Idealize.ShloMosaic.Tactic
open Idealize.SL.Sem Idealize.ShloMosaic.StableHlo
open Idealize.ShloMosaic.Pipeline (Dat)
open Cert.Common

section Points

variable {F : FTy → Type} [FloatOps F]
variable (m : (ℓ : Loc nD τ sig) → Buf (Elt F) ℓ)

set_option maxHeartbeats 4000000 in
/-- At a row block's first point: the normalised rows are stored, and the block is computed from them. -/
theorem outs_A (c : Dev nD) (t : Fin cfg0.N) (h0 : t.val % 4 = 0) : outsAt0 m c t.val t.isLt
    = (k0_pay2 (k0_pay1 (iblk m c 0 t) (iblk m c 1 t)) (iblk m c 2 t) (iblk m c 4 t) (iblk m c 3 t) (iblk m c 5 t),
       k0_pay1 (iblk m c 0 t) (iblk m c 1 t)) := by
  rw [outsAt0_A m c t h0]
  refine Prod.ext ?_ ?_
  · dsimp only
    unfold out0_A_6
    rw [View.read_writes_eq_canon _ _ _ (cover0_A_6 c _ _ _ _ _ _ _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread, (hs0_4 t).read_unread, (hs0_5 t).read_unread]
    simp only [canon2, ld2, readCov2]
  · dsimp only
    unfold sout0_A_0
    rw [View.read_writes_eq_canon _ _ _ (scover0_A_0 c _ _ _ _ _ _ _ _ _ _ _ _ _ _ _ _ _ _ _ _ _ _ _ _)]
    unfold kernelRun0_A; dsimp only; sl_unfold_words
    simp only [View.readAt_eq_ld, (hs0_0 t).read_unread, (hs0_1 t).read_unread]
    simp only [canon2, ld2]

set_option maxHeartbeats 4000000 in
/-- At its other points: the block is computed from the rows the point before left, which stay. -/
theorem outs_B (c : Dev nD) (t : Fin cfg0.N) (h0 : ¬t.val % 4 = 0) : outsAt0 m c t.val t.isLt
    = (k0_pay2 (outsAt0 m c (t.val - 1) (Nat.lt_of_le_of_lt (Nat.sub_le _ _) t.isLt)).2 (iblk m c 2 t) (iblk m c 4 t) (iblk m c 3 t) (iblk m c 5 t),
       (outsAt0 m c (t.val - 1) (Nat.lt_of_le_of_lt (Nat.sub_le _ _) t.isLt)).2) := by
  rw [outsAt0_B m c t h0]
  refine Prod.ext ?_ rfl
  dsimp only
  generalize (outsAt0 m c (t.val - 1) _).2 = xs
  unfold out0_B_6
  rw [View.read_writes_eq_canon _ _ _ (cover0_B_6 c _ _ _ _ _ _ _ _ _ _ _ _ _ _ _ _ _ _ _ _ _ _ _ _ _)]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (Memref.isWhole_whole _).read_unread]
  simp only [canon2, ld2]

end Points

variable (m : (ℓ : Loc nD τ sig) → Buf (Elt Ideal) ℓ) (ρ : Dev nD → PrngReg)

/-- Where the blocks of a point lie: row block `t / 4`, column block `t % 4` (of the second half, four blocks further). -/
theorem idx (t : Fin cfg0.N) : win0_0.index t 0 = t.val / 4
    ∧ win0_0.index t 1 = 0
    ∧ win0_1.index t 0 = 0
    ∧ win0_1.index t 1 = 0
    ∧ win0_2.index t 0 = 0
    ∧ win0_2.index t 1 = t.val % 4
    ∧ win0_3.index t 0 = 0
    ∧ win0_3.index t 1 = t.val % 4 + 4
    ∧ win0_4.index t 0 = 0
    ∧ win0_4.index t 1 = t.val % 4
    ∧ win0_5.index t 0 = 0
    ∧ win0_5.index t 1 = t.val % 4 + 4
    ∧ win0_6.index t 0 = t.val / 4
    ∧ win0_6.index t 1 = t.val % 4 :=
  (by decide +kernel : ∀ t : Fin grid0.N, win0_0.index t 0 = t.val / 4
    ∧ win0_0.index t 1 = 0
    ∧ win0_1.index t 0 = 0
    ∧ win0_1.index t 1 = 0
    ∧ win0_2.index t 0 = 0
    ∧ win0_2.index t 1 = t.val % 4
    ∧ win0_3.index t 0 = 0
    ∧ win0_3.index t 1 = t.val % 4 + 4
    ∧ win0_4.index t 0 = 0
    ∧ win0_4.index t 1 = t.val % 4
    ∧ win0_5.index t 0 = 0
    ∧ win0_5.index t 1 = t.val % 4 + 4
    ∧ win0_6.index t 0 = t.val / 4
    ∧ win0_6.index t 1 = t.val % 4) t

/-- Row `r` of a point's row block. -/
def row (t : Fin cfg0.N) (r : Fin 1024) : Fin 8192 := ⟨1024 * (t.val / 4) + r.val, by
  have h : t.val < 32 := lt_of_lt_of_eq t.isLt N_0
  omega⟩
/-- Column `r` of a point's column block. -/
def col (t : Fin cfg0.N) (r : Fin 512) : Fin 2048 := ⟨512 * (t.val % 4) + r.val, by omega⟩
/-- The same column of the first half of the weights, -/
def lo (j : Fin 2048) : Fin 4096 := ⟨j.val, by omega⟩
/-- and of the second. -/
def hi (j : Fin 2048) : Fin 4096 := ⟨2048 + j.val, by omega⟩

/-- The activations' block. -/
theorem iblk0 (c : Dev nD) (t : Fin cfg0.N) (y : S1024x2048.Idx) : iblk m c 0 t y = m ((c : Thread nD τ).loc main_arg0) (ix2 (row t (y 0)) (y 1)) := by
  show V m c main_arg0 _ = _
  rw [V_main_arg0]
  obtain ⟨h, h', -⟩ := idx t
  refine congrArg _ (funext fun a => Fin.ext ?_)
  match a with
  | ⟨0, _⟩ => show win0_0.index t 0 * 1024 + 1 * (y 0).val = 1024 * (t.val / 4) + (y 0).val; rw [h]; omega
  | ⟨1, _⟩ => show win0_0.index t 1 * 2048 + 1 * (y 1).val = (y 1).val; rw [h']; omega

/-- The scale, as a row. -/
theorem V_v0 (c : Dev nD) (y : S1x2048.Idx) : V m c main_v0 y = m ((c : Thread nD τ).loc main_arg1) (ix1 (y 1)) := by
  have : V m c main_v0 = shapeCast (α := EReal) (s := S2048) S1x2048 (m ((c : Thread nD τ).loc main_arg1)) shapeCasts_S2048_S1x2048 := by
    show StableHlo.after hostOps0 (fun b => m (c, b)) main_v0 = _
    unfold hostOps0; after_results; rfl
  rw [this]
  pointwise

/-- The weights: their cast is the identity. -/
theorem V_v1 (c : Dev nD) : V m c main_v1 = m ((c : Thread nD τ).loc main_arg2) := by
  have : V m c main_v1 = truncf (F := Ideal) (s := S2048x4096) (φ := .f32) .bf16 (m ((c : Thread nD τ).loc main_arg2)) bitsLt_bf16_f32 := by
    show StableHlo.after hostOps0 (fun b => m (c, b)) main_v1 = _
    unfold hostOps0; after_results
  rw [this]; rfl

/-- The bias, as a row. -/
theorem V_v2 (c : Dev nD) (y : S1x4096.Idx) : V m c main_v2 y = m ((c : Thread nD τ).loc main_arg3) (ix1 (y 1)) := by
  have : V m c main_v2 = shapeCast (α := EReal) (s := S4096) S1x4096 (m ((c : Thread nD τ).loc main_arg3)) shapeCasts_S4096_S1x4096 := by
    show StableHlo.after hostOps0 (fun b => m (c, b)) main_v2 = _
    unfold hostOps0; after_results; rfl
  rw [this]
  pointwise

/-- The scale's block. -/
theorem iblk1 (c : Dev nD) (t : Fin cfg0.N) (y : S1x2048.Idx) : iblk m c 1 t y = m ((c : Thread nD τ).loc main_arg1) (ix1 (y 1)) := by
  refine Eq.trans (V_v0 m c (((cfg0.win 1).blk t).view.emb y)) ?_
  obtain ⟨-, -, -, h, -⟩ := idx t
  refine congrArg _ (congrArg _ (Fin.ext ?_))
  show win0_1.index t 1 * 2048 + 1 * (y 1).val = (y 1).val; rw [h]; omega

/-- The first half's weights. -/
theorem iblk2 (c : Dev nD) (t : Fin cfg0.N) (y : S2048x512.Idx) : iblk m c 2 t y = m ((c : Thread nD τ).loc main_arg2) (ix2 (y 0) (lo (col t (y 1)))) := by
  show V m c main_v1 _ = _
  rw [V_v1]
  obtain ⟨-, -, -, -, h, h', -⟩ := idx t
  refine congrArg _ (funext fun a => Fin.ext ?_)
  match a with
  | ⟨0, _⟩ => show win0_2.index t 0 * 2048 + 1 * (y 0).val = (y 0).val; rw [h]; omega
  | ⟨1, _⟩ => show win0_2.index t 1 * 512 + 1 * (y 1).val = 512 * (t.val % 4) + (y 1).val; rw [h']; omega

/-- The second half's weights. -/
theorem iblk3 (c : Dev nD) (t : Fin cfg0.N) (y : S2048x512.Idx) : iblk m c 3 t y = m ((c : Thread nD τ).loc main_arg2) (ix2 (y 0) (hi (col t (y 1)))) := by
  show V m c main_v1 _ = _
  rw [V_v1]
  obtain ⟨-, -, -, -, -, -, h, h', -⟩ := idx t
  refine congrArg _ (funext fun a => Fin.ext ?_)
  match a with
  | ⟨0, _⟩ => show win0_3.index t 0 * 2048 + 1 * (y 0).val = (y 0).val; rw [h]; omega
  | ⟨1, _⟩ => show win0_3.index t 1 * 512 + 1 * (y 1).val = 2048 + (512 * (t.val % 4) + (y 1).val); rw [h']; omega

/-- The first half's bias. -/
theorem iblk4 (c : Dev nD) (t : Fin cfg0.N) (y : S1x512.Idx) : iblk m c 4 t y = m ((c : Thread nD τ).loc main_arg3) (ix1 (lo (col t (y 1)))) := by
  refine Eq.trans (V_v2 m c (((cfg0.win 4).blk t).view.emb y)) ?_
  obtain ⟨-, -, -, -, -, -, -, -, -, h, -⟩ := idx t
  refine congrArg _ (congrArg _ (Fin.ext ?_))
  show win0_4.index t 1 * 512 + 1 * (y 1).val = (lo (col t (y 1))).val; rw [h]; simp only [lo, hi, col]; omega

/-- The second half's bias. -/
theorem iblk5 (c : Dev nD) (t : Fin cfg0.N) (y : S1x512.Idx) : iblk m c 5 t y = m ((c : Thread nD τ).loc main_arg3) (ix1 (hi (col t (y 1)))) := by
  refine Eq.trans (V_v2 m c (((cfg0.win 5).blk t).view.emb y)) ?_
  obtain ⟨-, -, -, -, -, -, -, -, -, -, -, h, -⟩ := idx t
  refine congrArg _ (congrArg _ (Fin.ext ?_))
  show win0_5.index t 1 * 512 + 1 * (y 1).val = (hi (col t (y 1))).val; rw [h]; simp only [lo, hi, col]; omega

/-- The normalised activations. -/
def hn (x : S8192x2048.Idx → EReal) (g : S2048.Idx → EReal) : S8192x2048.Idx → EReal :=
  rms (Ideal.ofBits .f32 0x45000000#32) (Ideal.ofBits .f32 0x358637BD#32) x g

/-- The gated projection: the first half of the columns times the logistic function of the second. -/
def glu (x : S8192x2048.Idx → EReal) (g : S2048.Idx → EReal) (w : S2048x4096.Idx → EReal) (b : S4096.Idx → EReal) : S8192x2048.Idx → EReal := fun i =>
  (∑ k : Fin 2048, hn x g (ix2 (i 0) k) * w (ix2 k (lo (i 1))) + b (ix1 (lo (i 1))))
    * Ideal.logistic (∑ k : Fin 2048, hn x g (ix2 (i 0) k) * w (ix2 k (hi (i 1))) + b (ix1 (hi (i 1))))

/-- What the scratch holds after a point: the normalised rows of its row block. -/
theorem scr_eq (c : Dev nD) : ∀ (n : ℕ) (h : n < cfg0.N), (outsAt0 m c n h).2
    = fun y : S1024x2048.Idx => hn (m ((c : Thread nD τ).loc main_arg0)) (m ((c : Thread nD τ).loc main_arg1)) (ix2 (row ⟨n, h⟩ (y 0)) (y 1)) := by
  have base : ∀ t : Fin cfg0.N, k0_pay1 (F := Ideal) (iblk m c 0 t) (iblk m c 1 t)
      = fun y : S1024x2048.Idx => hn (m ((c : Thread nD τ).loc main_arg0)) (m ((c : Thread nD τ).loc main_arg1)) (ix2 (row t (y 0)) (y 1)) := by
    intro t
    funext y
    unfold hn rms
    pointwise [k0_pay1]
    simp only [iblk0, iblk1]
    rfl
  intro n
  induction n with
  | zero => intro h; rw [show outsAt0 m c 0 h = _ from outs_A m c ⟨0, h⟩ rfl]; exact base ⟨0, h⟩
  | succ n ih =>
    intro h
    by_cases h0 : (n + 1) % 4 = 0
    · rw [show outsAt0 m c (n + 1) h = _ from outs_A m c ⟨n + 1, h⟩ h0]; exact base ⟨n + 1, h⟩
    · rw [show outsAt0 m c (n + 1) h = _ from outs_B m c ⟨n + 1, h⟩ h0]
      refine (ih _).trans ?_
      funext y
      have e : row ⟨n, Nat.lt_of_succ_lt h⟩ (y 0) = row ⟨n + 1, h⟩ (y 0) := Fin.ext (by
        show 1024 * (n / 4) + _ = 1024 * ((n + 1) / 4) + _
        omega)
      exact congrArg (fun r => hn _ _ (ix2 r (y 1))) e

/-- What a point computes. -/
theorem out_eq (c : Dev nD) (t : Fin cfg0.N) (y : S1024x512.Idx) : (outsAt0 m c t.val t.isLt).1 y
    = glu (m ((c : Thread nD τ).loc main_arg0)) (m ((c : Thread nD τ).loc main_arg1)) (m ((c : Thread nD τ).loc main_arg2)) (m ((c : Thread nD τ).loc main_arg3))
        (ix2 (row t (y 0)) (col t (y 1))) := by
  have e : (outsAt0 m c t.val t.isLt).1
      = k0_pay2 (outsAt0 m c t.val t.isLt).2 (iblk m c 2 t) (iblk m c 4 t) (iblk m c 3 t) (iblk m c 5 t) := by
    by_cases h0 : t.val % 4 = 0
    · rw [outs_A m c t h0]
    · rw [outs_B m c t h0]
  rw [e, scr_eq]
  unfold glu
  pointwise [k0_pay2]
  simp only [iblk2, iblk3, iblk4, iblk5]
  rfl

/-- The result array of device `c`'s arguments. -/
def G (c : Dev nD) : Buf (Elt Ideal) ((c : Thread nD τ).loc main_v3) :=
  glu (m ((c : Thread nD τ).loc main_arg0)) (m ((c : Thread nD τ).loc main_arg1)) (m ((c : Thread nD τ).loc main_arg2)) (m ((c : Thread nD τ).loc main_arg3))

/-- What a point writes back is its block of the result. -/
theorem flushed_eq (c : Dev nD) (t : Fin cfg0.N) :
    (dats m 0 c).flushed 6 t = ((cfg0.win 6).blk t).view.read (Elt Ideal) (G m c) := by
  rw [Value.flushed6]
  funext y
  refine (out_eq m c t y).trans (congrArg (G m c) ?_)
  obtain ⟨-, -, -, -, -, -, -, -, -, -, -, -, h, h'⟩ := idx t
  refine funext fun a => Fin.ext ?_
  match a with
  | ⟨0, _⟩ => show 1024 * (t.val / 4) + (y 0).val = win0_6.index t 0 * 1024 + 1 * (y 0).val; rw [h]; omega
  | ⟨1, _⟩ => show 512 * (t.val % 4) + (y 1).val = win0_6.index t 1 * 512 + 1 * (y 1).val; rw [h']; omega

/-- The indices of a point's block. -/
theorem mem_blk (t : Fin cfg0.N) (i : S8192x2048.Idx) (h0 : (i 0 : Nat) / 1024 = t.val / 4) (h1 : (i 1 : Nat) / 512 = t.val % 4) :
    i ∈ ((cfg0.win 6).blk t).view.set := by
  show i ∈ ((View.whole main_v3).slice (win0_6.rect t)).set
  rw [View.set_slice_whole, Rect.mem_set_unit]
  obtain ⟨-, -, -, -, -, -, -, -, -, -, -, -, h, h'⟩ := idx t
  intro a
  match a with
  | ⟨0, _⟩ =>
    show win0_6.index t 0 * 1024 ≤ (i 0 : Nat) ∧ (i 0 : Nat) < win0_6.index t 0 * 1024 + 1024
    rw [h]; omega
  | ⟨1, _⟩ =>
    show win0_6.index t 1 * 512 ≤ (i 1 : Nat) ∧ (i 1 : Nat) < win0_6.index t 1 * 512 + 512
    rw [h']; omega

/-- Every index of the result is in some point's block. -/
theorem cover (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  refine ⟨⟨4 * ((i 0).val / 1024) + (i 1).val / 512, lt_of_lt_of_eq (by omega : 4 * ((i 0).val / 1024) + (i 1).val / 512 < 32) N_0.symm⟩, flush0_6 _, mem_blk _ i ?_ ?_⟩
  · dsimp only; omega
  · dsimp only; omega

/-- So the result array ends at the gated projection, -/
theorem final (c : Dev nD) : (dats m 0 c).arrAt 6 cfg0.N = G m c :=
  (dats m 0 c).arrAt_eq_of_cover 6 (G m c) (fun t _ => flushed_eq m c t) cover

/-- and the run, read: the result at the gated projection, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.ConfInIdeal.RefValue

namespace Cert.ConfInRefIdeal.RefValue

open Cert.ConfInRefIdeal Cert.ConfInRefIdeal.Gen Idealize.ShloMosaic Idealize.ShloMosaic.TcCoe Idealize.SL.Sem
open Cert.Common Cert.ConfInIdeal.RefValue

set_option maxHeartbeats 2000000 in
/-- The reference's run, read: its result is the same gated projection of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = glu (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      funext i
      unfold glu hn rms Ideal.logistic
      pointwise
      rfl), (h c).2⟩) (Value.run m ρ)

end Cert.ConfInRefIdeal.RefValue

end
-- ==== Proof.Cumsum.lean ====
/-
  A running sum along one axis, as the host's window sum prints it: at the ideal numbers, the sum of the entries up to the index.
-/
module

public import proofs.«01_k».proof.Proof.Common
public import Idealize.ShloMosaic.Lib.IdealHost

@[expose] public section

noncomputable section

namespace Cert.Cumsum

open Idealize.ShloMosaic

/-- A left fold of additions is the sum. -/
theorem foldl_add {n : ℕ} (g : Fin n → EReal) (v : EReal) : (List.finRange n).foldl (fun r k => r + g k) v = v + ∑ k, g k := by
  rw [Fin.sum_univ_def]
  generalize List.finRange n = l
  induction l generalizing v with
  | nil => simp
  | cons a l ih => simp only [List.foldl_cons, List.map_cons, List.sum_cons]; rw [ih, add_assoc]

/-- The window sum, as a sum over the window's positions. -/
theorem window_sum {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0 := by
  unfold Ideal.hostReduceWindowAdd Host.reduceWindow
  refine (foldl_add _ _).trans ?_
  rw [zero_add]
  exact Fintype.sum_equiv (⟨s.rank, window⟩ : Shape).rowMajor.symm _ _ fun n => by
    dsimp only
    split <;> rfl

/-- A sum over the last `j + 1` positions of a window of `N` that ends at `j` is the sum of the entries up to `j`. -/
theorem sum_shift {N : ℕ} (f : Fin N → EReal) (j : Fin N) :
    (∑ b : Fin N, if hin : N - 1 ≤ j.val + b.val ∧ j.val + b.val - (N - 1) < N then f ⟨j.val + b.val - (N - 1), hin.2⟩ else 0)
      = ∑ r : Fin N, if r.val ≤ j.val then f r else 0 := by
  classical
  have hj := j.isLt
  rw [← Finset.sum_filter]
  have e : ∀ b : Fin N, (if hin : N - 1 ≤ j.val + b.val ∧ j.val + b.val - (N - 1) < N then f ⟨j.val + b.val - (N - 1), hin.2⟩ else 0)
      = if N - 1 ≤ j.val + b.val then f ⟨j.val + b.val - (N - 1), by have := b.isLt; omega⟩ else 0 := by
    intro b
    have hb := b.isLt
    by_cases h : N - 1 ≤ j.val + b.val
    · rw [dif_pos ⟨h, by omega⟩, if_pos h]
    · rw [dif_neg (fun h' => h h'.1), if_neg h]
  rw [Finset.sum_congr rfl fun b _ => e b, ← Finset.sum_filter]
  refine Finset.sum_bij' (fun b _ => ⟨j.val + b.val - (N - 1), by have := b.isLt; omega⟩) (fun r _ => ⟨(r.val + (N - 1) - j.val) % N, Nat.mod_lt _ (by omega)⟩) ?_ ?_ ?_ ?_ ?_
  · intro b hb
    have := b.isLt
    simp only [Finset.mem_filter, Finset.mem_univ, true_and] at hb ⊢
    omega
  · intro r hr
    have := r.isLt
    simp only [Finset.mem_filter, Finset.mem_univ, true_and] at hr ⊢
    rw [Nat.mod_eq_of_lt (by omega)]
    omega
  · intro b hb
    have := b.isLt
    simp only [Finset.mem_filter, Finset.mem_univ, true_and] at hb
    refine Fin.ext ?_
    show (j.val + b.val - (N - 1) + (N - 1) - j.val) % N = b.val
    rw [Nat.mod_eq_of_lt (by omega)]
    omega
  · intro r hr
    have := r.isLt
    simp only [Finset.mem_filter, Finset.mem_univ, true_and] at hr
    refine Fin.ext ?_
    show j.val + (r.val + (N - 1) - j.val) % N - (N - 1) = r.val
    rw [Nat.mod_eq_of_lt (by omega)]
    omega
  · intro b _
    rfl

/-- The running sum down the rows of a matrix of four rows. -/
theorem cumsum_rows {b : ℕ} (h : (⟨2, ![4, b]⟩ : Shape).ReduceWindows (![4, 1] : Fin 2 → ℕ) ![1, 1] ![3, 0] ![0, 0] ⟨2, ![4, b]⟩)
    (x : (⟨2, ![4, b]⟩ : Shape).Idx → EReal) (j : Fin 4) (k : Fin b) :
    Ideal.hostReduceWindowAdd (s := ⟨2, ![4, b]⟩) (![4, 1] : Fin 2 → ℕ) ![1, 1] ![3, 0] ![0, 0] h x 0 (ix2 j k)
      = ∑ r : Fin 4, if r.val ≤ j.val then x (ix2 r k) else 0 := by
  rw [window_sum, ← sum_shift (fun r => x (ix2 r k)) j]
  refine (sum_idx2 _).trans (Finset.sum_congr rfl fun w _ => ?_)
  rw [Fin.sum_univ_one]
  have hj := j.isLt
  have hk := k.isLt
  have hw := w.isLt
  by_cases hin : 4 - 1 ≤ j.val + w.val ∧ j.val + w.val - (4 - 1) < 4
  · rw [dif_pos hin, dif_pos]
    · refine congrArg x (funext fun a => Fin.ext ?_)
      match a with
      | ⟨0, _⟩ => show j.val * 1 + w.val - 3 = j.val + w.val - (4 - 1); omega
      | ⟨1, _⟩ => show k.val * 1 + 0 - 0 = k.val; omega
    · intro a
      match a with
      | ⟨0, _⟩ => show 3 ≤ j.val * 1 + w.val ∧ j.val * 1 + w.val - 3 < 4; omega
      | ⟨1, _⟩ => show 0 ≤ k.val * 1 + 0 ∧ k.val * 1 + 0 - 0 < b; omega
  · rw [dif_neg hin, dif_neg]
    intro hh
    have h0 : 3 ≤ j.val * 1 + w.val ∧ j.val * 1 + w.val - 3 < 4 := hh 0
    omega

/-- The running sum along the middle axis, of extent 64, of a rank-three array. -/
theorem cumsum_mid {a b : ℕ} (h : (⟨3, ![a, 64, b]⟩ : Shape).ReduceWindows (![1, 64, 1] : Fin 3 → ℕ) ![1, 1, 1] ![0, 63, 0] ![0, 0, 0] ⟨3, ![a, 64, b]⟩)
    (x : (⟨3, ![a, 64, b]⟩ : Shape).Idx → EReal) (i : Fin a) (j : Fin 64) (k : Fin b) :
    Ideal.hostReduceWindowAdd (s := ⟨3, ![a, 64, b]⟩) (![1, 64, 1] : Fin 3 → ℕ) ![1, 1, 1] ![0, 63, 0] ![0, 0, 0] h x 0 (ix3 i j k)
      = ∑ r : Fin 64, if r.val ≤ j.val then x (ix3 i r k) else 0 := by
  rw [window_sum, ← sum_shift (fun r => x (ix3 i r k)) j]
  refine (sum_idx3 _).trans ?_
  rw [Fin.sum_univ_one]
  refine Finset.sum_congr rfl fun w _ => ?_
  rw [Fin.sum_univ_one]
  have hi := i.isLt
  have hj := j.isLt
  have hk := k.isLt
  have hw := w.isLt
  by_cases hin : 64 - 1 ≤ j.val + w.val ∧ j.val + w.val - (64 - 1) < 64
  · rw [dif_pos hin, dif_pos]
    · refine congrArg x (funext fun c => Fin.ext ?_)
      match c with
      | ⟨0, _⟩ => show i.val * 1 + 0 - 0 = i.val; omega
      | ⟨1, _⟩ => show j.val * 1 + w.val - 63 = j.val + w.val - (64 - 1); omega
      | ⟨2, _⟩ => show k.val * 1 + 0 - 0 = k.val; omega
    · intro c
      match c with
      | ⟨0, _⟩ => show 0 ≤ i.val * 1 + 0 ∧ i.val * 1 + 0 - 0 < a; omega
      | ⟨1, _⟩ => show 63 ≤ j.val * 1 + w.val ∧ j.val * 1 + w.val - 63 < 64; omega
      | ⟨2, _⟩ => show 0 ≤ k.val * 1 + 0 ∧ k.val * 1 + 0 - 0 < b; omega
  · rw [dif_neg hin, dif_neg]
    intro hh
    have h0 : 63 ≤ j.val * 1 + w.val ∧ j.val * 1 + w.val - 63 < 64 := hh 1
    omega

/-- The host's window sum over the four rows, from a zero start. -/
theorem host_rows {b : ℕ} {u : Shape} (h : (⟨2, ![4, b]⟩ : Shape).ReduceWindows (![4, 1] : Fin 2 → ℕ) ![1, 1] ![3, 0] ![0, 0] ⟨2, ![4, b]⟩)
    (hu : 0 < u.numel) (x : FVec Ideal ⟨2, ![4, b]⟩ .f32) (v : FVec Ideal u .f32) (hv : ∀ i, v i = (0 : EReal)) (j : Fin 4) (k : Fin b) :
    (Host.reduceWindowAdd (![4, 1] : Fin 2 → ℕ) ![1, 1] ![3, 0] ![0, 0] x v h hu (ix2 j k) : EReal)
      = ∑ r : Fin 4, if r.val ≤ j.val then x (ix2 r k) else 0 := by
  refine Eq.trans ?_ (cumsum_rows h x j k)
  show Ideal.hostReduceWindowAdd _ _ _ _ h x (v (Shape.Idx.first hu)) _ = _
  rw [hv]

/-- The host's window sum along the middle axis, from a zero start. -/
theorem host_mid {a b : ℕ} {u : Shape} (h : (⟨3, ![a, 64, b]⟩ : Shape).ReduceWindows (![1, 64, 1] : Fin 3 → ℕ) ![1, 1, 1] ![0, 63, 0] ![0, 0, 0] ⟨3, ![a, 64, b]⟩)
    (hu : 0 < u.numel) (x : FVec Ideal ⟨3, ![a, 64, b]⟩ .f32) (v : FVec Ideal u .f32) (hv : ∀ i, v i = (0 : EReal)) (i : Fin a) (j : Fin 64) (k : Fin b) :
    (Host.reduceWindowAdd (![1, 64, 1] : Fin 3 → ℕ) ![1, 1, 1] ![0, 63, 0] ![0, 0, 0] x v h hu (ix3 i j k) : EReal)
      = ∑ r : Fin 64, if r.val ≤ j.val then x (ix3 i r k) else 0 := by
  refine Eq.trans ?_ (cumsum_mid h x i j k)
  show Ideal.hostReduceWindowAdd _ _ _ _ h x (v (Shape.Idx.first hu)) _ = _
  rw [hv]

end Cert.Cumsum

end
-- ==== Proof.HgrnValue.lean ====
/-
  The recurrence's input half (normalise, four projections, the lower bound of the forget gate): the kernel's blocks, with the
  normalised rows kept between the points of a row block, hold the values the reference computes on the whole arrays.
-/
module

public import proofs.«01_k».proof.Proof.Gen.HgrnInIdeal.Value
public import proofs.«01_k».proof.Proof.Gen.HgrnInRefIdeal.Run
public import proofs.«01_k».proof.Proof.Common
public import proofs.«01_k».proof.Proof.Cumsum
public import Idealize.ShloMosaic.Lib.Tactic.CleanTypes

@[expose] public section

set_option maxRecDepth 16384

noncomputable section

namespace Cert.HgrnInIdeal.RefValue

open Cert.HgrnInIdeal Cert.HgrnInIdeal.Gen Idealize.ShloMosaic Idealize.ShloMosaic.TcCoe Idealize.ShloMosaic.Tactic
open Idealize.SL.Sem Idealize.ShloMosaic.StableHlo
open Idealize.ShloMosaic.Pipeline (Dat)
open Cert.Common

section Points

variable {F : FTy → Type} [FloatOps F]
variable (m : (ℓ : Loc nD τ sig) → Buf (Elt F) ℓ)

/-- The four blocks of a point, from the normalised rows `s`. -/
def blocks (c : Dev nD) (t : Fin cfg0.N) (s : Vec F S1024x2048 .bf16) :
    Vec F S1024x512 .bf16 × Vec F S1024x512 .f32 × Vec F S1024x512 .bf16 × Vec F S1024x512 .bf16 × Vec F S1024x2048 .bf16 :=
  (k0_pay4 s (iblk m c 2 t), k0_pay5 s (iblk m c 6 t) (iblk m c 3 t), k0_pay1 s (iblk m c 4 t), k0_pay2 s (iblk m c 7 t) (iblk m c 5 t), s)

set_option maxHeartbeats 8000000 in
/-- At a row block's first point: the normalised rows are stored, and the blocks are computed from them. -/
theorem outs_A (c : Dev nD) (t : Fin cfg0.N) (h0 : t.val % 4 = 0) :
    outsAt0 m c t.val t.isLt = blocks m c t (k0_pay3 (iblk m c 0 t) (iblk m c 1 t)) := by
  rw [outsAt0_A m c t h0]
  refine Prod.ext ?_ (Prod.ext ?_ (Prod.ext ?_ (Prod.ext ?_ ?_)))
  · dsimp only [blocks]
    unfold out0_A_8
    rw [View.read_writes_eq_canon _ _ _ (cover0_A_8 c _ _ _ _ _ _ _ _ _ _ _ _ _ _ _ _ _ _ _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
    simp only [canon2, ld2, readCov2]
  · dsimp only [blocks]
    unfold out0_A_9
    rw [View.read_writes_eq_canon _ _ _ (cover0_A_9 c _ _ _ _ _ _ _ _ _ _ _ _ _ _ _ _ _ _ _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
    simp only [canon2, ld2, readCov2]
  · dsimp only [blocks]
    unfold out0_A_10
    rw [View.read_writes_eq_canon _ _ _ (cover0_A_10 c _ _ _ _ _ _ _ _ _ _ _ _ _ _ _ _ _ _ _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
    simp only [canon2, ld2, readCov2]
  · dsimp only [blocks]
    unfold out0_A_11
    rw [View.read_writes_eq_canon _ _ _ (cover0_A_11 c _ _ _ _ _ _ _ _ _ _ _ _ _ _ _ _ _ _ _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
    simp only [canon2, ld2, readCov2]
  · dsimp only [blocks]
    unfold sout0_A_0
    rw [View.read_writes_eq_canon _ _ _ (scover0_A_0 c _ _ _ _ _ _ _ _ _ _ _ _ _ _ _ _ _ _ _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
    simp only [canon2, ld2, readCov2]

set_option maxHeartbeats 8000000 in
/-- At its other points: the blocks are computed from the rows the point before left, which stay. -/
theorem outs_B (c : Dev nD) (t : Fin cfg0.N) (h0 : ¬t.val % 4 = 0) : outsAt0 m c t.val t.isLt
    = blocks m c t (outsAt0 m c (t.val - 1) (Nat.lt_of_le_of_lt (Nat.sub_le _ _) t.isLt)).2.2.2.2 := by
  rw [outsAt0_B m c t h0]
  generalize (outsAt0 m c (t.val - 1) _).2.2.2.2 = xs
  refine Prod.ext ?_ (Prod.ext ?_ (Prod.ext ?_ (Prod.ext ?_ rfl)))
  · dsimp only [blocks]
    unfold out0_B_8
    rw [View.read_writes_eq_canon _ _ _ (cover0_B_8 c _ _ _ _ _ _ _ _ _ _ _ _ _ _ _ _ _ _ _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
    simp only [canon2, ld2, readCov2]
  · dsimp only [blocks]
    unfold out0_B_9
    rw [View.read_writes_eq_canon _ _ _ (cover0_B_9 c _ _ _ _ _ _ _ _ _ _ _ _ _ _ _ _ _ _ _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
    simp only [canon2, ld2, readCov2]
  · dsimp only [blocks]
    unfold out0_B_10
    rw [View.read_writes_eq_canon _ _ _ (cover0_B_10 c _ _ _ _ _ _ _ _ _ _ _ _ _ _ _ _ _ _ _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
    simp only [canon2, ld2, readCov2]
  · dsimp only [blocks]
    unfold out0_B_11
    rw [View.read_writes_eq_canon _ _ _ (cover0_B_11 c _ _ _ _ _ _ _ _ _ _ _ _ _ _ _ _ _ _ _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
    simp only [canon2, ld2, readCov2]

end Points

variable (m : (ℓ : Loc nD τ sig) → Buf (Elt Ideal) ℓ) (ρ : Dev nD → PrngReg)

/-- Where the blocks of a point lie: row block `t / 4`, column block `t % 4` (of the later quarters, four blocks further each). -/
theorem idx (t : Fin cfg0.N) : win0_0.index t 0 = t.val / 4
    ∧ win0_0.index t 1 = 0
    ∧ win0_1.index t 0 = 0
    ∧ win0_1.index t 1 = 0
    ∧ win0_2.index t 0 = 0
    ∧ win0_2.index t 1 = t.val % 4
    ∧ win0_3.index t 0 = 0
    ∧ win0_3.index t 1 = t.val % 4 + 4
    ∧ win0_4.index t 0 = 0
    ∧ win0_4.index t 1 = t.val % 4 + 8
    ∧ win0_5.index t 0 = 0
    ∧ win0_5.index t 1 = t.val % 4 + 12
    ∧ win0_6.index t 0 = 0
    ∧ win0_6.index t 1 = t.val % 4
    ∧ win0_7.index t 0 = 0
    ∧ win0_7.index t 1 = t.val % 4
    ∧ win0_8.index t 0 = t.val / 4
    ∧ win0_8.index t 1 = t.val % 4
    ∧ win0_9.index t 0 = t.val / 4
    ∧ win0_9.index t 1 = t.val % 4
    ∧ win0_10.index t 0 = t.val / 4
    ∧ win0_10.index t 1 = t.val % 4
    ∧ win0_11.index t 0 = t.val / 4
    ∧ win0_11.index t 1 = t.val % 4 :=
  (by decide +kernel : ∀ t : Fin grid0.N, win0_0.index t 0 = t.val / 4
    ∧ win0_0.index t 1 = 0
    ∧ win0_1.index t 0 = 0
    ∧ win0_1.index t 1 = 0
    ∧ win0_2.index t 0 = 0
    ∧ win0_2.index t 1 = t.val % 4
    ∧ win0_3.index t 0 = 0
    ∧ win0_3.index t 1 = t.val % 4 + 4
    ∧ win0_4.index t 0 = 0
    ∧ win0_4.index t 1 = t.val % 4 + 8
    ∧ win0_5.index t 0 = 0
    ∧ win0_5.index t 1 = t.val % 4 + 12
    ∧ win0_6.index t 0 = 0
    ∧ win0_6.index t 1 = t.val % 4
    ∧ win0_7.index t 0 = 0
    ∧ win0_7.index t 1 = t.val % 4
    ∧ win0_8.index t 0 = t.val / 4
    ∧ win0_8.index t 1 = t.val % 4
    ∧ win0_9.index t 0 = t.val / 4
    ∧ win0_9.index t 1 = t.val % 4
    ∧ win0_10.index t 0 = t.val / 4
    ∧ win0_10.index t 1 = t.val % 4
    ∧ win0_11.index t 0 = t.val / 4
    ∧ win0_11.index t 1 = t.val % 4) t

/-- Row `r` of a point's row block. -/
def row (t : Fin cfg0.N) (r : Fin 1024) : Fin 8192 := ⟨1024 * (t.val / 4) + r.val, by
  have h : t.val < 32 := lt_of_lt_of_eq t.isLt N_0
  omega⟩
/-- Column `r` of a point's column block. -/
def col (t : Fin cfg0.N) (r : Fin 512) : Fin 2048 := ⟨512 * (t.val % 4) + r.val, by omega⟩
/-- The same column of a quarter of the weights: the quarter starts at column `2048 p`. -/
def qtr (p : Fin 4) (j : Fin 2048) : Fin 8192 := ⟨2048 * p.val + j.val, by omega⟩

/-- The activations' block. -/
theorem iblk0 (c : Dev nD) (t : Fin cfg0.N) (y : S1024x2048.Idx) : iblk m c 0 t y = m ((c : Thread nD τ).loc main_arg0) (ix2 (row t (y 0)) (y 1)) := by
  show V m c main_arg0 _ = _
  rw [V_main_arg0]
  obtain ⟨h, h', -⟩ := idx t
  refine congrArg _ (funext fun a => Fin.ext ?_)
  match a with
  | ⟨0, _⟩ => show win0_0.index t 0 * 1024 + 1 * (y 0).val = 1024 * (t.val / 4) + (y 0).val; rw [h]; omega
  | ⟨1, _⟩ => show win0_0.index t 1 * 2048 + 1 * (y 1).val = (y 1).val; rw [h']; omega

/-- The scale, as a row. -/
theorem V_v0 (c : Dev nD) (y : S1x2048.Idx) : V m c main_v0 y = m ((c : Thread nD τ).loc main_arg1) (ix1 (y 1)) := by
  have : V m c main_v0 = shapeCast (α := EReal) (s := S2048) S1x2048 (m ((c : Thread nD τ).loc main_arg1)) shapeCasts_S2048_S1x2048 := by
    show StableHlo.after hostOps0 (fun b => m (c, b)) main_v0 = _
    unfold hostOps0; after_results; rfl
  rw [this]
  pointwise

/-- The gate's scale, as a row. -/
theorem V_v2 (c : Dev nD) (y : S1x2048.Idx) : V m c main_v2 y = m ((c : Thread nD τ).loc main_arg4) (ix1 (y 1)) := by
  have : V m c main_v2 = shapeCast (α := EReal) (s := S2048) S1x2048 (m ((c : Thread nD τ).loc main_arg4)) shapeCasts_S2048_S1x2048 := by
    show StableHlo.after hostOps0 (fun b => m (c, b)) main_v2 = _
    unfold hostOps0; after_results; rfl
  rw [this]
  pointwise

/-- The weights: their cast is the identity. -/
theorem V_v1 (c : Dev nD) : V m c main_v1 = m ((c : Thread nD τ).loc main_arg2) := by
  have : V m c main_v1 = truncf (F := Ideal) (s := S2048x8192) (φ := .f32) .bf16 (m ((c : Thread nD τ).loc main_arg2)) bitsLt_bf16_f32 := by
    show StableHlo.after hostOps0 (fun b => m (c, b)) main_v1 = _
    unfold hostOps0; after_results
  rw [this]; rfl

/-- The scale's block. -/
theorem iblk1 (c : Dev nD) (t : Fin cfg0.N) (y : S1x2048.Idx) : iblk m c 1 t y = m ((c : Thread nD τ).loc main_arg1) (ix1 (y 1)) := by
  refine Eq.trans (V_v0 m c (((cfg0.win 1).blk t).view.emb y)) ?_
  obtain ⟨-, -, -, h, -⟩ := idx t
  refine congrArg _ (congrArg _ (Fin.ext ?_))
  show win0_1.index t 1 * 2048 + 1 * (y 1).val = (y 1).val; rw [h]; omega

/-- Quarter 0 of the weights. -/
theorem iblk2 (c : Dev nD) (t : Fin cfg0.N) (y : S2048x512.Idx) : iblk m c 2 t y = m ((c : Thread nD τ).loc main_arg2) (ix2 (y 0) (qtr 0 (col t (y 1)))) := by
  show V m c main_v1 _ = _
  rw [V_v1]
  obtain ⟨-, -, -, -, h, h', -⟩ := idx t
  refine congrArg _ (funext fun a => Fin.ext ?_)
  match a with
  | ⟨0, _⟩ => show win0_2.index t 0 * 2048 + 1 * (y 0).val = (y 0).val; rw [h]; omega
  | ⟨1, _⟩ => show win0_2.index t 1 * 512 + 1 * (y 1).val = 2048 * 0 + (512 * (t.val % 4) + (y 1).val); rw [h']; omega

/-- Quarter 1 of the weights. -/
theorem iblk3 (c : Dev nD) (t : Fin cfg0.N) (y : S2048x512.Idx) : iblk m c 3 t y = m ((c : Thread nD τ).loc main_arg2) (ix2 (y 0) (qtr 1 (col t (y 1)))) := by
  show V m c main_v1 _ = _
  rw [V_v1]
  obtain ⟨-, -, -, -, -, -, h, h', -⟩ := idx t
  refine congrArg _ (funext fun a => Fin.ext ?_)
  match a with
  | ⟨0, _⟩ => show win0_3.index t 0 * 2048 + 1 * (y 0).val = (y 0).val; rw [h]; omega
  | ⟨1, _⟩ => show win0_3.index t 1 * 512 + 1 * (y 1).val = 2048 * 1 + (512 * (t.val % 4) + (y 1).val); rw [h']; omega

/-- Quarter 2 of the weights. -/
theorem iblk4 (c : Dev nD) (t : Fin cfg0.N) (y : S2048x512.Idx) : iblk m c 4 t y = m ((c : Thread nD τ).loc main_arg2) (ix2 (y 0) (qtr 2 (col t (y 1)))) := by
  show V m c main_v1 _ = _
  rw [V_v1]
  obtain ⟨-, -, -, -, -, -, -, -, h, h', -⟩ := idx t
  refine congrArg _ (funext fun a => Fin.ext ?_)
  match a with
  | ⟨0, _⟩ => show win0_4.index t 0 * 2048 + 1 * (y 0).val = (y 0).val; rw [h]; omega
  | ⟨1, _⟩ => show win0_4.index t 1 * 512 + 1 * (y 1).val = 2048 * 2 + (512 * (t.val % 4) + (y 1).val); rw [h']; omega

/-- Quarter 3 of the weights. -/
theorem iblk5 (c : Dev nD) (t : Fin cfg0.N) (y : S2048x512.Idx) : iblk m c 5 t y = m ((c : Thread nD τ).loc main_arg2) (ix2 (y 0) (qtr 3 (col t (y 1)))) := by
  show V m c main_v1 _ = _
  rw [V_v1]
  obtain ⟨-, -, -, -, -, -, -, -, -, -, h, h', -⟩ := idx t
  refine congrArg _ (funext fun a => Fin.ext ?_)
  match a with
  | ⟨0, _⟩ => show win0_5.index t 0 * 2048 + 1 * (y 0).val = (y 0).val; rw [h]; omega
  | ⟨1, _⟩ => show win0_5.index t 1 * 512 + 1 * (y 1).val = 2048 * 3 + (512 * (t.val % 4) + (y 1).val); rw [h']; omega

/-- The bound's logits. -/
theorem iblk6 (c : Dev nD) (t : Fin cfg0.N) (y : S4x512.Idx) : iblk m c 6 t y = m ((c : Thread nD τ).loc main_arg3) (ix2 (y 0) (col t (y 1))) := by
  show V m c main_arg3 _ = _
  rw [V_main_arg3]
  obtain ⟨-, -, -, -, -, -, -, -, -, -, -, -, h, h', -⟩ := idx t
  refine congrArg _ (funext fun a => Fin.ext ?_)
  match a with
  | ⟨0, _⟩ => show win0_6.index t 0 * 4 + 1 * (y 0).val = (y 0).val; rw [h]; omega
  | ⟨1, _⟩ => show win0_6.index t 1 * 512 + 1 * (y 1).val = 512 * (t.val % 4) + (y 1).val; rw [h']; omega

/-- The gate's scale. -/
theorem iblk7 (c : Dev nD) (t : Fin cfg0.N) (y : S1x512.Idx) : iblk m c 7 t y = m ((c : Thread nD τ).loc main_arg4) (ix1 (col t (y 1))) := by
  refine Eq.trans (V_v2 m c (((cfg0.win 7).blk t).view.emb y)) ?_
  obtain ⟨-, -, -, -, -, -, -, -, -, -, -, -, -, -, -, h, -⟩ := idx t
  refine congrArg _ (congrArg _ (Fin.ext ?_))
  show win0_7.index t 1 * 512 + 1 * (y 1).val = (col t (y 1)).val; rw [h]; simp only [col]; omega

/-- The normalised activations. -/
def hn (x : S8192x2048.Idx → EReal) (g : S2048.Idx → EReal) : S8192x2048.Idx → EReal :=
  rms (Ideal.ofBits .f32 0x45000000#32) (Ideal.ofBits .f32 0x358637BD#32) x g

/-- Quarter `p` of the projection. -/
def pr (x : S8192x2048.Idx → EReal) (g : S2048.Idx → EReal) (w : S2048x8192.Idx → EReal) (p : Fin 4) (i : S8192x2048.Idx) : EReal :=
  ∑ k : Fin 2048, hn x g (ix2 (i 0) k) * w (ix2 k (qtr p (i 1)))

/-- The softmax over the four layers' logits, of one column. -/
def soft (l : S4x2048.Idx → EReal) (r : Fin 4) (j : Fin 2048) : EReal :=
  Ideal.div (Ideal.exp (l (ix2 r j) - Finset.univ.fold max (Ideal.ofBits .f32 0xFF800000#32) fun k : Fin 4 => l (ix2 k j)))
    (∑ s : Fin 4, Ideal.exp (l (ix2 s j) - Finset.univ.fold max (Ideal.ofBits .f32 0xFF800000#32) fun k : Fin 4 => l (ix2 k j)))

/-- The lower bound of the third layer: the sum of its softmax entries up to it, less the first. -/
def bound (l : S4x2048.Idx → EReal) (j : Fin 2048) : EReal := soft l 0 j + soft l 1 j + soft l 2 j - soft l 0 j

/-- The queries. -/
def fq (x : S8192x2048.Idx → EReal) (g : S2048.Idx → EReal) (w : S2048x8192.Idx → EReal) : S8192x2048.Idx → EReal := fun i =>
  pr x g w 0 i * Ideal.logistic (pr x g w 0 i)
/-- The forget gate, between its lower bound and one. -/
def ff (x : S8192x2048.Idx → EReal) (g : S2048.Idx → EReal) (w : S2048x8192.Idx → EReal) (l : S4x2048.Idx → EReal) : S8192x2048.Idx → EReal := fun i =>
  bound l (i 1) + (1 - bound l (i 1)) * Ideal.logistic (pr x g w 1 i)
/-- The values. -/
def fv (x : S8192x2048.Idx → EReal) (g : S2048.Idx → EReal) (w : S2048x8192.Idx → EReal) : S8192x2048.Idx → EReal := fun i => pr x g w 2 i
/-- The output gate. -/
def fg (x : S8192x2048.Idx → EReal) (g : S2048.Idx → EReal) (w : S2048x8192.Idx → EReal) (n : S2048.Idx → EReal) : S8192x2048.Idx → EReal := fun i =>
  n (ix1 (i 1)) * (pr x g w 3 i * Ideal.logistic (pr x g w 3 i))

/-- What the scratch holds after a point: the normalised rows of its row block. -/
theorem scr_eq (c : Dev nD) : ∀ (n : ℕ) (h : n < cfg0.N), (outsAt0 m c n h).2.2.2.2
    = fun y : S1024x2048.Idx => hn (m ((c : Thread nD τ).loc main_arg0)) (m ((c : Thread nD τ).loc main_arg1)) (ix2 (row ⟨n, h⟩ (y 0)) (y 1)) := by
  have base : ∀ t : Fin cfg0.N, k0_pay3 (F := Ideal) (iblk m c 0 t) (iblk m c 1 t)
      = fun y : S1024x2048.Idx => hn (m ((c : Thread nD τ).loc main_arg0)) (m ((c : Thread nD τ).loc main_arg1)) (ix2 (row t (y 0)) (y 1)) := by
    intro t
    funext y
    unfold hn rms
    pointwise [k0_pay3]
    simp only [iblk0, iblk1]
    rfl
  intro n
  induction n with
  | zero => intro h; rw [show outsAt0 m c 0 h = _ from outs_A m c ⟨0, h⟩ rfl]; exact base ⟨0, h⟩
  | succ n ih =>
    intro h
    by_cases h0 : (n + 1) % 4 = 0
    · rw [show outsAt0 m c (n + 1) h = _ from outs_A m c ⟨n + 1, h⟩ h0]; exact base ⟨n + 1, h⟩
    · rw [show outsAt0 m c (n + 1) h = _ from outs_B m c ⟨n + 1, h⟩ h0]
      refine (ih _).trans ?_
      funext y
      have e : row ⟨n, Nat.lt_of_succ_lt h⟩ (y 0) = row ⟨n + 1, h⟩ (y 0) := Fin.ext (by
        show 1024 * (n / 4) + _ = 1024 * ((n + 1) / 4) + _
        omega)
      exact congrArg (fun r => hn _ _ (ix2 r (y 1))) e

/-- What a point leaves, from the normalised rows. -/
theorem outs_eq (c : Dev nD) (t : Fin cfg0.N) : outsAt0 m c t.val t.isLt
    = blocks m c t fun y : S1024x2048.Idx => hn (m ((c : Thread nD τ).loc main_arg0)) (m ((c : Thread nD τ).loc main_arg1)) (ix2 (row t (y 0)) (y 1)) := by
  have e : outsAt0 m c t.val t.isLt = blocks m c t (outsAt0 m c t.val t.isLt).2.2.2.2 := by
    by_cases h0 : t.val % 4 = 0
    · rw [outs_A m c t h0]; rfl
    · rw [outs_B m c t h0]; rfl
  rw [e, scr_eq]

/-- The queries a point computes. -/
theorem out_q (c : Dev nD) (t : Fin cfg0.N) (y : S1024x512.Idx) : (outsAt0 m c t.val t.isLt).1 y
    = fq (m ((c : Thread nD τ).loc main_arg0)) (m ((c : Thread nD τ).loc main_arg1)) (m ((c : Thread nD τ).loc main_arg2)) (ix2 (row t (y 0)) (col t (y 1))) := by
  rw [outs_eq]
  unfold blocks fq pr
  pointwise [k0_pay4]
  simp only [iblk2]
  rfl

/-- What a point writes back of the queries. -/
theorem flushed_q (c : Dev nD) (t : Fin cfg0.N) : (dats m 0 c).flushed 8 t
    = ((cfg0.win 8).blk t).view.read (Elt Ideal) ((fq (m ((c : Thread nD τ).loc main_arg0)) (m ((c : Thread nD τ).loc main_arg1)) (m ((c : Thread nD τ).loc main_arg2)) : S8192x2048.Idx → EReal) : Buf (Elt Ideal) ((c : Thread nD τ).loc main_v3_0)) := by
  rw [Value.flushed8]
  funext y
  refine (out_q m c t y).trans (congrArg (fq (m ((c : Thread nD τ).loc main_arg0)) (m ((c : Thread nD τ).loc main_arg1)) (m ((c : Thread nD τ).loc main_arg2))) ?_)
  obtain ⟨-, -, -, -, -, -, -, -, -, -, -, -, -, -, -, -, h, h', -⟩ := idx t
  refine funext fun a => Fin.ext ?_
  match a with
  | ⟨0, _⟩ => show 1024 * (t.val / 4) + (y 0).val = win0_8.index t 0 * 1024 + 1 * (y 0).val; rw [h]; omega
  | ⟨1, _⟩ => show 512 * (t.val % 4) + (y 1).val = win0_8.index t 1 * 512 + 1 * (y 1).val; rw [h']; omega

/-- The indices of a point's block. -/
theorem mem_q (t : Fin cfg0.N) (i : S8192x2048.Idx) (h0 : (i 0 : Nat) / 1024 = t.val / 4) (h1 : (i 1 : Nat) / 512 = t.val % 4) :
    i ∈ ((cfg0.win 8).blk t).view.set := by
  show i ∈ ((View.whole main_v3_0).slice (win0_8.rect t)).set
  rw [View.set_slice_whole, Rect.mem_set_unit]
  obtain ⟨-, -, -, -, -, -, -, -, -, -, -, -, -, -, -, -, h, h', -⟩ := idx t
  intro a
  match a with
  | ⟨0, _⟩ =>
    show win0_8.index t 0 * 1024 ≤ (i 0 : Nat) ∧ (i 0 : Nat) < win0_8.index t 0 * 1024 + 1024
    rw [h]; omega
  | ⟨1, _⟩ =>
    show win0_8.index t 1 * 512 ≤ (i 1 : Nat) ∧ (i 1 : Nat) < win0_8.index t 1 * 512 + 512
    rw [h']; omega

/-- The array of the queries after the run. -/
theorem final_q (c : Dev nD) : (dats m 0 c).arrAt 8 cfg0.N = ((fq (m ((c : Thread nD τ).loc main_arg0)) (m ((c : Thread nD τ).loc main_arg1)) (m ((c : Thread nD τ).loc main_arg2)) : S8192x2048.Idx → EReal) : Buf (Elt Ideal) ((c : Thread nD τ).loc main_v3_0)) :=
  (dats m 0 c).arrAt_eq_of_cover 8 _ (fun t _ => flushed_q m c t) fun i => by
    have h0 : (i 0 : Nat) < 8192 := (i 0).isLt
    have h1 : (i 1 : Nat) < 2048 := (i 1).isLt
    refine ⟨⟨4 * ((i 0).val / 1024) + (i 1).val / 512, lt_of_lt_of_eq (by omega : 4 * ((i 0).val / 1024) + (i 1).val / 512 < 32) N_0.symm⟩, flush0_8 _, mem_q _ i ?_ ?_⟩
    · dsimp only; omega
    · dsimp only; omega

/-- The forget gate a point computes. -/
theorem out_f (c : Dev nD) (t : Fin cfg0.N) (y : S1024x512.Idx) : (outsAt0 m c t.val t.isLt).2.1 y
    = ff (m ((c : Thread nD τ).loc main_arg0)) (m ((c : Thread nD τ).loc main_arg1)) (m ((c : Thread nD τ).loc main_arg2)) (m ((c : Thread nD τ).loc main_arg3)) (ix2 (row t (y 0)) (col t (y 1))) := by
  rw [outs_eq]
  unfold blocks ff pr bound soft
  pointwise [k0_pay5]
  simp only [iblk3, iblk6]
  rfl

/-- What a point writes back of the forget gate. -/
theorem flushed_f (c : Dev nD) (t : Fin cfg0.N) : (dats m 0 c).flushed 9 t
    = ((cfg0.win 9).blk t).view.read (Elt Ideal) ((ff (m ((c : Thread nD τ).loc main_arg0)) (m ((c : Thread nD τ).loc main_arg1)) (m ((c : Thread nD τ).loc main_arg2)) (m ((c : Thread nD τ).loc main_arg3)) : S8192x2048.Idx → EReal) : Buf (Elt Ideal) ((c : Thread nD τ).loc main_v3_1)) := by
  rw [Value.flushed9]
  funext y
  refine (out_f m c t y).trans (congrArg (ff (m ((c : Thread nD τ).loc main_arg0)) (m ((c : Thread nD τ).loc main_arg1)) (m ((c : Thread nD τ).loc main_arg2)) (m ((c : Thread nD τ).loc main_arg3))) ?_)
  obtain ⟨-, -, -, -, -, -, -, -, -, -, -, -, -, -, -, -, -, -, h, h', -⟩ := idx t
  refine funext fun a => Fin.ext ?_
  match a with
  | ⟨0, _⟩ => show 1024 * (t.val / 4) + (y 0).val = win0_9.index t 0 * 1024 + 1 * (y 0).val; rw [h]; omega
  | ⟨1, _⟩ => show 512 * (t.val % 4) + (y 1).val = win0_9.index t 1 * 512 + 1 * (y 1).val; rw [h']; omega

/-- The indices of a point's block. -/
theorem mem_f (t : Fin cfg0.N) (i : S8192x2048.Idx) (h0 : (i 0 : Nat) / 1024 = t.val / 4) (h1 : (i 1 : Nat) / 512 = t.val % 4) :
    i ∈ ((cfg0.win 9).blk t).view.set := by
  show i ∈ ((View.whole main_v3_1).slice (win0_9.rect t)).set
  rw [View.set_slice_whole, Rect.mem_set_unit]
  obtain ⟨-, -, -, -, -, -, -, -, -, -, -, -, -, -, -, -, -, -, h, h', -⟩ := idx t
  intro a
  match a with
  | ⟨0, _⟩ =>
    show win0_9.index t 0 * 1024 ≤ (i 0 : Nat) ∧ (i 0 : Nat) < win0_9.index t 0 * 1024 + 1024
    rw [h]; omega
  | ⟨1, _⟩ =>
    show win0_9.index t 1 * 512 ≤ (i 1 : Nat) ∧ (i 1 : Nat) < win0_9.index t 1 * 512 + 512
    rw [h']; omega

/-- The array of the forget gate after the run. -/
theorem final_f (c : Dev nD) : (dats m 0 c).arrAt 9 cfg0.N = ((ff (m ((c : Thread nD τ).loc main_arg0)) (m ((c : Thread nD τ).loc main_arg1)) (m ((c : Thread nD τ).loc main_arg2)) (m ((c : Thread nD τ).loc main_arg3)) : S8192x2048.Idx → EReal) : Buf (Elt Ideal) ((c : Thread nD τ).loc main_v3_1)) :=
  (dats m 0 c).arrAt_eq_of_cover 9 _ (fun t _ => flushed_f m c t) fun i => by
    have h0 : (i 0 : Nat) < 8192 := (i 0).isLt
    have h1 : (i 1 : Nat) < 2048 := (i 1).isLt
    refine ⟨⟨4 * ((i 0).val / 1024) + (i 1).val / 512, lt_of_lt_of_eq (by omega : 4 * ((i 0).val / 1024) + (i 1).val / 512 < 32) N_0.symm⟩, flush0_9 _, mem_f _ i ?_ ?_⟩
    · dsimp only; omega
    · dsimp only; omega

/-- The values a point computes. -/
theorem out_v (c : Dev nD) (t : Fin cfg0.N) (y : S1024x512.Idx) : (outsAt0 m c t.val t.isLt).2.2.1 y
    = fv (m ((c : Thread nD τ).loc main_arg0)) (m ((c : Thread nD τ).loc main_arg1)) (m ((c : Thread nD τ).loc main_arg2)) (ix2 (row t (y 0)) (col t (y 1))) := by
  rw [outs_eq]
  unfold blocks fv pr
  pointwise [k0_pay1]
  simp only [iblk4]
  rfl

/-- What a point writes back of the values. -/
theorem flushed_v (c : Dev nD) (t : Fin cfg0.N) : (dats m 0 c).flushed 10 t
    = ((cfg0.win 10).blk t).view.read (Elt Ideal) ((fv (m ((c : Thread nD τ).loc main_arg0)) (m ((c : Thread nD τ).loc main_arg1)) (m ((c : Thread nD τ).loc main_arg2)) : S8192x2048.Idx → EReal) : Buf (Elt Ideal) ((c : Thread nD τ).loc main_v3_2)) := by
  rw [Value.flushed10]
  funext y
  refine (out_v m c t y).trans (congrArg (fv (m ((c : Thread nD τ).loc main_arg0)) (m ((c : Thread nD τ).loc main_arg1)) (m ((c : Thread nD τ).loc main_arg2))) ?_)
  obtain ⟨-, -, -, -, -, -, -, -, -, -, -, -, -, -, -, -, -, -, -, -, h, h', -⟩ := idx t
  refine funext fun a => Fin.ext ?_
  match a with
  | ⟨0, _⟩ => show 1024 * (t.val / 4) + (y 0).val = win0_10.index t 0 * 1024 + 1 * (y 0).val; rw [h]; omega
  | ⟨1, _⟩ => show 512 * (t.val % 4) + (y 1).val = win0_10.index t 1 * 512 + 1 * (y 1).val; rw [h']; omega

/-- The indices of a point's block. -/
theorem mem_v (t : Fin cfg0.N) (i : S8192x2048.Idx) (h0 : (i 0 : Nat) / 1024 = t.val / 4) (h1 : (i 1 : Nat) / 512 = t.val % 4) :
    i ∈ ((cfg0.win 10).blk t).view.set := by
  show i ∈ ((View.whole main_v3_2).slice (win0_10.rect t)).set
  rw [View.set_slice_whole, Rect.mem_set_unit]
  obtain ⟨-, -, -, -, -, -, -, -, -, -, -, -, -, -, -, -, -, -, -, -, h, h', -⟩ := idx t
  intro a
  match a with
  | ⟨0, _⟩ =>
    show win0_10.index t 0 * 1024 ≤ (i 0 : Nat) ∧ (i 0 : Nat) < win0_10.index t 0 * 1024 + 1024
    rw [h]; omega
  | ⟨1, _⟩ =>
    show win0_10.index t 1 * 512 ≤ (i 1 : Nat) ∧ (i 1 : Nat) < win0_10.index t 1 * 512 + 512
    rw [h']; omega

/-- The array of the values after the run. -/
theorem final_v (c : Dev nD) : (dats m 0 c).arrAt 10 cfg0.N = ((fv (m ((c : Thread nD τ).loc main_arg0)) (m ((c : Thread nD τ).loc main_arg1)) (m ((c : Thread nD τ).loc main_arg2)) : S8192x2048.Idx → EReal) : Buf (Elt Ideal) ((c : Thread nD τ).loc main_v3_2)) :=
  (dats m 0 c).arrAt_eq_of_cover 10 _ (fun t _ => flushed_v m c t) fun i => by
    have h0 : (i 0 : Nat) < 8192 := (i 0).isLt
    have h1 : (i 1 : Nat) < 2048 := (i 1).isLt
    refine ⟨⟨4 * ((i 0).val / 1024) + (i 1).val / 512, lt_of_lt_of_eq (by omega : 4 * ((i 0).val / 1024) + (i 1).val / 512 < 32) N_0.symm⟩, flush0_10 _, mem_v _ i ?_ ?_⟩
    · dsimp only; omega
    · dsimp only; omega

/-- The output gate a point computes. -/
theorem out_g (c : Dev nD) (t : Fin cfg0.N) (y : S1024x512.Idx) : (outsAt0 m c t.val t.isLt).2.2.2.1 y
    = fg (m ((c : Thread nD τ).loc main_arg0)) (m ((c : Thread nD τ).loc main_arg1)) (m ((c : Thread nD τ).loc main_arg2)) (m ((c : Thread nD τ).loc main_arg4)) (ix2 (row t (y 0)) (col t (y 1))) := by
  rw [outs_eq]
  unfold blocks fg pr
  pointwise [k0_pay2]
  simp only [iblk5, iblk7]
  rfl

/-- What a point writes back of the output gate. -/
theorem flushed_g (c : Dev nD) (t : Fin cfg0.N) : (dats m 0 c).flushed 11 t
    = ((cfg0.win 11).blk t).view.read (Elt Ideal) ((fg (m ((c : Thread nD τ).loc main_arg0)) (m ((c : Thread nD τ).loc main_arg1)) (m ((c : Thread nD τ).loc main_arg2)) (m ((c : Thread nD τ).loc main_arg4)) : S8192x2048.Idx → EReal) : Buf (Elt Ideal) ((c : Thread nD τ).loc main_v3_3)) := by
  rw [Value.flushed11]
  funext y
  refine (out_g m c t y).trans (congrArg (fg (m ((c : Thread nD τ).loc main_arg0)) (m ((c : Thread nD τ).loc main_arg1)) (m ((c : Thread nD τ).loc main_arg2)) (m ((c : Thread nD τ).loc main_arg4))) ?_)
  obtain ⟨-, -, -, -, -, -, -, -, -, -, -, -, -, -, -, -, -, -, -, -, -, -, h, h'⟩ := idx t
  refine funext fun a => Fin.ext ?_
  match a with
  | ⟨0, _⟩ => show 1024 * (t.val / 4) + (y 0).val = win0_11.index t 0 * 1024 + 1 * (y 0).val; rw [h]; omega
  | ⟨1, _⟩ => show 512 * (t.val % 4) + (y 1).val = win0_11.index t 1 * 512 + 1 * (y 1).val; rw [h']; omega

/-- The indices of a point's block. -/
theorem mem_g (t : Fin cfg0.N) (i : S8192x2048.Idx) (h0 : (i 0 : Nat) / 1024 = t.val / 4) (h1 : (i 1 : Nat) / 512 = t.val % 4) :
    i ∈ ((cfg0.win 11).blk t).view.set := by
  show i ∈ ((View.whole main_v3_3).slice (win0_11.rect t)).set
  rw [View.set_slice_whole, Rect.mem_set_unit]
  obtain ⟨-, -, -, -, -, -, -, -, -, -, -, -, -, -, -, -, -, -, -, -, -, -, h, h'⟩ := idx t
  intro a
  match a with
  | ⟨0, _⟩ =>
    show win0_11.index t 0 * 1024 ≤ (i 0 : Nat) ∧ (i 0 : Nat) < win0_11.index t 0 * 1024 + 1024
    rw [h]; omega
  | ⟨1, _⟩ =>
    show win0_11.index t 1 * 512 ≤ (i 1 : Nat) ∧ (i 1 : Nat) < win0_11.index t 1 * 512 + 512
    rw [h']; omega

/-- The array of the output gate after the run. -/
theorem final_g (c : Dev nD) : (dats m 0 c).arrAt 11 cfg0.N = ((fg (m ((c : Thread nD τ).loc main_arg0)) (m ((c : Thread nD τ).loc main_arg1)) (m ((c : Thread nD τ).loc main_arg2)) (m ((c : Thread nD τ).loc main_arg4)) : S8192x2048.Idx → EReal) : Buf (Elt Ideal) ((c : Thread nD τ).loc main_v3_3)) :=
  (dats m 0 c).arrAt_eq_of_cover 11 _ (fun t _ => flushed_g m c t) fun i => by
    have h0 : (i 0 : Nat) < 8192 := (i 0).isLt
    have h1 : (i 1 : Nat) < 2048 := (i 1).isLt
    refine ⟨⟨4 * ((i 0).val / 1024) + (i 1).val / 512, lt_of_lt_of_eq (by omega : 4 * ((i 0).val / 1024) + (i 1).val / 512 < 32) N_0.symm⟩, flush0_11 _, mem_g _ i ?_ ?_⟩
    · dsimp only; omega
    · dsimp only; omega

/-- The run, read: the four results, the arguments unchanged. -/
theorem run : θ_run defs (onTc (τ := τ) (main (F := Ideal))) ⟨m, fun _ => 0, ρ⟩ fun r => ∀ c : Dev nD,
      r.2.mem ((c : Thread nD τ).loc main_v3_0) = fq (m ((c : Thread nD τ).loc main_arg0)) (m ((c : Thread nD τ).loc main_arg1)) (m ((c : Thread nD τ).loc main_arg2))
      ∧ r.2.mem ((c : Thread nD τ).loc main_v3_1) = ff (m ((c : Thread nD τ).loc main_arg0)) (m ((c : Thread nD τ).loc main_arg1)) (m ((c : Thread nD τ).loc main_arg2)) (m ((c : Thread nD τ).loc main_arg3))
      ∧ r.2.mem ((c : Thread nD τ).loc main_v3_2) = fv (m ((c : Thread nD τ).loc main_arg0)) (m ((c : Thread nD τ).loc main_arg1)) (m ((c : Thread nD τ).loc main_arg2))
      ∧ r.2.mem ((c : Thread nD τ).loc main_v3_3) = fg (m ((c : Thread nD τ).loc main_arg0)) (m ((c : Thread nD τ).loc main_arg1)) (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_q m c), (h c).2.1.trans (final_f m c), (h c).2.2.1.trans (final_v m c),
    (h c).2.2.2.1.trans (final_g m c), (h c).2.2.2.2⟩) (Value.run_blocks m ρ)

end Cert.HgrnInIdeal.RefValue

namespace Cert.HgrnInRefIdeal.RefValue

open Cert.HgrnInRefIdeal Cert.HgrnInRefIdeal.Gen Idealize.ShloMosaic Idealize.ShloMosaic.TcCoe Idealize.SL.Sem
open Cert.Common Cert.HgrnInIdeal.RefValue

/-- Taking the maximum once more with the value it starts from changes nothing. -/
theorem max_fold {n : ℕ} (b : EReal) (f : Fin n → EReal) : max b (Finset.univ.fold max b f) = Finset.univ.fold max b f :=
  max_eq_right (Finset.le_fold_max b |>.mpr (Or.inl le_rfl))

/-- The first quarter's columns are the projection's first. -/
theorem qtr_zero (j : Fin 2048) : qtr 0 j = ⟨j.val, by omega⟩ := Fin.ext (by show 2048 * 0 + j.val = j.val; omega)

/-- The host's softmax takes the maximum once more with minus infinity. -/
theorem soft_of (l : S4x2048.Idx → EReal) (r : Fin 4) (j : Fin 2048) :
    Ideal.div (Ideal.exp (l (ix2 r j) - max (Ideal.ofBits .f32 0xFF800000#32) (Finset.univ.fold max (Ideal.ofBits .f32 0xFF800000#32) fun k : Fin 4 => l (ix2 k j))))
      (∑ s : Fin 4, Ideal.exp (l (ix2 s j) - max (Ideal.ofBits .f32 0xFF800000#32) (Finset.univ.fold max (Ideal.ofBits .f32 0xFF800000#32) fun k : Fin 4 => l (ix2 k j)))) = soft l r j := by
  simp only [max_fold]
  rfl

/-- A running sum of the softmax up to its third entry, less the first entry, is the lower bound. -/
theorem bound_of {l : S4x2048.Idx → EReal} {j : Fin 2048} {p : Fin 4 → EReal} {p0 q : EReal}
    (h : q = (∑ r : Fin 4, if r.val ≤ (2 : Fin 4).val then p r else 0) - p0) (hp : ∀ r, p r = soft l r j) (h0 : p0 = soft l 0 j) : q = bound l j := by
  rw [h, Fin.sum_univ_four]
  simp only [hp, h0, bound]
  simp [Fin.isValue]

set_option maxHeartbeats 4000000 in
/-- The reference's run, read: its results are the same functions of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = fq (m ((c.tc : Thread nD τ).loc main_arg0)) (m ((c.tc : Thread nD τ).loc main_arg1)) (m ((c.tc : Thread nD τ).loc main_arg2))
      ∧ r.2.mem ((c.tc : Thread nD τ).loc main_v51) = ff (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v57) = fv (m ((c.tc : Thread nD τ).loc main_arg0)) (m ((c.tc : Thread nD τ).loc main_arg1)) (m ((c.tc : Thread nD τ).loc main_arg2))
      ∧ r.2.mem ((c.tc : Thread nD τ).loc main_v58) = fg (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      funext i
      unfold fq pr hn rms Ideal.logistic
      pointwise [qtr_zero]), (h c).2.1.trans (by
      funext i
      unfold Value.res_main_v51
      clean_types
      pointwise
      refine congrArg₂ (fun a b : EReal => a + (1 - a) * b) (bound_of (congrArg₂ (· - ·) (Cert.Cumsum.host_rows _ _ _ _ (fun i => by pointwise) 2 (i 1)) rfl) (fun r => ?_) (soft_of _ 0 (i 1))) ?_
      · pointwise
        exact soft_of _ r (i 1)
      · unfold pr hn rms Ideal.logistic
        pointwise
        rfl), (h c).2.2.1.trans (by
      funext i
      unfold fv pr hn rms
      pointwise
      rfl), (h c).2.2.2.1.trans (by
      funext i
      unfold fg pr hn rms Ideal.logistic
      pointwise
      rfl), (h c).2.2.2.2⟩) (Value.run m ρ)

end Cert.HgrnInRefIdeal.RefValue

end
-- ==== Proof.ProjClaims.lean ====
/-
  The claims about the output projection, the Conformer gate and the recurrence's input projections: each kernel and its
  reference end at one function of the arguments.
-/
module

public import proofs.«01_k».proof.Proof.OutValue
public import proofs.«01_k».proof.Proof.ConfValue
public import proofs.«01_k».proof.Proof.HgrnValue
public import proofs.«01_k».proof.Defs

@[expose] public section

noncomputable section

namespace Cert.ProjClaims

open Idealize.ShloMosaic Idealize.SL.Sem

/-- The output projection and `x + y @ w` agree. -/
theorem out : Cert.algebraic_OutProjIdeal_OutProjRefIdeal := fun m ρ m' ρ' _ hagree =>
  ⟨fun c => Cert.OutProjIdeal.RefValue.G m c, Cert.OutProjIdeal.RefValue.run m ρ,
    (θ_run _ _ _).mono (fun _ h c => ⟨(h c).1.trans ((Cert.OutProjRefIdeal.RefValue.value _ _ _).trans (by
      rw [(hagree c).1, (hagree c).2.1, (hagree c).2.2]; rfl)), (h c).2⟩) (Cert.OutProjRefIdeal.Value.run m' ρ')⟩

/-- The projection's reference runs to its end and keeps its arguments. -/
theorem out_frame : Cert.quiescent_OutProjRefIdeal := fun m ρ _ =>
  (θ_run Cert.OutProjRefIdeal.defs _ _).mono (fun r h => ⟨fun c => (h c).2, sem_eq_zero_of_no_sems (by decide) r.2⟩) (Cert.OutProjRefIdeal.Value.run m ρ)

/-- The Conformer gate and its reference agree. -/
theorem conf : Cert.algebraic_ConfInIdeal_ConfInRefIdeal := fun m ρ m' ρ' _ hagree =>
  ⟨fun c => Cert.ConfInIdeal.RefValue.G m c, Cert.ConfInIdeal.RefValue.run m ρ,
    (θ_run _ _ _).mono (fun _ h c => ⟨(h c).1.trans (by
      rw [(hagree c).1, (hagree c).2.1, (hagree c).2.2.1, (hagree c).2.2.2]; rfl), (h c).2⟩) (Cert.ConfInRefIdeal.RefValue.run m' ρ')⟩

/-- The gate's reference runs to its end and keeps its arguments. -/
theorem conf_frame : Cert.quiescent_ConfInRefIdeal := fun m ρ _ =>
  (θ_run Cert.ConfInRefIdeal.defs _ _).mono (fun r h => ⟨fun c => (h c).2, sem_eq_zero_of_no_sems (by decide) r.2⟩) (Cert.ConfInRefIdeal.RefValue.run m ρ)

open Cert.HgrnInIdeal.RefValue in
/-- The recurrence's queries, forget gate, values and output gate, and their references, agree. -/
theorem hgrn : Cert.algebraic_HgrnInIdeal_HgrnInRefIdeal := fun m ρ m' ρ' _ hagree =>
  ⟨_, _, _, _, Cert.HgrnInIdeal.RefValue.run m ρ,
    (θ_run _ _ _).mono (fun _ h c => by
      obtain ⟨h1, h2, h3, h4, hargs⟩ := h c
      obtain ⟨e0, e1, e2, e3, e4⟩ := hagree c
      rw [e0, e1, e2] at h1 h2 h3 h4
      rw [e3] at h2
      rw [e4] at h4
      exact ⟨h1, h2, h3, h4, hargs⟩) (Cert.HgrnInRefIdeal.RefValue.run m' ρ')⟩

/-- The reference of these projections runs to its end and keeps its arguments. -/
theorem hgrn_frame : Cert.quiescent_HgrnInRefIdeal := fun m ρ _ =>
  (θ_run Cert.HgrnInRefIdeal.defs _ _).mono (fun r h => ⟨fun c => (h c).2.2.2.2, sem_eq_zero_of_no_sems (by decide) r.2⟩) (Cert.HgrnInRefIdeal.RefValue.run m ρ)

end Cert.ProjClaims

end
-- ==== Proof.RecHead.lean ====
/-
  One point of the recurrence kernel, read head by head: what the sixteen stores into the output block and into the
  carried state leave, as ONE function of the head's slices of the four input blocks and of the state before the point.
-/
module

public import proofs.«01_k».proof.Proof.Gen.KernelIdeal.Value
public import Idealize.ShloMosaic.Lib.Pipeline.Value
public import Idealize.ShloMosaic.Lib.Pointwise

@[expose] public section

set_option maxRecDepth 16384

noncomputable section

namespace Cert.KernelIdeal.Rec

open Cert.KernelIdeal Cert.KernelIdeal.Gen Idealize.ShloMosaic Idealize.ShloMosaic.TcCoe Idealize.ShloMosaic.Tactic
open Idealize.SL.Sem

variable {F : FTy → Type} [FloatOps F]

/-- Head `h`'s 128 columns of a block. -/
def cols {e : EltTy} (x : Vec F S128x2048 e) (h : Fin 16) : Vec F S128x128 e :=
  fun y => x (ix2 (y 0) ⟨128 * h.val + (y 1).val, by have h1 : (y 1).val < 128 := (y 1).isLt; omega⟩)

/-- Head `h`'s slice of the state. -/
def slab (x : Vec F S16x128x128 .f32) (h : Fin 16) : Vec F S1x128x128 .f32 := fun y => x (ix3 h (y 1) (y 2))

/-- The new state of one head. -/
def headS (f : Vec F S128x128 .f32) (v : Vec F S128x128 .bf16) (s : Vec F S1x128x128 .f32) : Vec F S1x128x128 .f32 :=
  k0_pay13 v (k0_pay6 f) (k0_pay7 f) (k0_pay9 f) s

/-- The output of one head. -/
def headO (q : Vec F S128x128 .bf16) (f : Vec F S128x128 .f32) (v g : Vec F S128x128 .bf16) (s : Vec F S1x128x128 .f32) :
    Vec F S128x128 .bf16 :=
  k0_pay15 (k0_pay14 k0_pay3 (k0_pay5 q) v (k0_pay6 f) (k0_pay7 f) (k0_pay10 q f) (k0_pay11 f) s) g

/-- The head a column belongs to. -/
def hd (j : Fin 2048) : Fin 16 := ⟨j.val / 128, by omega⟩
/-- The column within its head. -/
def wi (j : Fin 2048) : Fin 128 := ⟨j.val % 128, by omega⟩

/-- The whole output block of a point. -/
def blkO (q : Vec F S128x2048 .bf16) (f : Vec F S128x2048 .f32) (v g : Vec F S128x2048 .bf16) (s : Vec F S16x128x128 .f32) :
    Vec F S128x2048 .bf16 := fun y =>
  headO (cols q (hd (y 1))) (cols f (hd (y 1))) (cols v (hd (y 1))) (cols g (hd (y 1))) (slab s (hd (y 1))) (ix2 (y 0) (wi (y 1)))

/-- The whole state after a point. -/
def blkS (f : Vec F S128x2048 .f32) (v : Vec F S128x2048 .bf16) (s : Vec F S16x128x128 .f32) : Vec F S16x128x128 .f32 := fun y =>
  headS (cols f (y 0)) (cols v (y 0)) (slab s (y 0)) (ix3 0 (y 1) (y 2))

/-- The state slice a load of row `n` of the state reads. -/
theorem slab_ld (s : Vec F S16x128x128 .f32) (h : Fin 16) (n : ℕ) (hn : n = h.val)
    (inb : ∀ a, (![n, 0, 0] : Fin 3 → ℕ) a + (![1, 128, 128] : Fin 3 → ℕ) a ≤ S16x128x128.size a) :
    View.ld s (Rect.unit (s := S16x128x128) ![n, 0, 0] ![1, 128, 128] inb) = slab s h := by
  subst hn
  funext y
  refine congrArg s (funext fun a => Fin.ext ?_)
  match a with
  | ⟨0, _⟩ =>
    show h.val + 1 * (y 0).val = h.val
    have h0 : (y 0).val < 1 := (y 0).isLt
    omega
  | ⟨1, _⟩ => show 0 + 1 * (y 1).val = (y 1).val; omega
  | ⟨2, _⟩ => show 0 + 1 * (y 2).val = (y 2).val; omega

/-- Head `h`'s columns, read through the rectangle that starts at column `n = 128 h`. -/
theorem cols_ld {e : EltTy} (x : Vec F S128x2048 e) (h : Fin 16) (n : ℕ) (hn : n = 128 * h.val)
    (inb : ∀ a, (![0, n] : Fin 2 → ℕ) a + (![128, 128] : Fin 2 → ℕ) a ≤ S128x2048.size a) :
    View.ld x (Rect.unit (s := S128x2048) ![0, n] ![128, 128] inb) = cols x h := by
  subst hn
  funext y
  refine congrArg x (funext fun a => Fin.ext ?_)
  match a with
  | ⟨0, _⟩ => show 0 + 1 * (y 0).val = (y 0).val; omega
  | ⟨1, _⟩ => show 128 * h.val + 1 * (y 1).val = 128 * h.val + (y 1).val; omega

/-- A store of `headO` of head `h` is the part of `blkO` its rectangle names. -/
theorem pieceO (x0 : Vec F S128x2048 .bf16) (x1 : Vec F S128x2048 .f32) (x2 x3 : Vec F S128x2048 .bf16) (xs : Vec F S16x128x128 .f32)
    (h : Fin 16) (n : ℕ) (hn : n = 128 * h.val)
    (inb : ∀ a, (![0, n] : Fin 2 → ℕ) a + (![128, 128] : Fin 2 → ℕ) a ≤ S128x2048.size a) (P : Vec F S128x128 .bf16)
    (s : Vec F S1x128x128 .f32)
    (hP : P = headO (View.ld x0 (Rect.unit (s := S128x2048) ![0, n] ![128, 128] inb)) (View.ld x1 (Rect.unit (s := S128x2048) ![0, n] ![128, 128] inb))
      (View.ld x2 (Rect.unit (s := S128x2048) ![0, n] ![128, 128] inb)) (View.ld x3 (Rect.unit (s := S128x2048) ![0, n] ![128, 128] inb)) s)
    (hs : s = slab xs h) (x : S128x128.Idx) : P x = blkO x0 x1 x2 x3 xs ((Rect.unit (s := S128x2048) ![0, n] ![128, 128] inb).emb x) := by
  have hx : (x 1).val < 128 := (x 1).isLt
  have e0 : ((Rect.unit (s := S128x2048) ![0, n] ![128, 128] inb).emb x) 0 = x 0 := Fin.ext (by
    show 0 + 1 * (x 0).val = (x 0).val; omega)
  have e1 : (((Rect.unit (s := S128x2048) ![0, n] ![128, 128] inb).emb x) 1).val = n + (x 1).val := by
    show n + 1 * (x 1).val = n + (x 1).val; omega
  have eh : hd (((Rect.unit (s := S128x2048) ![0, n] ![128, 128] inb).emb x) 1) = h := Fin.ext (by
    show (((Rect.unit (s := S128x2048) ![0, n] ![128, 128] inb).emb x) 1).val / 128 = h.val
    rw [e1]; omega)
  have ew : wi (((Rect.unit (s := S128x2048) ![0, n] ![128, 128] inb).emb x) 1) = x 1 := Fin.ext (by
    show (((Rect.unit (s := S128x2048) ![0, n] ![128, 128] inb).emb x) 1).val % 128 = (x 1).val
    rw [e1]; omega)
  unfold blkO
  subst hs
  rw [eh, ew, e0, hP, cols_ld x0 h n hn, cols_ld x1 h n hn, cols_ld x2 h n hn, cols_ld x3 h n hn]
  exact congrArg _ (eq_ix2 x)

/-- A store of `headS` of head `h` is the part of `blkS` its rectangle names. -/
theorem pieceS (x1 : Vec F S128x2048 .f32) (x2 : Vec F S128x2048 .bf16) (xs : Vec F S16x128x128 .f32)
    (h : Fin 16) (n k : ℕ) (hn : n = 128 * h.val) (hk : k = h.val)
    (inb : ∀ a, (![0, n] : Fin 2 → ℕ) a + (![128, 128] : Fin 2 → ℕ) a ≤ S128x2048.size a)
    (inb' : ∀ a, (![k, 0, 0] : Fin 3 → ℕ) a + (![1, 128, 128] : Fin 3 → ℕ) a ≤ S16x128x128.size a) (P : Vec F S1x128x128 .f32)
    (s : Vec F S1x128x128 .f32)
    (hP : P = headS (View.ld x1 (Rect.unit (s := S128x2048) ![0, n] ![128, 128] inb))
      (View.ld x2 (Rect.unit (s := S128x2048) ![0, n] ![128, 128] inb)) s)
    (hs : s = slab xs h) (x : S1x128x128.Idx) : P x = blkS x1 x2 xs ((Rect.unit (s := S16x128x128) ![k, 0, 0] ![1, 128, 128] inb').emb x) := by
  have e0 : ((Rect.unit (s := S16x128x128) ![k, 0, 0] ![1, 128, 128] inb').emb x) 0 = h := Fin.ext (by
    show k + 1 * (x 0).val = h.val
    have h0 : (x 0).val < 1 := (x 0).isLt
    omega)
  have e1 : ((Rect.unit (s := S16x128x128) ![k, 0, 0] ![1, 128, 128] inb').emb x) 1 = x 1 := Fin.ext (by
    show 0 + 1 * (x 1).val = (x 1).val; omega)
  have e2 : ((Rect.unit (s := S16x128x128) ![k, 0, 0] ![1, 128, 128] inb').emb x) 2 = x 2 := Fin.ext (by
    show 0 + 1 * (x 2).val = (x 2).val; omega)
  have ez : x 0 = (0 : Fin 1) := Subsingleton.elim (α := Fin 1) _ _
  unfold blkS
  subst hs
  rw [e0, e1, e2, hP, cols_ld x1 h n hn, cols_ld x2 h n hn, ← ez]
  exact congrArg _ (eq_ix3 x)

/-- A list of stores whose last agrees with `G` under its rectangle, and whose earlier ones do off it, reads `G`. -/
theorem canon_step {S : Shape} {e : EltTy} (G : S.Idx → Elt F e) (R : Rect S) (P : R.shape.Idx → Elt F e)
    (L : List (View.Piece (Elt F) S e)) (y : S.Idx) (h1 : ∀ x, P x = G (R.emb x)) (h2 : y ∉ R.set → View.canon L y = G y) :
    View.canon ((⟨R, P⟩ : View.Piece (Elt F) S e) :: L) y = G y := by
  by_cases hm : y ∈ R.set
  · obtain ⟨x, rfl⟩ := R.exists_idx_of_mem hm
    exact (View.canon_cons_emb R P L x).trans (h1 x)
  · exact (View.canon_cons_of_not_mem _ L hm).trans (h2 hm)

/-- Reading a state whose last store is head `h`'s: the store where the index is that head's, the stores before it elsewhere. -/
theorem canonS_step (x1 : Vec F S128x2048 .f32) (x2 : Vec F S128x2048 .bf16) (xs : Vec F S16x128x128 .f32)
    (h : Fin 16) (n k : ℕ) (hn : n = 128 * h.val) (hk : k = h.val)
    (inb : ∀ a, (![0, n] : Fin 2 → ℕ) a + (![128, 128] : Fin 2 → ℕ) a ≤ S128x2048.size a)
    (inb' : ∀ a, (![k, 0, 0] : Fin 3 → ℕ) a + (![1, 128, 128] : Fin 3 → ℕ) a ≤ S16x128x128.size a) (P : Vec F S1x128x128 .f32)
    (s : Vec F S1x128x128 .f32)
    (hP : P = headS (View.ld x1 (Rect.unit (s := S128x2048) ![0, n] ![128, 128] inb))
      (View.ld x2 (Rect.unit (s := S128x2048) ![0, n] ![128, 128] inb)) s)
    (hs : s = slab xs h) (L : List (View.Piece (Elt F) S16x128x128 .f32)) (y : S16x128x128.Idx)
    (hL : (y 0).val ≠ k → View.canon L y = blkS x1 x2 xs y) :
    View.canon ((⟨Rect.unit (s := S16x128x128) ![k, 0, 0] ![1, 128, 128] inb', P⟩ : View.Piece (Elt F) S16x128x128 .f32) :: L) y
      = blkS x1 x2 xs y := by
  refine canon_step (blkS x1 x2 xs) (Rect.unit (s := S16x128x128) ![k, 0, 0] ![1, 128, 128] inb') P L y (pieceS x1 x2 xs h n k hn hk inb inb' P s hP hs) fun hm => hL fun e => ?_
  refine hm (Rect.mem_set_unit.mpr fun a => ?_)
  match a with
  | ⟨0, _⟩ => show k ≤ (y 0).val ∧ (y 0).val < k + 1; omega
  | ⟨1, _⟩ => show 0 ≤ (y 1).val ∧ (y 1).val < 0 + 128; have h1 : (y 1).val < 128 := (y 1).isLt; omega
  | ⟨2, _⟩ => show 0 ≤ (y 2).val ∧ (y 2).val < 0 + 128; have h2 : (y 2).val < 128 := (y 2).isLt; omega

/-- Loading one head's slice past an earlier store of another head's slice. -/
theorem readCov_skip {sig : RefSig} {κ : Kind} {sp : Space} (v : View sig κ sp S16x128x128 .f32) (j k : ℕ) (hjk : j ≠ k)
    (inb : ∀ a, (![j, 0, 0] : Fin 3 → ℕ) a + (![1, 128, 128] : Fin 3 → ℕ) a ≤ S16x128x128.size a)
    (inb' : ∀ a, (![k, 0, 0] : Fin 3 → ℕ) a + (![1, 128, 128] : Fin 3 → ℕ) a ≤ S16x128x128.size a)
    (w : Vec F S1x128x128 .f32) (L : List (View.Piece (Elt F) S16x128x128 .f32)) :
    v.readCov ((⟨Rect.unit (s := S16x128x128) ![j, 0, 0] ![1, 128, 128] inb, w⟩ : View.Piece (Elt F) S16x128x128 .f32) :: L)
        (Rect.unit (s := S16x128x128) ![k, 0, 0] ![1, 128, 128] inb').toLoadRect
      = v.readCov L (Rect.unit (s := S16x128x128) ![k, 0, 0] ![1, 128, 128] inb').toLoadRect := by
  rw [View.readCov_eq_canon', View.readCov_eq_canon']
  funext y
  refine View.canon_cons_of_not_mem _ _ fun hm => ?_
  have h0 := (Rect.mem_set_unit (inb := inb)).mp hm (0 : Fin 3)
  have hy : (y (0 : Fin 3)).val < 1 := (y 0).isLt
  have e : k + 1 * (y (0 : Fin 3)).val < j + 1 ∧ j ≤ k + 1 * (y (0 : Fin 3)).val := ⟨h0.2, h0.1⟩
  omega

/-- Loading one head's slice of the state just after the whole of it was stored. -/
theorem readCov_base {sig : RefSig} {κ : Kind} {sp : Space} (v : View sig κ sp S16x128x128 .f32) (k : ℕ) (hk : k < 16)
    (inb : ∀ a, (![0, 0, 0] : Fin 3 → ℕ) a + (![16, 128, 128] : Fin 3 → ℕ) a ≤ S16x128x128.size a)
    (inb' : ∀ a, (![k, 0, 0] : Fin 3 → ℕ) a + (![1, 128, 128] : Fin 3 → ℕ) a ≤ S16x128x128.size a)
    (w : Vec F S16x128x128 .f32) :
    v.readCov [(⟨Rect.unit (s := S16x128x128) ![0, 0, 0] ![16, 128, 128] inb, w⟩ : View.Piece (Elt F) S16x128x128 .f32)]
        (Rect.unit (s := S16x128x128) ![k, 0, 0] ![1, 128, 128] inb').toLoadRect
      = slab w ⟨k, hk⟩ := by
  rw [View.readCov_eq_canon', View.canon_unit_zero (S := S16x128x128) (by funext a; match a with | ⟨0, _⟩ => rfl | ⟨1, _⟩ => rfl | ⟨2, _⟩ => rfl) inb w]
  exact slab_ld w ⟨k, hk⟩ k rfl inb'

set_option maxHeartbeats 4000000 in
/-- A later point's output block: every head's output from the state the point before left. -/
theorem out_B (c : Dev nD) (i : grid0.Coords) (arg1 : Memref sig .tc .vmem S128x2048 .bf16) (harg1 : arg1.IsWhole) (arg2 : Memref sig .tc .vmem S128x2048 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S16x128x128 .f32) (harg6 : arg6.IsWhole) (hc0 : ¬cond0_0 i)
    (x0 : Vec F S128x2048 .bf16) (x1 : Vec F S128x2048 .f32) (x2 : Vec F S128x2048 .bf16) (x3 : Vec F S128x2048 .bf16) (xs0 : Vec F S16x128x128 .f32) :
    out0_B_4 c i arg1 harg1 arg2 harg2 arg3 harg3 arg4 harg4 arg5 harg5 arg6 harg6 hc0 x0 x1 x2 x3 xs0 = (blkO x0 x1 x2 x3 xs0) := by
  unfold out0_B_4
  rw [View.read_writes_eq_canon _ _ _ (cover0_B_4 c i arg1 harg1 arg2 harg2 arg3 harg3 arg4 harg4 arg5 harg5 arg6 harg6 hc0 x0 x1 x2 x3 xs0)]
  funext y
  refine View.canon_apply_of_pieces (blkO x0 x1 x2 x3 xs0) _ ?_ y (cover0_B_4 c i arg1 harg1 arg2 harg2 arg3 harg3 arg4 harg4 arg5 harg5 arg6 harg6 hc0 x0 x1 x2 x3 xs0 y)
  unfold kernelRun0_B; dsimp only; sl_unfold_words
  simp only [View.readAt_eq_ld, harg1.read_unread, harg2.read_unread, harg3.read_unread, harg4.read_unread, harg6.read_unread]
  simp only [List.forall_mem_cons]
  refine ⟨pieceO x0 x1 x2 x3 xs0 15 1920 rfl _ _ _ rfl (slab_ld xs0 15 15 rfl inb_S16x128x128_S1x128x128_15_0_0),
    pieceO x0 x1 x2 x3 xs0 14 1792 rfl _ _ _ rfl (slab_ld xs0 14 14 rfl inb_S16x128x128_S1x128x128_14_0_0),
    pieceO x0 x1 x2 x3 xs0 13 1664 rfl _ _ _ rfl (slab_ld xs0 13 13 rfl inb_S16x128x128_S1x128x128_13_0_0),
    pieceO x0 x1 x2 x3 xs0 12 1536 rfl _ _ _ rfl (slab_ld xs0 12 12 rfl inb_S16x128x128_S1x128x128_12_0_0),
    pieceO x0 x1 x2 x3 xs0 11 1408 rfl _ _ _ rfl (slab_ld xs0 11 11 rfl inb_S16x128x128_S1x128x128_11_0_0),
    pieceO x0 x1 x2 x3 xs0 10 1280 rfl _ _ _ rfl (slab_ld xs0 10 10 rfl inb_S16x128x128_S1x128x128_10_0_0),
    pieceO x0 x1 x2 x3 xs0 9 1152 rfl _ _ _ rfl (slab_ld xs0 9 9 rfl inb_S16x128x128_S1x128x128_9_0_0),
    pieceO x0 x1 x2 x3 xs0 8 1024 rfl _ _ _ rfl (slab_ld xs0 8 8 rfl inb_S16x128x128_S1x128x128_8_0_0),
    pieceO x0 x1 x2 x3 xs0 7 896 rfl _ _ _ rfl (slab_ld xs0 7 7 rfl inb_S16x128x128_S1x128x128_7_0_0),
    pieceO x0 x1 x2 x3 xs0 6 768 rfl _ _ _ rfl (slab_ld xs0 6 6 rfl inb_S16x128x128_S1x128x128_6_0_0),
    pieceO x0 x1 x2 x3 xs0 5 640 rfl _ _ _ rfl (slab_ld xs0 5 5 rfl inb_S16x128x128_S1x128x128_5_0_0),
    pieceO x0 x1 x2 x3 xs0 4 512 rfl _ _ _ rfl (slab_ld xs0 4 4 rfl inb_S16x128x128_S1x128x128_4_0_0),
    pieceO x0 x1 x2 x3 xs0 3 384 rfl _ _ _ rfl (slab_ld xs0 3 3 rfl inb_S16x128x128_S1x128x128_3_0_0),
    pieceO x0 x1 x2 x3 xs0 2 256 rfl _ _ _ rfl (slab_ld xs0 2 2 rfl inb_S16x128x128_S1x128x128_2_0_0),
    pieceO x0 x1 x2 x3 xs0 1 128 rfl _ _ _ rfl (slab_ld xs0 1 1 rfl inb_S16x128x128_S1x128x128_1_0_0),
    pieceO x0 x1 x2 x3 xs0 0 0 rfl _ _ _ rfl (slab_ld xs0 0 0 rfl inb_S16x128x128_S1x128x128_0_0_0), fun _ h => absurd h List.not_mem_nil⟩

set_option maxHeartbeats 4000000 in
/-- A later point's state: every head's new state from the state the point before left. -/
theorem sout_B (c : Dev nD) (i : grid0.Coords) (arg1 : Memref sig .tc .vmem S128x2048 .bf16) (harg1 : arg1.IsWhole) (arg2 : Memref sig .tc .vmem S128x2048 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S16x128x128 .f32) (harg6 : arg6.IsWhole) (hc0 : ¬cond0_0 i)
    (x0 : Vec F S128x2048 .bf16) (x1 : Vec F S128x2048 .f32) (x2 : Vec F S128x2048 .bf16) (x3 : Vec F S128x2048 .bf16) (xs0 : Vec F S16x128x128 .f32) :
    sout0_B_0 c i arg1 harg1 arg2 harg2 arg3 harg3 arg4 harg4 arg5 harg5 arg6 harg6 hc0 x0 x1 x2 x3 xs0 = (blkS x1 x2 xs0) := by
  unfold sout0_B_0
  rw [View.read_writes_eq_canon _ _ _ (scover0_B_0 c i arg1 harg1 arg2 harg2 arg3 harg3 arg4 harg4 arg5 harg5 arg6 harg6 hc0 x0 x1 x2 x3 xs0)]
  funext y
  refine View.canon_apply_of_pieces (blkS x1 x2 xs0) _ ?_ y (scover0_B_0 c i arg1 harg1 arg2 harg2 arg3 harg3 arg4 harg4 arg5 harg5 arg6 harg6 hc0 x0 x1 x2 x3 xs0 y)
  unfold kernelRun0_B; dsimp only; sl_unfold_words
  simp only [View.readAt_eq_ld, harg1.read_unread, harg2.read_unread, harg3.read_unread, harg4.read_unread, harg6.read_unread]
  simp only [List.forall_mem_cons]
  refine ⟨pieceS x1 x2 xs0 15 1920 15 rfl rfl (k0_off1_inb 15) _ _ _ rfl (slab_ld xs0 15 15 rfl inb_S16x128x128_S1x128x128_15_0_0),
    pieceS x1 x2 xs0 14 1792 14 rfl rfl (k0_off1_inb 14) _ _ _ rfl (slab_ld xs0 14 14 rfl inb_S16x128x128_S1x128x128_14_0_0),
    pieceS x1 x2 xs0 13 1664 13 rfl rfl (k0_off1_inb 13) _ _ _ rfl (slab_ld xs0 13 13 rfl inb_S16x128x128_S1x128x128_13_0_0),
    pieceS x1 x2 xs0 12 1536 12 rfl rfl (k0_off1_inb 12) _ _ _ rfl (slab_ld xs0 12 12 rfl inb_S16x128x128_S1x128x128_12_0_0),
    pieceS x1 x2 xs0 11 1408 11 rfl rfl (k0_off1_inb 11) _ _ _ rfl (slab_ld xs0 11 11 rfl inb_S16x128x128_S1x128x128_11_0_0),
    pieceS x1 x2 xs0 10 1280 10 rfl rfl (k0_off1_inb 10) _ _ _ rfl (slab_ld xs0 10 10 rfl inb_S16x128x128_S1x128x128_10_0_0),
    pieceS x1 x2 xs0 9 1152 9 rfl rfl (k0_off1_inb 9) _ _ _ rfl (slab_ld xs0 9 9 rfl inb_S16x128x128_S1x128x128_9_0_0),
    pieceS x1 x2 xs0 8 1024 8 rfl rfl (k0_off1_inb 8) _ _ _ rfl (slab_ld xs0 8 8 rfl inb_S16x128x128_S1x128x128_8_0_0),
    pieceS x1 x2 xs0 7 896 7 rfl rfl (k0_off1_inb 7) _ _ _ rfl (slab_ld xs0 7 7 rfl inb_S16x128x128_S1x128x128_7_0_0),
    pieceS x1 x2 xs0 6 768 6 rfl rfl (k0_off1_inb 6) _ _ _ rfl (slab_ld xs0 6 6 rfl inb_S16x128x128_S1x128x128_6_0_0),
    pieceS x1 x2 xs0 5 640 5 rfl rfl (k0_off1_inb 5) _ _ _ rfl (slab_ld xs0 5 5 rfl inb_S16x128x128_S1x128x128_5_0_0),
    pieceS x1 x2 xs0 4 512 4 rfl rfl (k0_off1_inb 4) _ _ _ rfl (slab_ld xs0 4 4 rfl inb_S16x128x128_S1x128x128_4_0_0),
    pieceS x1 x2 xs0 3 384 3 rfl rfl (k0_off1_inb 3) _ _ _ rfl (slab_ld xs0 3 3 rfl inb_S16x128x128_S1x128x128_3_0_0),
    pieceS x1 x2 xs0 2 256 2 rfl rfl (k0_off1_inb 2) _ _ _ rfl (slab_ld xs0 2 2 rfl inb_S16x128x128_S1x128x128_2_0_0),
    pieceS x1 x2 xs0 1 128 1 rfl rfl (k0_off1_inb 1) _ _ _ rfl (slab_ld xs0 1 1 rfl inb_S16x128x128_S1x128x128_1_0_0),
    pieceS x1 x2 xs0 0 0 0 rfl rfl (k0_off1_inb 0) _ _ _ rfl (slab_ld xs0 0 0 rfl inb_S16x128x128_S1x128x128_0_0_0), fun _ h => absurd h List.not_mem_nil⟩

set_option maxHeartbeats 4000000 in
/-- The first point's output block: every head's output from the zero state. -/
theorem out_A (c : Dev nD) (i : grid0.Coords) (arg1 : Memref sig .tc .vmem S128x2048 .bf16) (harg1 : arg1.IsWhole) (arg2 : Memref sig .tc .vmem S128x2048 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S16x128x128 .f32) (harg6 : arg6.IsWhole) (hc0 : cond0_0 i)
    (x0 : Vec F S128x2048 .bf16) (x1 : Vec F S128x2048 .f32) (x2 : Vec F S128x2048 .bf16) (x3 : Vec F S128x2048 .bf16) :
    out0_A_4 c i arg1 harg1 arg2 harg2 arg3 harg3 arg4 harg4 arg5 harg5 arg6 harg6 hc0 x0 x1 x2 x3 = (blkO x0 x1 x2 x3 k0_pay2) := by
  unfold out0_A_4
  rw [View.read_writes_eq_canon _ _ _ (cover0_A_4 c i arg1 harg1 arg2 harg2 arg3 harg3 arg4 harg4 arg5 harg5 arg6 harg6 hc0 x0 x1 x2 x3)]
  funext y
  refine View.canon_apply_of_pieces (blkO x0 x1 x2 x3 k0_pay2) _ ?_ y (cover0_A_4 c i arg1 harg1 arg2 harg2 arg3 harg3 arg4 harg4 arg5 harg5 arg6 harg6 hc0 x0 x1 x2 x3 y)
  unfold kernelRun0_A; dsimp only; sl_unfold_words
  simp only [View.readAt_eq_ld, harg1.read_unread, harg2.read_unread, harg3.read_unread, harg4.read_unread, harg6.read_unread]
  simp (disch := decide) only [readCov_skip, readCov_base]
  simp only [List.forall_mem_cons]
  refine ⟨pieceO x0 x1 x2 x3 k0_pay2 15 1920 rfl _ _ (slab k0_pay2 15) rfl rfl,
    pieceO x0 x1 x2 x3 k0_pay2 14 1792 rfl _ _ (slab k0_pay2 14) rfl rfl,
    pieceO x0 x1 x2 x3 k0_pay2 13 1664 rfl _ _ (slab k0_pay2 13) rfl rfl,
    pieceO x0 x1 x2 x3 k0_pay2 12 1536 rfl _ _ (slab k0_pay2 12) rfl rfl,
    pieceO x0 x1 x2 x3 k0_pay2 11 1408 rfl _ _ (slab k0_pay2 11) rfl rfl,
    pieceO x0 x1 x2 x3 k0_pay2 10 1280 rfl _ _ (slab k0_pay2 10) rfl rfl,
    pieceO x0 x1 x2 x3 k0_pay2 9 1152 rfl _ _ (slab k0_pay2 9) rfl rfl,
    pieceO x0 x1 x2 x3 k0_pay2 8 1024 rfl _ _ (slab k0_pay2 8) rfl rfl,
    pieceO x0 x1 x2 x3 k0_pay2 7 896 rfl _ _ (slab k0_pay2 7) rfl rfl,
    pieceO x0 x1 x2 x3 k0_pay2 6 768 rfl _ _ (slab k0_pay2 6) rfl rfl,
    pieceO x0 x1 x2 x3 k0_pay2 5 640 rfl _ _ (slab k0_pay2 5) rfl rfl,
    pieceO x0 x1 x2 x3 k0_pay2 4 512 rfl _ _ (slab k0_pay2 4) rfl rfl,
    pieceO x0 x1 x2 x3 k0_pay2 3 384 rfl _ _ (slab k0_pay2 3) rfl rfl,
    pieceO x0 x1 x2 x3 k0_pay2 2 256 rfl _ _ (slab k0_pay2 2) rfl rfl,
    pieceO x0 x1 x2 x3 k0_pay2 1 128 rfl _ _ (slab k0_pay2 1) rfl rfl,
    pieceO x0 x1 x2 x3 k0_pay2 0 0 rfl _ _ (slab k0_pay2 0) rfl rfl, fun _ h => absurd h List.not_mem_nil⟩

set_option maxHeartbeats 4000000 in
/-- The first point's state: every head's new state from the zero state. -/
theorem sout_A (c : Dev nD) (i : grid0.Coords) (arg1 : Memref sig .tc .vmem S128x2048 .bf16) (harg1 : arg1.IsWhole) (arg2 : Memref sig .tc .vmem S128x2048 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S16x128x128 .f32) (harg6 : arg6.IsWhole) (hc0 : cond0_0 i)
    (x0 : Vec F S128x2048 .bf16) (x1 : Vec F S128x2048 .f32) (x2 : Vec F S128x2048 .bf16) (x3 : Vec F S128x2048 .bf16) :
    sout0_A_0 c i arg1 harg1 arg2 harg2 arg3 harg3 arg4 harg4 arg5 harg5 arg6 harg6 hc0 x0 x1 x2 x3 = (blkS x1 x2 k0_pay2) := by
  unfold sout0_A_0
  rw [View.read_writes_eq_canon _ _ _ (scover0_A_0 c i arg1 harg1 arg2 harg2 arg3 harg3 arg4 harg4 arg5 harg5 arg6 harg6 hc0 x0 x1 x2 x3)]
  funext y
  unfold kernelRun0_A; dsimp only; sl_unfold_words
  simp only [View.readAt_eq_ld, harg1.read_unread, harg2.read_unread, harg3.read_unread, harg4.read_unread, harg6.read_unread]
  simp (disch := decide) only [readCov_skip, readCov_base]
  refine canonS_step x1 x2 k0_pay2 15 1920 15 rfl rfl (k0_off1_inb 15) _ _ (slab k0_pay2 15) rfl rfl _ y fun h15 => ?_
  refine canonS_step x1 x2 k0_pay2 14 1792 14 rfl rfl (k0_off1_inb 14) _ _ (slab k0_pay2 14) rfl rfl _ y fun h14 => ?_
  refine canonS_step x1 x2 k0_pay2 13 1664 13 rfl rfl (k0_off1_inb 13) _ _ (slab k0_pay2 13) rfl rfl _ y fun h13 => ?_
  refine canonS_step x1 x2 k0_pay2 12 1536 12 rfl rfl (k0_off1_inb 12) _ _ (slab k0_pay2 12) rfl rfl _ y fun h12 => ?_
  refine canonS_step x1 x2 k0_pay2 11 1408 11 rfl rfl (k0_off1_inb 11) _ _ (slab k0_pay2 11) rfl rfl _ y fun h11 => ?_
  refine canonS_step x1 x2 k0_pay2 10 1280 10 rfl rfl (k0_off1_inb 10) _ _ (slab k0_pay2 10) rfl rfl _ y fun h10 => ?_
  refine canonS_step x1 x2 k0_pay2 9 1152 9 rfl rfl (k0_off1_inb 9) _ _ (slab k0_pay2 9) rfl rfl _ y fun h9 => ?_
  refine canonS_step x1 x2 k0_pay2 8 1024 8 rfl rfl (k0_off1_inb 8) _ _ (slab k0_pay2 8) rfl rfl _ y fun h8 => ?_
  refine canonS_step x1 x2 k0_pay2 7 896 7 rfl rfl (k0_off1_inb 7) _ _ (slab k0_pay2 7) rfl rfl _ y fun h7 => ?_
  refine canonS_step x1 x2 k0_pay2 6 768 6 rfl rfl (k0_off1_inb 6) _ _ (slab k0_pay2 6) rfl rfl _ y fun h6 => ?_
  refine canonS_step x1 x2 k0_pay2 5 640 5 rfl rfl (k0_off1_inb 5) _ _ (slab k0_pay2 5) rfl rfl _ y fun h5 => ?_
  refine canonS_step x1 x2 k0_pay2 4 512 4 rfl rfl (k0_off1_inb 4) _ _ (slab k0_pay2 4) rfl rfl _ y fun h4 => ?_
  refine canonS_step x1 x2 k0_pay2 3 384 3 rfl rfl (k0_off1_inb 3) _ _ (slab k0_pay2 3) rfl rfl _ y fun h3 => ?_
  refine canonS_step x1 x2 k0_pay2 2 256 2 rfl rfl (k0_off1_inb 2) _ _ (slab k0_pay2 2) rfl rfl _ y fun h2 => ?_
  refine canonS_step x1 x2 k0_pay2 1 128 1 rfl rfl (k0_off1_inb 1) _ _ (slab k0_pay2 1) rfl rfl _ y fun h1 => ?_
  refine canonS_step x1 x2 k0_pay2 0 0 0 rfl rfl (k0_off1_inb 0) _ _ (slab k0_pay2 0) rfl rfl _ y fun h0 => ?_
  have hy : (y 0).val < 16 := (y 0).isLt
  omega

end Cert.KernelIdeal.Rec

end
-- ==== Proof.RecMath.lean ====
/-
  The gated linear recurrence over the reals: its state and its output as sums over all earlier steps, and what one
  chunk of any length adds to them.
-/
module

public import Mathlib.Analysis.SpecialFunctions.Exp
public import Mathlib.Analysis.SpecialFunctions.Log.Basic
public import Mathlib.Analysis.SpecialFunctions.Exponential

@[expose] public section

noncomputable section

namespace Cert.RecMath

open Finset

/-- The running sum of a chunk's entries up to and with index `j`. -/
def cum {C : ℕ} (x : Fin C → ℝ) (j : Fin C) : ℝ := ∑ r : Fin C, if r.val ≤ j.val then x r else 0

/-- The sum of the first `n` log decays of channel `d`. -/
def cumA (a : ℕ → Fin 128 → ℝ) (n : ℕ) (d : Fin 128) : ℝ := ∑ r ∈ range n, a r d

/-- The state after `n` steps: each step's outer product of key and value, decayed by the later steps. -/
def St (a k v : ℕ → Fin 128 → ℝ) (n : ℕ) (d e : Fin 128) : ℝ :=
  ∑ s ∈ range n, v s e * (k s d * Real.exp (cumA a n d - cumA a (s + 1) d))

/-- The output of step `t`: its query against the state after it. -/
def Out (a k v q : ℕ → Fin 128 → ℝ) (t : ℕ) (e : Fin 128) : ℝ := ∑ d : Fin 128, q t d * St a k v (t + 1) d e

/-- A sum over a chunk cut at `j` is the sum over the first `j + 1` indices. -/
theorem sum_cut {C : ℕ} (j : Fin C) (g : ℕ → ℝ) : (∑ r : Fin C, if r.val ≤ j.val then g r.val else 0) = ∑ r ∈ range (j.val + 1), g r := by
  rw [Fin.sum_univ_eq_sum_range (fun r => if r ≤ j.val then g r else 0) C, ← sum_filter]
  refine sum_congr (ext fun r => ?_) fun _ _ => rfl
  have := j.isLt
  simp only [mem_filter, mem_range]
  omega

/-- A chunk's running sum is a difference of the sums over all steps. -/
theorem cum_eq {C : ℕ} (a : ℕ → Fin 128 → ℝ) (n : ℕ) (d : Fin 128) (j : Fin C) :
    cum (fun r : Fin C => a (n + r.val) d) j = cumA a (n + j.val + 1) d - cumA a n d := by
  unfold cum cumA
  rw [sum_cut j (fun r => a (n + r) d), add_assoc, sum_range_add _ n (j.val + 1), add_sub_cancel_left]

/-- The state before any step is zero. -/
theorem St_zero (a k v : ℕ → Fin 128 → ℝ) (d e : Fin 128) : St a k v 0 d e = 0 := by simp [St]

/-- The state after some more steps: the state before them decayed by all of them, and their own outer products. -/
theorem St_add (a k v : ℕ → Fin 128 → ℝ) (n m : ℕ) (d e : Fin 128) :
    St a k v (n + m) d e = St a k v n d e * Real.exp (cumA a (n + m) d - cumA a n d)
      + ∑ s ∈ range m, v (n + s) e * (k (n + s) d * Real.exp (cumA a (n + m) d - cumA a (n + s + 1) d)) := by
  unfold St
  rw [sum_range_add, sum_mul]
  refine congrArg₂ (· + ·) (sum_congr rfl fun s _ => ?_) rfl
  rw [mul_assoc, mul_assoc, ← Real.exp_add]
  congr 3
  ring

/-- One chunk's effect on the state, from the chunk's own running sums. -/
theorem St_chunk {C : ℕ} (a k v : ℕ → Fin 128 → ℝ) (n : ℕ) (l : Fin C) (hl : l.val + 1 = C) (d e : Fin 128) :
    St a k v (n + C) d e
      = St a k v n d e * Real.exp (cum (fun r : Fin C => a (n + r.val) d) l)
        + ∑ s : Fin C, v (n + s.val) e * (k (n + s.val) d
            * Real.exp (cum (fun r : Fin C => a (n + r.val) d) l - cum (fun r : Fin C => a (n + r.val) d) s)) := by
  rw [St_add, ← Fin.sum_univ_eq_sum_range (fun s => v (n + s) e * (k (n + s) d * Real.exp (cumA a (n + C) d - cumA a (n + s + 1) d))) C]
  have e1 : n + l.val + 1 = n + C := by omega
  simp only [cum_eq, e1]
  refine congrArg₂ (· + ·) rfl (sum_congr rfl fun s _ => ?_)
  congr 3
  ring

/-- One chunk's output at its step `j`: the part from the chunk's own steps up to `j`, and the part from the state before. -/
theorem Out_chunk {C : ℕ} (a k v q : ℕ → Fin 128 → ℝ) (n : ℕ) (j : Fin C) (e : Fin 128) :
    Out a k v q (n + j.val) e
      = (∑ s : Fin C, (if s.val ≤ j.val then ∑ d : Fin 128, q (n + j.val) d * k (n + s.val) d
            * Real.exp (cum (fun r : Fin C => a (n + r.val) d) j - cum (fun r : Fin C => a (n + r.val) d) s) else 0) * v (n + s.val) e)
        + ∑ d : Fin 128, q (n + j.val) d * Real.exp (cum (fun r : Fin C => a (n + r.val) d) j) * St a k v n d e := by
  have h1 : ∀ s : Fin C, (if s.val ≤ j.val then ∑ d : Fin 128, q (n + j.val) d * k (n + s.val) d
            * Real.exp (cum (fun r : Fin C => a (n + r.val) d) j - cum (fun r : Fin C => a (n + r.val) d) s) else 0) * v (n + s.val) e
      = if s.val ≤ j.val then (∑ d : Fin 128, q (n + j.val) d * (v (n + s.val) e * (k (n + s.val) d
            * Real.exp (cumA a (n + (j.val + 1)) d - cumA a (n + s.val + 1) d)))) else 0 := fun s => by
    rw [ite_mul, zero_mul]
    refine if_congr Iff.rfl ?_ rfl
    rw [sum_mul]
    refine sum_congr rfl fun d _ => ?_
    rw [cum_eq, cum_eq, show cumA a (n + j.val + 1) d - cumA a n d - (cumA a (n + s.val + 1) d - cumA a n d)
      = cumA a (n + (j.val + 1)) d - cumA a (n + s.val + 1) d by rw [← add_assoc]; ring]
    ring
  rw [sum_congr rfl fun s _ => h1 s,
    sum_cut j (fun s => ∑ d : Fin 128, q (n + j.val) d * (v (n + s) e * (k (n + s) d * Real.exp (cumA a (n + (j.val + 1)) d - cumA a (n + s + 1) d)))),
    sum_comm, ← sum_add_distrib]
  unfold Out
  refine sum_congr rfl fun d _ => ?_
  rw [add_assoc, St_add, mul_add, mul_sum, cum_eq, ← add_assoc n j.val 1]
  ring

/-- Running sums at two indices at most 64 apart differ by at most 80, where every entry lies between -5/4 and 0. -/
theorem cum_sub_le {C : ℕ} (x : Fin C → ℝ) (hx : ∀ r, -(5 / 4) ≤ x r ∧ x r ≤ 0) (i j : Fin C) (hij : i.val ≤ j.val + 64) :
    cum x j - cum x i ≤ 80 := by
  have h1 : cum x j - cum x i ≤ ∑ r : Fin C, if j.val < r.val ∧ r.val ≤ i.val then (5 / 4 : ℝ) else 0 := by
    unfold cum
    rw [← sum_sub_distrib]
    refine sum_le_sum fun r _ => ?_
    have := hx r
    by_cases h : r.val ≤ j.val <;> by_cases h' : r.val ≤ i.val
    · rw [if_pos h, if_pos h', if_neg (by omega)]; linarith
    · rw [if_pos h, if_neg h', if_neg (by omega)]; linarith
    · rw [if_neg h, if_pos h', if_pos (by omega)]; linarith
    · rw [if_neg h, if_neg h', if_neg (by omega)]; linarith
  refine h1.trans ?_
  rw [← sum_filter, sum_const, nsmul_eq_mul]
  have h2 : (univ.filter fun r : Fin C => j.val < r.val ∧ r.val ≤ i.val).card ≤ 64 := by
    have h3 := card_le_card_of_injOn (s := univ.filter fun r : Fin C => j.val < r.val ∧ r.val ≤ i.val) (t := Ioc j.val i.val) (fun r => r.val)
      (fun r hr => by simpa using hr) (fun r _ r' _ h => Fin.ext h)
    rw [Nat.card_Ioc] at h3
    omega
  have h3 : (((univ.filter fun r : Fin C => j.val < r.val ∧ r.val ≤ i.val).card : ℕ) : ℝ) ≤ 64 := by exact_mod_cast h2
  linarith

/-- The logarithm of a number between 0.3 and 1 lies between -5/4 and 0. -/
theorem log_bounds {x : ℝ} (h : 3 / 10 ≤ x) (h1 : x ≤ 1) : -(5 / 4) ≤ Real.log x ∧ Real.log x ≤ 0 := by
  refine ⟨?_, Real.log_nonpos (by linarith) h1⟩
  rw [Real.le_log_iff_exp_le (by linarith), Real.exp_neg]
  have h2 := Real.sum_le_exp_of_nonneg (show (0 : ℝ) ≤ 5 / 4 by norm_num) 4
  have h3 : (10 / 3 : ℝ) ≤ Real.exp (5 / 4) := by
    refine le_trans ?_ h2
    simp only [sum_range_succ, sum_range_zero, Nat.factorial]
    norm_num
  have h4 := inv_anti₀ (by norm_num) h3
  norm_num at h4 ⊢
  linarith

/-- Head `h`'s log decays, for the decays `F` of all rows and columns. -/
def aH (F : ℕ → ℕ → ℝ) (h : ℕ) : ℕ → Fin 128 → ℝ := fun n d => Real.log (F n (128 * h + d.val))
/-- Head `h`'s keys: one minus the decays. -/
def kH (F : ℕ → ℕ → ℝ) (h : ℕ) : ℕ → Fin 128 → ℝ := fun n d => 1 - F n (128 * h + d.val)
/-- Head `h`'s columns. -/
def xH (X : ℕ → ℕ → ℝ) (h : ℕ) : ℕ → Fin 128 → ℝ := fun n d => X n (128 * h + d.val)
/-- Head `h`'s state after `n` steps. -/
def stH (F V : ℕ → ℕ → ℝ) (h n : ℕ) (d e : Fin 128) : ℝ := St (aH F h) (kH F h) (xH V h) n d e
/-- Head `h`'s output at step `n`. -/
def outH (Q F V : ℕ → ℕ → ℝ) (h n : ℕ) (e : Fin 128) : ℝ := Out (aH F h) (kH F h) (xH V h) (xH Q h) n e

end Cert.RecMath

end
-- ==== Proof.RecKernel.lean ====
/-
  One head of one point of the recurrence kernel over the reals.
-/
module

public import proofs.«01_k».proof.Proof.RecHead
public import proofs.«01_k».proof.Proof.RecMath
public import Idealize.ShloMosaic.Lib.WordCmp

@[expose] public section

set_option maxRecDepth 16384

noncomputable section

namespace Cert.KernelIdeal.Rec

open Cert.KernelIdeal Cert.KernelIdeal.Gen Idealize.ShloMosaic Idealize.ShloMosaic.TcCoe Idealize.ShloMosaic.Tactic
open Cert.RecMath

/-- A finite sum of reals, taken among the extended reals. -/
theorem coe_sum {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- A selection by a comparison of two small row numbers. -/
theorem select_le {α : Type} {n : ℕ} (hn : n ≤ 128) (i j : Fin n) (x y : α) :
    Scalar.select (IntOp.cmpi .sge (BitVec.ofNat 32 i.val) (BitVec.ofNat 32 j.val)) x y = if j.val ≤ i.val then x else y := by
  rw [Scalar.select_def]
  exact if_congr (WordCmp.cmpi_sge_ofNat_eq_one_iff (by have := i.isLt; omega) (by have := j.isLt; omega)) rfl rfl

/-- The kernel's bound of the exponents. -/
theorem ofBits_80 : Ideal.ofBits .f32 1117782016#32 = ((80 : ℝ) : EReal) := by
  simp [Ideal.ofBits, Ideal.ieee, -EReal.coe_mul]; norm_num

/-- The state of one head after a chunk, from the chunk's decays `f`, values `v` and the state `s` before it. -/
def rS (f v s : Fin 128 → Fin 128 → ℝ) (e d : Fin 128) : ℝ :=
  s e d * Real.exp (cum (fun r => Real.log (f r d)) 127)
    + ∑ x, v x e * ((1 - f x d) * Real.exp (cum (fun r => Real.log (f r d)) 127 - cum (fun r => Real.log (f r d)) x))

/-- The output of one head at row `j` of a chunk, before the normalisation. -/
def rO (q f v s : Fin 128 → Fin 128 → ℝ) (j e : Fin 128) : ℝ :=
  (∑ x, (if x.val ≤ j.val then ∑ d, q j d * (1 - f x d)
      * Real.exp (cum (fun r => Real.log (f r d)) j - cum (fun r => Real.log (f r d)) x) else 0) * v x e)
    + ∑ d, q j d * Real.exp (cum (fun r => Real.log (f r d)) j) * s e d

/-- Normalising a head's row by its root mean square, and gating it. -/
def fin (o : Fin 128 → ℝ) (g : EReal) (e : Fin 128) : EReal :=
  ((o e : ℝ) : EReal) * Ideal.rsqrt (Ideal.div (∑ x, ((o x : ℝ) : EReal) * ((o x : ℝ) : EReal)) (Ideal.ofBits .f32 1124073472#32)
    + Ideal.ofBits .f32 897988541#32) * g

variable {f : Vec Ideal S128x128 .f32} {q v g : Vec Ideal S128x128 .bf16} {s : Vec Ideal S1x128x128 .f32}
variable {qr fr vr sr : Fin 128 → Fin 128 → ℝ}

/-- The running sum of the log decays. -/
theorem b_at (hf : ∀ i j, (f (ix2 i j) : EReal) = ((fr i j : ℝ) : EReal)) (h0 : ∀ i j, 3 / 10 ≤ fr i j) (j d : Fin 128) :
    (k0_pay7 f (ix2 j d) : EReal) = ((cum (fun r => Real.log (fr r d)) j : ℝ) : EReal) := by
  have hn : ∀ i j, ¬ fr i j ≤ 0 := fun i j h => by have := h0 i j; linarith
  have hz : ∀ p : Prop, ∀ [Decidable p], (if p then ((0 : ℝ) : EReal) else 0) = 0 := fun p _ => by split <;> simp
  pointwise [k0_pay7, k0_pay4, k0_pay3]
  simp only [hf, Ideal.log_coe, if_neg (hn _ _), select_le (le_refl 128), ← EReal.coe_sub, sub_self, hz, Finset.sum_const_zero, add_zero]
  rw [cum, coe_sum]
  exact Finset.sum_congr rfl fun x _ => (apply_ite (fun r : ℝ => (r : EReal)) _ _ _).symm

/-- The new state of one head. -/
theorem headS_at (hf : ∀ i j, (f (ix2 i j) : EReal) = ((fr i j : ℝ) : EReal)) (h0 : ∀ i j, 3 / 10 ≤ fr i j)
    (hv : ∀ i j, (v (ix2 i j) : EReal) = ((vr i j : ℝ) : EReal)) (hs : ∀ i j, (s (ix3 0 i j) : EReal) = ((sr i j : ℝ) : EReal))
    (e d : Fin 128) : (headS f v s (ix3 0 e d) : EReal) = ((rS fr vr sr e d : ℝ) : EReal) := by
  unfold headS
  pointwise [k0_pay13, k0_pay6, k0_pay9, k0_pay12]
  simp only [b_at hf h0, hf, hv, hs, ← EReal.coe_one, ← EReal.coe_sub, Ideal.exp_coe, ← EReal.coe_mul, ← coe_sum, ← EReal.coe_add, rS]

/-- The output of one head before the normalisation, as the kernel spells it: both bounds of the exponents are idle. -/
theorem inner (hf : ∀ i j, (f (ix2 i j) : EReal) = ((fr i j : ℝ) : EReal)) (h0 : ∀ i j, 3 / 10 ≤ fr i j) (h1 : ∀ i j, fr i j ≤ 1)
    (hq : ∀ i j, (q (ix2 i j) : EReal) = ((qr i j : ℝ) : EReal))
    (hv : ∀ i j, (v (ix2 i j) : EReal) = ((vr i j : ℝ) : EReal)) (hs : ∀ i j, (s (ix3 0 i j) : EReal) = ((sr i j : ℝ) : EReal))
    (j e : Fin 128) :
    ((∑ x : Fin 128, Scalar.select (IntOp.cmpi CmpIPredicate.sge (BitVec.ofNat 32 j.val) (BitVec.ofNat 32 x.val))
        ((∑ d : Fin 128, (q (ix2 j d) : EReal) * Ideal.exp (min (k0_pay7 f (ix2 j d) - k0_pay7 f (ix2 63 d) : EReal) (Ideal.ofBits FTy.f32 1117782016#32))
          * ((1 - f (ix2 x d)) * Ideal.exp (min (k0_pay7 f (ix2 63 d) - k0_pay7 f (ix2 x d)) (Ideal.ofBits FTy.f32 1117782016#32)))) * v (ix2 x e)) 0
      + ∑ d : Fin 128, q (ix2 j d) * Ideal.exp (k0_pay7 f (ix2 j d)) * s (ix3 0 e d) : EReal)) = ((rO qr fr vr sr j e : ℝ) : EReal) := by
  have hb : ∀ (d i k : Fin 128), i.val ≤ k.val + 64 → min ((cum (fun r => Real.log (fr r d)) k - cum (fun r => Real.log (fr r d)) i : ℝ) : EReal) ((80 : ℝ) : EReal)
      = ((cum (fun r => Real.log (fr r d)) k - cum (fun r => Real.log (fr r d)) i : ℝ) : EReal) := fun d i k hik =>
    min_eq_left (EReal.coe_le_coe_iff.mpr (cum_sub_le _ (fun r => log_bounds (h0 r d) (h1 r d)) i k hik))
  have hb1 := fun d k => hb d 63 k (by show 63 ≤ k.val + 64; omega)
  have hb2 := fun d i => hb d i 63 (by show i.val ≤ 63 + 64; omega)
  have hc : ∀ (p : Prop) [Decidable p] (x : ℝ), (if p then ((x : ℝ) : EReal) else 0) = ((if p then x else 0 : ℝ) : EReal) := fun p _ x => by
    split <;> rfl
  have he : ∀ x d : Fin 128, qr j d * Real.exp (cum (fun r => Real.log (fr r d)) j - cum (fun r => Real.log (fr r d)) 63)
      * ((1 - fr x d) * Real.exp (cum (fun r => Real.log (fr r d)) 63 - cum (fun r => Real.log (fr r d)) x))
      = qr j d * (1 - fr x d) * Real.exp (cum (fun r => Real.log (fr r d)) j - cum (fun r => Real.log (fr r d)) x) := fun x d => by
    rw [mul_mul_mul_comm, ← Real.exp_add]
    congr 2
    ring
  simp only [b_at hf h0, hf, hv, hs, hq, ofBits_80, ← EReal.coe_one, ← EReal.coe_sub, hb1, hb2, Ideal.exp_coe, ← EReal.coe_mul, ← coe_sum,
    select_le (le_refl 128), hc, he, ← EReal.coe_add, rO, ite_mul, zero_mul]

/-- The output of one head. -/
theorem headO_at (hf : ∀ i j, (f (ix2 i j) : EReal) = ((fr i j : ℝ) : EReal)) (h0 : ∀ i j, 3 / 10 ≤ fr i j) (h1 : ∀ i j, fr i j ≤ 1)
    (hq : ∀ i j, (q (ix2 i j) : EReal) = ((qr i j : ℝ) : EReal))
    (hv : ∀ i j, (v (ix2 i j) : EReal) = ((vr i j : ℝ) : EReal)) (hs : ∀ i j, (s (ix3 0 i j) : EReal) = ((sr i j : ℝ) : EReal))
    (j e : Fin 128) : (headO q f v g s (ix2 j e) : EReal) = fin (rO qr fr vr sr j) (g (ix2 j e)) e := by
  unfold headO
  pointwise [k0_pay15, k0_pay14, k0_pay3, k0_pay5, k0_pay6, k0_pay10, k0_pay11, k0_pay8, k0_pay9, k0_pay12]
  simp only [inner hf h0 h1 hq hv hs]
  rfl

end Cert.KernelIdeal.Rec

end
-- ==== Proof.RecRun.lean ====
/-
  The recurrence kernel's run over the reals: the carried state is the state of the recurrence after the rows so far, and
  the result array is every head's normalised and gated output.
-/
module

public import proofs.«01_k».proof.Proof.RecKernel

@[expose] public section

set_option maxRecDepth 16384

noncomputable section

namespace Cert.KernelIdeal.Rec

open Cert.KernelIdeal Cert.KernelIdeal.Gen Idealize.ShloMosaic Idealize.ShloMosaic.TcCoe Idealize.ShloMosaic.Tactic
open Idealize.SL.Sem Cert.RecMath
open Idealize.ShloMosaic.Pipeline (Dat)

section block

variable {q : Vec Ideal S128x2048 .bf16} {f : Vec Ideal S128x2048 .f32} {v g : Vec Ideal S128x2048 .bf16} {s : Vec Ideal S16x128x128 .f32}
variable {Q F V : ℕ → ℕ → ℝ} {n : ℕ}

/-- The state after a block of 128 rows that starts at row `n`. -/
theorem blkS_eq (hF0 : ∀ i j, 3 / 10 ≤ F i j) (hf : ∀ i j, (f (ix2 i j) : EReal) = ((F (n + i.val) j.val : ℝ) : EReal))
    (hv : ∀ i j, (v (ix2 i j) : EReal) = ((V (n + i.val) j.val : ℝ) : EReal))
    (hs : ∀ h e d, (s (ix3 h e d) : EReal) = ((stH F V h.val n d e : ℝ) : EReal)) (h : Fin 16) (e d : Fin 128) :
    (blkS f v s (ix3 h e d) : EReal) = ((stH F V h.val (n + 128) d e : ℝ) : EReal) := by
  refine (headS_at (f := cols f h) (v := cols v h) (s := slab s h) (fr := fun i j => F (n + i.val) (128 * h.val + j.val))
    (vr := fun i j => V (n + i.val) (128 * h.val + j.val)) (sr := fun e d => stH F V h.val n d e)
    (fun i j => hf _ _) (fun i j => hF0 _ _) (fun i j => hv _ _) (fun e d => hs _ _ _) e d).trans (congrArg _ ?_)
  exact (St_chunk (C := 128) (aH F h.val) (kH F h.val) (xH V h.val) n 127 rfl d e).symm

/-- The output block of the 128 rows from row `n` on. -/
theorem blkO_eq (hF0 : ∀ i j, 3 / 10 ≤ F i j) (hF1 : ∀ i j, F i j ≤ 1) (hf : ∀ i j, (f (ix2 i j) : EReal) = ((F (n + i.val) j.val : ℝ) : EReal))
    (hq : ∀ i j, (q (ix2 i j) : EReal) = ((Q (n + i.val) j.val : ℝ) : EReal))
    (hv : ∀ i j, (v (ix2 i j) : EReal) = ((V (n + i.val) j.val : ℝ) : EReal))
    (hs : ∀ h e d, (s (ix3 h e d) : EReal) = ((stH F V h.val n d e : ℝ) : EReal)) (i : Fin 128) (j : Fin 2048) :
    (blkO q f v g s (ix2 i j) : EReal) = fin (outH Q F V (hd j).val (n + i.val)) (g (ix2 i j)) (wi j) := by
  refine (headO_at (f := cols f (hd j)) (q := cols q (hd j)) (v := cols v (hd j)) (g := cols g (hd j)) (s := slab s (hd j))
    (fr := fun i' j' => F (n + i'.val) (128 * (hd j).val + j'.val)) (qr := fun i' j' => Q (n + i'.val) (128 * (hd j).val + j'.val))
    (vr := fun i' j' => V (n + i'.val) (128 * (hd j).val + j'.val)) (sr := fun e d => stH F V (hd j).val n d e)
    (fun _ _ => hf _ _) (fun _ _ => hF0 _ _) (fun _ _ => hF1 _ _) (fun _ _ => hq _ _) (fun _ _ => hv _ _) (fun e d => hs _ _ _) i (wi j)).trans ?_
  refine congrArg₂ (fun o x => fin o x (wi j)) (funext fun e => ?_) (congrArg g (congrArg (ix2 i) (Fin.ext ?_)))
  · exact (Out_chunk (C := 128) (aH F (hd j).val) (kH F (hd j).val) (xH V (hd j).val) (xH Q (hd j).val) n i e).symm
  · show 128 * (j.val / 128) + j.val % 128 = j.val
    omega

end block

variable (m : (ℓ : Loc nD τ sig) → Buf (Elt Ideal) ℓ) (ρ : Dev nD → PrngReg)

/-- Where the blocks of a point lie: row block `t` of each array. -/
theorem idx (t : Fin cfg0.N) : win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 :=
  (by decide +kernel : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0) t

/-- Row `r` of row block `t`. -/
def row (t : Fin cfg0.N) (r : Fin 128) : Fin 8192 := ⟨128 * t.val + r.val, by
  have h : t.val < 64 := lt_of_lt_of_eq t.isLt N_0
  omega⟩

/-- The queries' block of a point. -/
theorem iblk0 (c : Dev nD) (t : Fin cfg0.N) (y : S128x2048.Idx) :
    iblk m c 0 t y = m ((c : Thread nD τ).loc main_arg0) (ix2 (row t (y 0)) (y 1)) := by
  show V m c main_arg0 _ = _
  rw [V_main_arg0]
  obtain ⟨h, h', -⟩ := idx t
  refine congrArg _ (funext fun a => Fin.ext ?_)
  match a with
  | ⟨0, _⟩ => show win0_0.index t 0 * 128 + 1 * (y 0).val = 128 * t.val + (y 0).val; rw [h]; omega
  | ⟨1, _⟩ => show win0_0.index t 1 * 2048 + 1 * (y 1).val = (y 1).val; rw [h']; omega

/-- The decays' block of a point. -/
theorem iblk1 (c : Dev nD) (t : Fin cfg0.N) (y : S128x2048.Idx) :
    iblk m c 1 t y = m ((c : Thread nD τ).loc main_arg1) (ix2 (row t (y 0)) (y 1)) := by
  show V m c main_arg1 _ = _
  rw [V_main_arg1]
  obtain ⟨-, -, h, h', -⟩ := idx t
  refine congrArg _ (funext fun a => Fin.ext ?_)
  match a with
  | ⟨0, _⟩ => show win0_1.index t 0 * 128 + 1 * (y 0).val = 128 * t.val + (y 0).val; rw [h]; omega
  | ⟨1, _⟩ => show win0_1.index t 1 * 2048 + 1 * (y 1).val = (y 1).val; rw [h']; omega

/-- The values' block of a point. -/
theorem iblk2 (c : Dev nD) (t : Fin cfg0.N) (y : S128x2048.Idx) :
    iblk m c 2 t y = m ((c : Thread nD τ).loc main_arg2) (ix2 (row t (y 0)) (y 1)) := by
  show V m c main_arg2 _ = _
  rw [V_main_arg2]
  obtain ⟨-, -, -, -, h, h', -⟩ := idx t
  refine congrArg _ (funext fun a => Fin.ext ?_)
  match a with
  | ⟨0, _⟩ => show win0_2.index t 0 * 128 + 1 * (y 0).val = 128 * t.val + (y 0).val; rw [h]; omega
  | ⟨1, _⟩ => show win0_2.index t 1 * 2048 + 1 * (y 1).val = (y 1).val; rw [h']; omega

/-- The gates' block of a point. -/
theorem iblk3 (c : Dev nD) (t : Fin cfg0.N) (y : S128x2048.Idx) :
    iblk m c 3 t y = m ((c : Thread nD τ).loc main_arg3) (ix2 (row t (y 0)) (y 1)) := by
  show V m c main_arg3 _ = _
  rw [V_main_arg3]
  obtain ⟨-, -, -, -, -, -, h, h', -⟩ := idx t
  refine congrArg _ (funext fun a => Fin.ext ?_)
  match a with
  | ⟨0, _⟩ => show win0_3.index t 0 * 128 + 1 * (y 0).val = 128 * t.val + (y 0).val; rw [h]; omega
  | ⟨1, _⟩ => show win0_3.index t 1 * 2048 + 1 * (y 1).val = (y 1).val; rw [h']; omega

/-- The indices of a point's block: its 128 rows. -/
theorem mem_blk (t : Fin cfg0.N) (i : S8192x2048.Idx) (hi : (i 0 : Nat) / 128 = t.val) : i ∈ ((cfg0.win 4).blk t).view.set := by
  show i ∈ ((View.whole main_v0).slice (win0_4.rect t)).set
  rw [View.set_slice_whole, Rect.mem_set_unit]
  obtain ⟨-, -, -, -, -, -, -, -, h, h'⟩ := idx t
  have h1 : (i 1 : Nat) < 2048 := (i 1).isLt
  intro a
  match a with
  | ⟨0, _⟩ =>
    show win0_4.index t 0 * 128 ≤ (i 0 : Nat) ∧ (i 0 : Nat) < win0_4.index t 0 * 128 + 128
    rw [h]; omega
  | ⟨1, _⟩ =>
    show win0_4.index t 1 * 2048 ≤ (i 1 : Nat) ∧ (i 1 : Nat) < win0_4.index t 1 * 2048 + 2048
    rw [h']; omega

/-- What the first point leaves. -/
theorem outs_A (c : Dev nD) (t : Fin cfg0.N) (h0 : t.val % 64 = 0) : outsAt0 m c t.val t.isLt
    = (blkO (iblk m c 0 t) (iblk m c 1 t) (iblk m c 2 t) (iblk m c 3 t) (k0_pay2 (F := Ideal)), blkS (iblk m c 1 t) (iblk m c 2 t) (k0_pay2 (F := Ideal))) :=
  (outsAt0_A m c t h0).trans (congrArg₂ Prod.mk (out_A ..) (sout_A ..))

/-- What a later point leaves, from the state before it. -/
theorem outs_B (c : Dev nD) (t : Fin cfg0.N) (h0 : ¬t.val % 64 = 0) : outsAt0 m c t.val t.isLt
    = (blkO (iblk m c 0 t) (iblk m c 1 t) (iblk m c 2 t) (iblk m c 3 t) (outsAt0 m c (t.val - 1) (Nat.lt_of_le_of_lt (Nat.sub_le _ _) t.isLt)).2,
      blkS (iblk m c 1 t) (iblk m c 2 t) (outsAt0 m c (t.val - 1) (Nat.lt_of_le_of_lt (Nat.sub_le _ _) t.isLt)).2) :=
  (outsAt0_B m c t h0).trans (congrArg₂ Prod.mk (out_B ..) (sout_B ..))

/-- An argument array that reads as the reals `X`. -/
def Reads (x : S8192x2048.Idx → EReal) (X : ℕ → ℕ → ℝ) : Prop := ∀ (i : Fin 8192) (j : Fin 2048), x (ix2 i j) = ((X i.val j.val : ℝ) : EReal)

/-- Every head's normalised and gated output, for the gates `g`. -/
def rec (Q F V : ℕ → ℕ → ℝ) (g : S8192x2048.Idx → EReal) : S8192x2048.Idx → EReal := fun i =>
  fin (outH Q F V (hd (i 1)).val (i 0).val) (g i) (wi (i 1))

section run

variable (Q F V : ℕ → ℕ → ℝ) (c : Dev nD) (hF0 : ∀ i j, 3 / 10 ≤ F i j) (hF1 : ∀ i j, F i j ≤ 1)
  (hq : Reads (m ((c : Thread nD τ).loc main_arg0)) Q) (hf : Reads (m ((c : Thread nD τ).loc main_arg1)) F)
  (hv : Reads (m ((c : Thread nD τ).loc main_arg2)) V)
include hF0 hF1 hq hf hv

/-- What each point leaves: its rows of the output, and the state after its last row. -/
theorem point : ∀ (n : ℕ) (h : n < cfg0.N),
    (∀ (i : Fin 128) (j : Fin 2048), ((outsAt0 m c n h).1 (ix2 i j) : EReal)
        = fin (outH Q F V (hd j).val (128 * n + i.val)) (m ((c : Thread nD τ).loc main_arg3) (ix2 (row ⟨n, h⟩ i) j)) (wi j))
    ∧ ∀ h' e d, ((outsAt0 m c n h).2 (ix3 h' e d) : EReal) = ((stH F V h'.val (128 * n + 128) d e : ℝ) : EReal) := by
  have step : ∀ (t : Fin cfg0.N) (s : Vec Ideal S16x128x128 .f32),
      (∀ h e d, (s (ix3 h e d) : EReal) = ((stH F V h.val (128 * t.val) d e : ℝ) : EReal)) →
      outsAt0 m c t.val t.isLt = (blkO (iblk m c 0 t) (iblk m c 1 t) (iblk m c 2 t) (iblk m c 3 t) s, blkS (iblk m c 1 t) (iblk m c 2 t) s) →
      (∀ (i : Fin 128) (j : Fin 2048), ((outsAt0 m c t.val t.isLt).1 (ix2 i j) : EReal)
        = fin (outH Q F V (hd j).val (128 * t.val + i.val)) (m ((c : Thread nD τ).loc main_arg3) (ix2 (row t i) j)) (wi j))
      ∧ ∀ h' e d, ((outsAt0 m c t.val t.isLt).2 (ix3 h' e d) : EReal) = ((stH F V h'.val (128 * t.val + 128) d e : ℝ) : EReal) := by
    intro t s hs e
    have hf' : ∀ i j, (iblk m c 1 t (ix2 i j) : EReal) = ((F (128 * t.val + i.val) j.val : ℝ) : EReal) := fun i j => (iblk1 m c t _).trans (hf _ _)
    have hq' : ∀ i j, (iblk m c 0 t (ix2 i j) : EReal) = ((Q (128 * t.val + i.val) j.val : ℝ) : EReal) := fun i j => (iblk0 m c t _).trans (hq _ _)
    have hv' : ∀ i j, (iblk m c 2 t (ix2 i j) : EReal) = ((V (128 * t.val + i.val) j.val : ℝ) : EReal) := fun i j => (iblk2 m c t _).trans (hv _ _)
    rw [e]
    exact ⟨fun i j => (blkO_eq hF0 hF1 hf' hq' hv' hs i j).trans (congrArg (fun x => fin _ x _) (iblk3 m c t _)),
      fun h' e d => blkS_eq hF0 hf' hv' hs h' e d⟩
  have hz : ∀ h e d, ((k0_pay2 (F := Ideal)) (ix3 h e d) : EReal) = ((stH F V h.val (128 * 0) d e : ℝ) : EReal) := fun h e d => by
    rw [stH, mul_zero, St_zero]
    pointwise [k0_pay2]
    rfl
  intro n
  induction n with
  | zero => exact fun h => step ⟨0, h⟩ (k0_pay2 (F := Ideal)) hz (outs_A m c ⟨0, h⟩ rfl)
  | succ n ih =>
    intro h
    have hn : n + 1 < 64 := lt_of_lt_of_eq h N_0
    exact step ⟨n + 1, h⟩ _ (ih (Nat.lt_of_succ_lt h)).2 (outs_B m c ⟨n + 1, h⟩ (by show ¬(n + 1) % 64 = 0; omega))

/-- The array the kernel leaves. -/
theorem final : (dats m 0 c).arrAt 4 cfg0.N = rec Q F V (m ((c : Thread nD τ).loc main_arg3)) := by
  refine (dats m 0 c).arrAt_eq_of_cover 4 (rec Q F V (m ((c : Thread nD τ).loc main_arg3)) : Buf (Elt Ideal) ((c : Thread nD τ).loc main_v0)) (fun t _ => ?_) fun i => ?_
  · rw [Value.flushed4]
    funext y
    have hd' : ((cfg0.win 4).blk t).view.emb y = (ix2 (row t (y 0)) (y 1) : S8192x2048.Idx) := by
      obtain ⟨-, -, -, -, -, -, -, -, h, h'⟩ := idx t
      refine funext fun a => Fin.ext ?_
      match a with
      | ⟨0, _⟩ => show win0_4.index t 0 * 128 + 1 * (y 0).val = 128 * t.val + (y 0).val; rw [h]; omega
      | ⟨1, _⟩ => show win0_4.index t 1 * 2048 + 1 * (y 1).val = (y 1).val; rw [h']; omega
    refine Eq.trans ?_ (congrArg (rec Q F V (m ((c : Thread nD τ).loc main_arg3))) hd').symm
    exact (congrArg _ (eq_ix2 (n0 := 128) (n1 := 2048) y)).trans ((point m Q F V c hF0 hF1 hq hf hv t.val t.isLt).1 (y 0) (y 1))
  · have h0 : ((i : S8192x2048.Idx) 0 : Nat) < 8192 := (i 0).isLt
    exact ⟨⟨((i : S8192x2048.Idx) 0).val / 128, lt_of_lt_of_eq (by omega : ((i : S8192x2048.Idx) 0).val / 128 < 64) N_0.symm⟩, flush0_4 _, mem_blk _ i rfl⟩

end run

end Cert.KernelIdeal.Rec

end
-- ==== Proof.RecRef.lean ====
/-
  One trip of the reference's loop over the chunks: what it reads of the carried arrays, the new state and the chunk's
  output, over the reals.
-/
module

public import proofs.«01_k».proof.Proof.Gen.ReferenceIdeal.Run
public import proofs.«01_k».proof.Proof.Cumsum
public import proofs.«01_k».proof.Proof.RecKernel
public import Idealize.ShloMosaic.Lib.DynamicIndex
public import Idealize.ShloMosaic.Lib.Tactic.CleanTypes

@[expose] public section

set_option maxRecDepth 16384

noncomputable section

namespace Cert.ReferenceIdeal.Rec

open Cert.ReferenceIdeal Cert.ReferenceIdeal.Gen Cert.ReferenceIdeal.Value
open Idealize.ShloMosaic Idealize.ShloMosaic.TcCoe Idealize.ShloMosaic.Tactic
open Idealize.SL.Sem Idealize.ShloMosaic.StableHlo Cert.RecMath
open Cert.KernelIdeal.Rec (coe_sum select_le)

/-- The start of chunk `ctr` in a chunked array. -/
def start (ctr : IVec S_ 32) : Fin 4 → Int := fun k =>
  (((![ctr, constantI S_ 32 0#32, constantI S_ 32 0#32, constantI S_ 32 0#32] : Fin 4 → IVec S_ 32)) k (Shape.Idx.first h_S_)).toInt

/-- Chunk `n` starts at `n`. -/
theorem start_eq (n : Fin 128) (a : Fin 4) : start (fun _ => BitVec.ofNat 32 n.val) a = ((![n.val, 0, 0, 0] : Fin 4 → ℕ) a : Int) := by
  match a with
  | ⟨0, _⟩ => exact toInt_ofNat_of_lt (by omega)
  | ⟨1, _⟩ => rfl
  | ⟨2, _⟩ => rfl
  | ⟨3, _⟩ => rfl

/-- Chunk `n` lies in a chunked array. -/
theorem chunk_slices (n : Fin 128) : S128x16x64x128.Slices (![n.val, 0, 0, 0] : Fin 4 → ℕ) S1x16x64x128 := by
  refine ⟨rfl, fun a => ?_⟩
  match a with
  | ⟨0, _⟩ => show n.val + 1 ≤ 128; omega
  | ⟨1, _⟩ => show 0 + 16 ≤ 16; omega
  | ⟨2, _⟩ => show 0 + 64 ≤ 64; omega
  | ⟨3, _⟩ => show 0 + 128 ≤ 128; omega

/-- What a trip reads of a chunked array: chunk `ctr`. -/
def rd {F : FTy → Type} [FloatOps F] (x : FVec F S128x16x64x128 .f32) (ctr : IVec S_ 32) : FVec F S16x64x128 .f32 :=
  shapeCast S16x64x128 (Host.dynamicSlice S1x16x64x128 x (start ctr) sliceFits_S128x16x64x128_S1x16x64x128) shapeCasts_S1x16x64x128_S16x64x128

theorem rd_at (x : FVec Ideal S128x16x64x128 .f32) (n : Fin 128) (h : Fin 16) (t : Fin 64) (d : Fin 128) :
    (rd x (fun _ => BitVec.ofNat 32 n.val) (ix3 h t d) : EReal) = x (ix4 n h t d) := by
  unfold rd
  rw [Host.dynamicSlice_eq_extractStridedSlice _ _ _ _ _ (chunk_slices n) (start_eq n)]
  pointwise

/-- What a trip writes: chunk `ctr` replaced. -/
def wr {F : FTy → Type} [FloatOps F] (x : FVec F S128x16x64x128 .f32) (u : FVec F S16x64x128 .f32) (ctr : IVec S_ 32) : FVec F S128x16x64x128 .f32 :=
  Host.dynamicUpdateSlice x (broadcastInDim S1x16x64x128 ![1, 2, 3] bcast_S16x64x128_S1x16x64x128_1_2_3 u) (start ctr) updateFits_S128x16x64x128_S1x16x64x128

theorem wr_at (x : FVec Ideal S128x16x64x128 .f32) (u : FVec Ideal S16x64x128 .f32) (n n' : Fin 128) (h : Fin 16) (t : Fin 64) (e : Fin 128) :
    (wr x u (fun _ => BitVec.ofNat 32 n.val) (ix4 n' h t e) : EReal) = if n' = n then u (ix3 h t e) else x (ix4 n' h t e) := by
  have e1 : wr x u (fun _ => BitVec.ofNat 32 n.val)
      = updateSlice x (broadcastInDim S1x16x64x128 ![1, 2, 3] bcast_S16x64x128_S1x16x64x128_1_2_3 u) ![n.val, 0, 0, 0] (chunk_slices n) := by
    have hadj : (fun a => (min (max (start (fun _ => BitVec.ofNat 32 n.val) a) 0) ((S128x16x64x128.size a - S1x16x64x128.size a : Nat) : Int)).toNat)
        = (![n.val, 0, 0, 0] : Fin 4 → ℕ) := funext fun a => by
      rw [start_eq]
      have := (chunk_slices n).2 a
      show (min (max (((![n.val, 0, 0, 0] : Fin 4 → ℕ) a : Int)) 0) ((S128x16x64x128.size a - S1x16x64x128.size a : Nat) : Int)).toNat = _
      have h2 : (![n.val, 0, 0, 0] : Fin 4 → ℕ) a + S1x16x64x128.size a ≤ S128x16x64x128.size a := this
      omega
    unfold wr Host.dynamicUpdateSlice
    dsimp only
    congr 1
  rw [e1]
  pointwise
  by_cases hn : n' = n
  · rw [dif_pos (by rw [hn]; omega), if_pos hn]
  · rw [dif_neg (fun hh => hn (Fin.ext (by omega))), if_neg hn]

variable {F : FTy → Type} [FloatOps F] (b qb kb vb : FVec F S16x64x128 .f32) (bl : FVec F S16x1x128 .f32) (st : FVec F S16x128x128 .f32) (mk : IVec S64x64x1 1)

/-- The running sums of a chunk's log decays. -/
def trB (lf : FVec F S16x64x128 .f32) : FVec F S16x64x128 .f32 :=
  Host.reduceWindowAdd ![1, 64, 1] ![1, 1, 1] ![0, 63, 0] ![0, 0, 0] lf (broadcastInDim S_ ![] bcast_S_S_ (constant S_ .f32 0x00000000#32)) reduceWindows_S16x64x128_S16x64x128_w1s1p0_0_w64s1p63_0_w1s1p0_0 h_S_

/-- Their last row. -/
def trL : FVec F S16x1x128 .f32 := extractStridedSlice S16x1x128 ![0, 63, 0] b slices_S16x64x128_S16x1x128_0_63_0

/-- The state after a trip. -/
def trS : FVec F S16x128x128 .f32 :=
  addf (mulf st (broadcastInDim S16x128x128 ![0, 1, 2] bcast_S16x128x1_S16x128x128_0_1_2 (broadcastInDim S16x128x1 ![0, 1] bcast_S16x128_S16x128x1_0_1 (shapeCast S16x128 (Host.exp (φ := .f32) bl) shapeCasts_S16x1x128_S16x128)))) (Host.dotGeneral (φ₂ := .f32) dot_S16x64x128_S16x64x128_S16x128x128_1_1_2_2_0_0 none (mulf kb (Host.exp (subf (broadcastInDim S16x64x128 ![0, 1, 2] bcast_S16x1x128_S16x64x128_0_1_2 bl) b))) vb)

/-- The output of a trip. -/
def trO : FVec F S16x64x128 .f32 :=
  addf (Host.dotGeneral (φ₂ := .f32) dot_S16x64x64_S16x64x128_S16x64x128_2_1_1_2_0_0 none (Host.reduceAdd (mulf (mulf (broadcastInDim S16x64x64x128 ![0, 1, 2, 3] bcast_S16x64x1x128_S16x64x64x128_0_1_2_3 (broadcastInDim S16x64x1x128 ![0, 1, 3] bcast_S16x64x128_S16x64x1x128_0_1_3 qb)) (Host.exp (φ := .f32) (select (broadcastInDim S16x64x64x128 ![1, 2, 3] bcast_S64x64x1_S16x64x64x128_1_2_3 mk) (subf (broadcastInDim S16x64x64x128 ![0, 1, 2, 3] bcast_S16x64x1x128_S16x64x64x128_0_1_2_3 (broadcastInDim S16x64x1x128 ![0, 1, 3] bcast_S16x64x128_S16x64x1x128_0_1_3 b)) (broadcastInDim S16x64x64x128 ![0, 1, 2, 3] bcast_S16x1x64x128_S16x64x64x128_0_1_2_3 (broadcastInDim S16x1x64x128 ![0, 2, 3] bcast_S16x64x128_S16x1x64x128_0_2_3 b))) (broadcastInDim S16x64x64x128 ![] bcast_S_S16x64x64x128 (constant S_ .f32 0xFF800000#32))))) (broadcastInDim S16x64x64x128 ![0, 1, 2, 3] bcast_S16x1x64x128_S16x64x64x128_0_1_2_3 (broadcastInDim S16x1x64x128 ![0, 2, 3] bcast_S16x64x128_S16x1x64x128_0_2_3 kb))) (constant S_ .f32 0x00000000#32) reducesTo_S16x64x64x128_S16x64x64_d3 h_S_) vb) (Host.dotGeneral (φ₂ := .f32) dot_S16x64x128_S16x128x128_S16x64x128_2_1_1_2_0_0 none (mulf qb (Host.exp (φ := .f32) b)) st)

/-- One trip's new state is `trS`, -/
theorem step6 (V0 : Valuation τ sig (Elt F)) : step_main_v18_6 V0
    = trS (trB (rd (V0 (Proc.devRef .tc main_v18_3)) (V0 (Proc.devRef .tc main_v18_5)))) (rd (V0 (Proc.devRef .tc main_v18_1)) (V0 (Proc.devRef .tc main_v18_5)))
      (rd (V0 (Proc.devRef .tc main_v18_2)) (V0 (Proc.devRef .tc main_v18_5))) (trL (trB (rd (V0 (Proc.devRef .tc main_v18_3)) (V0 (Proc.devRef .tc main_v18_5)))))
      (V0 (Proc.devRef .tc main_v18_6)) := rfl

/-- and its outputs those before it with the chunk's `trO` put in. -/
theorem step7 (V0 : Valuation τ sig (Elt F)) : step_main_v18_7 V0
    = wr (V0 (Proc.devRef .tc main_v18_7)) (trO (trB (rd (V0 (Proc.devRef .tc main_v18_3)) (V0 (Proc.devRef .tc main_v18_5))))
      (rd (V0 (Proc.devRef .tc main_v18_0)) (V0 (Proc.devRef .tc main_v18_5))) (rd (V0 (Proc.devRef .tc main_v18_1)) (V0 (Proc.devRef .tc main_v18_5)))
      (rd (V0 (Proc.devRef .tc main_v18_2)) (V0 (Proc.devRef .tc main_v18_5))) (V0 (Proc.devRef .tc main_v18_6)) (V0 (Proc.devRef .tc main_v18_4)))
      (V0 (Proc.devRef .tc main_v18_5)) := by
  unfold step_main_v18_7 res_main_while0b_v35 res_main_while0b_v36 res_main_while0b_v37 res_main_while0b_v39 wr trO trB rd start
  exact rfl

/-- Reading the running sums at reals. -/
theorem trB_at {lf : FVec Ideal S16x64x128 .f32} {lr : Fin 16 → Fin 64 → Fin 128 → ℝ}
    (hl : ∀ h t d, (lf (ix3 h t d) : EReal) = ((lr h t d : ℝ) : EReal)) (h : Fin 16) (t : Fin 64) (d : Fin 128) :
    (trB lf (ix3 h t d) : EReal) = ((cum (fun r => lr h r d) t : ℝ) : EReal) := by
  unfold trB
  refine (Cert.Cumsum.host_mid _ _ _ _ (fun i => by pointwise) h t d).trans ?_
  simp only [hl]
  rw [cum, coe_sum]
  exact Finset.sum_congr rfl fun x _ => (apply_ite (fun r : ℝ => (r : EReal)) _ _ _).symm

variable {b qb kb vb : FVec Ideal S16x64x128 .f32} {st : FVec Ideal S16x128x128 .f32} {mk : IVec S64x64x1 1}
variable {br qr kr vr : Fin 16 → Fin 64 → Fin 128 → ℝ} {sr : Fin 16 → Fin 128 → Fin 128 → ℝ}

/-- The state after a trip, at reals. -/
theorem trS_at (hb : ∀ h t d, (b (ix3 h t d) : EReal) = ((br h t d : ℝ) : EReal)) (hk : ∀ h t d, (kb (ix3 h t d) : EReal) = ((kr h t d : ℝ) : EReal))
    (hv : ∀ h t d, (vb (ix3 h t d) : EReal) = ((vr h t d : ℝ) : EReal)) (hs : ∀ h d e, (st (ix3 h d e) : EReal) = ((sr h d e : ℝ) : EReal))
    (h : Fin 16) (d e : Fin 128) : (trS b kb vb (trL b) st (ix3 h d e) : EReal)
      = ((sr h d e * Real.exp (br h 63 d) + ∑ x, vr h x e * (kr h x d * Real.exp (br h 63 d - br h x d)) : ℝ) : EReal) := by
  unfold trS trL
  pointwise
  simp only [hb, hk, hv, hs, Ideal.exp_coe, ← EReal.coe_sub, ← EReal.coe_mul, ← coe_sum, ← EReal.coe_add, mul_comm (vr _ _ _)]

/-- The output of a trip, at reals. -/
theorem trO_at (hb : ∀ h t d, (b (ix3 h t d) : EReal) = ((br h t d : ℝ) : EReal)) (hq : ∀ h t d, (qb (ix3 h t d) : EReal) = ((qr h t d : ℝ) : EReal))
    (hk : ∀ h t d, (kb (ix3 h t d) : EReal) = ((kr h t d : ℝ) : EReal)) (hv : ∀ h t d, (vb (ix3 h t d) : EReal) = ((vr h t d : ℝ) : EReal))
    (hs : ∀ h d e, (st (ix3 h d e) : EReal) = ((sr h d e : ℝ) : EReal))
    (hm : ∀ t x : Fin 64, mk (ix3 t x 0) = if x.val ≤ t.val then 1#1 else 0#1) (h : Fin 16) (t : Fin 64) (e : Fin 128) :
    (trO b qb kb vb st mk (ix3 h t e) : EReal)
      = (((∑ x : Fin 64, (if x.val ≤ t.val then ∑ d, qr h t d * kr h x d * Real.exp (br h t d - br h x d) else 0) * vr h x e)
        + ∑ d, qr h t d * Real.exp (br h t d) * sr h d e : ℝ) : EReal) := by
  have hse : ∀ (t x : Fin 64) (u : ℝ), Ideal.exp (Scalar.select (mk (ix3 t x 0)) ((u : ℝ) : EReal) (Ideal.ofBits FTy.f32 4286578688#32))
      = ((if x.val ≤ t.val then Real.exp u else 0 : ℝ) : EReal) := fun t x u => by
    rw [hm, Scalar.select_def]
    split
    · rfl
    · rw [if_neg (by decide), show Ideal.ofBits FTy.f32 4286578688#32 = ⊥ by simp [Ideal.ofBits, Ideal.ieee]]; rfl
  unfold trO
  pointwise
  simp only [hb, hk, hv, hs, hq, ← EReal.coe_sub, hse, Ideal.exp_coe, ← EReal.coe_mul, ← coe_sum, ← EReal.coe_add]
  refine congrArg (fun r : ℝ => (r : EReal)) (congrArg₂ (· + ·) (Finset.sum_congr rfl fun x _ => congrArg (· * vr h x e) ?_) rfl)
  split
  · exact Finset.sum_congr rfl fun d _ => mul_right_comm _ _ _
  · simp

end Cert.ReferenceIdeal.Rec

end
-- ==== Proof.RecRefRun.lean ====
/-
  The reference's loop over the chunks, and its result.
-/
module

public import proofs.«01_k».proof.Proof.RecRef
public import proofs.«01_k».proof.Proof.RecRun

@[expose] public section

set_option maxRecDepth 16384

noncomputable section

namespace Cert.ReferenceIdeal.Rec

open Cert.ReferenceIdeal Cert.ReferenceIdeal.Gen Cert.ReferenceIdeal.Value
open Idealize.ShloMosaic Idealize.ShloMosaic.TcCoe Idealize.ShloMosaic.Tactic
open Idealize.SL.Sem Idealize.ShloMosaic.StableHlo Cert.RecMath

variable (m : (ℓ : Loc nD τ sig) → Buf (Elt Ideal) ℓ) (c : Dev nD)

/-- An array cut into chunks and heads. -/
def chunks {F : FTy → Type} [FloatOps F] (x : FVec F S8192x2048 .f32) : FVec F S128x16x64x128 .f32 :=
  transpose S128x16x64x128 [0, 2, 1, 3] (shapeCast S128x64x16x128 x shapeCasts_S8192x2048_S128x64x16x128) transposes_S128x64x16x128_S128x16x64x128_0_2_1_3

/-- Chunk `n`, head `h`, row `t`, column `d` of it: row `64 n + t`, column `128 h + d` of the array. -/
theorem chunks_at (x : FVec Ideal S8192x2048 .f32) (n : Fin 128) (h : Fin 16) (t : Fin 64) (d : Fin 128) :
    (chunks x (ix4 n h t d) : EReal) = x (ix2 ⟨64 * n.val + t.val, by omega⟩ ⟨128 * h.val + d.val, by omega⟩) := by
  unfold chunks
  pointwise
  exact congrArg x (congrArg₂ ix2 (Fin.ext (by show n.val * 64 + t.val = 64 * n.val + t.val; omega)) (Fin.ext (by show h.val * 128 + d.val = 128 * h.val + d.val; omega)))

/-- The causal mask. -/
def mask : IVec S64x64x1 1 :=
  broadcastInDim S64x64x1 ![0, 1] bcast_S64x64_S64x64x1_0_1
    (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)))

theorem mask_at (t x : Fin 64) : mask (ix3 t x 0) = if x.val ≤ t.val then 1#1 else 0#1 := by
  unfold mask
  pointwise
  exact (congrArg (fun w => Scalar.select (IntOp.cmpi CmpIPredicate.sge w (BitVec.ofNat 32 x.val)) 1#1 0#1) (BitVec.add_zero _)).trans
    (Cert.KernelIdeal.Rec.select_le (by omega) t x _ _)

/-- The loop's entry: the four arguments' chunks, the mask, the counter at zero, the zero state. -/
theorem entry0 : entryContents preI m c (Proc.devRef .tc main_v18_0)
    = chunks (F := Ideal) (extf (F := Ideal) (s := S8192x2048) (φ := .bf16) .f32 (m ((c : Thread nD τ).loc main_arg0)) bitsLt_bf16_f32) := by
  simp only [entryContents, afterL_cons, afterL_nil]
  after_reads_simp
  rfl

theorem entry1 : entryContents preI m c (Proc.devRef .tc main_v18_1)
    = chunks (F := Ideal) (subf (F := Ideal) (s := S8192x2048) (φ := .f32) (broadcastInDim S8192x2048 ![] bcast_S_S8192x2048 (constant (F := Ideal) S_ .f32 0x3F800000#32)) (m ((c : Thread nD τ).loc main_arg1))) := by
  simp only [entryContents, afterL_cons, afterL_nil]
  after_reads_simp
  rfl

theorem entry2 : entryContents preI m c (Proc.devRef .tc main_v18_2)
    = chunks (F := Ideal) (extf (F := Ideal) (s := S8192x2048) (φ := .bf16) .f32 (m ((c : Thread nD τ).loc main_arg2)) bitsLt_bf16_f32) := by
  simp only [entryContents, afterL_cons, afterL_nil]
  after_reads_simp
  rfl

theorem entry3 : entryContents preI m c (Proc.devRef .tc main_v18_3)
    = chunks (F := Ideal) (Host.log (F := Ideal) (s := S8192x2048) (φ := .f32) (m ((c : Thread nD τ).loc main_arg1))) := by
  simp only [entryContents, afterL_cons, afterL_nil]
  after_reads_simp
  rfl

theorem entry4 : entryContents preI m c (Proc.devRef .tc main_v18_4) = mask := by
  simp only [entryContents, afterL_cons, afterL_nil]
  after_reads_simp
  rfl

theorem entry6 : entryContents preI m c (Proc.devRef .tc main_v18_6)
    = broadcastInDim S16x128x128 ![] bcast_S_S16x128x128 (constant (F := Ideal) S_ .f32 0x00000000#32) := by
  simp only [entryContents, afterL_cons, afterL_nil]
  after_reads_simp
  rfl

/-- The result, of the outputs of all chunks and the gates. -/
def fuse {F : FTy → Type} [FloatOps F] (o : FVec F S128x16x64x128 .f32) (g : FVec F S8192x2048 .bf16) : FVec F S8192x2048 .bf16 :=
  let x : FVec F S8192x16x128 .f32 := shapeCast S8192x16x128 (transpose S128x64x16x128 [0, 2, 1, 3] o transposes_S128x16x64x128_S128x64x16x128_0_2_1_3) shapeCasts_S128x64x16x128_S8192x16x128
  truncf .bf16 (mulf (shapeCast S8192x2048 (mulf x (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf x x) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) shapeCasts_S8192x16x128_S8192x2048) (extf .f32 g bitsLt_bf16_f32)) bitsLt_bf16_f32

theorem out_eq (V0 : Valuation τ sig (Elt Ideal)) : out_main_v34 V0 = fuse (F := Ideal) (V0 (Proc.devRef .tc main_v18_7)) (V0 (Proc.devRef .tc main_arg3)) := rfl

theorem fuse_at {o : FVec Ideal S128x16x64x128 .f32} {g : FVec Ideal S8192x2048 .bf16} {Q F V : ℕ → ℕ → ℝ}
    (ho : ∀ n h t e, (o (ix4 n h t e) : EReal) = ((outH Q F V h.val (64 * n.val + t.val) e : ℝ) : EReal)) :
    fuse o g = Cert.KernelIdeal.Rec.rec Q F V g := by
  funext i
  idx_vars i
  unfold fuse
  dsimp only
  pointwise
  simp only [ho, Nat.div_add_mod]
  rfl

open Cert.KernelIdeal.Rec (Reads)

section run

variable (Q F V : ℕ → ℕ → ℝ) (hF0 : ∀ i j, 3 / 10 ≤ F i j)
  (hq : Reads (m ((c : Thread nD τ).loc main_arg0)) Q) (hf : Reads (m ((c : Thread nD τ).loc main_arg1)) F)
  (hv : Reads (m ((c : Thread nD τ).loc main_arg2)) V)
include hF0 hq hf hv

/-- What every trip finds: the same chunks and mask, the counter at the number of trips, the state after the chunks so
    far, and the outputs of the chunks so far. -/
structure Inv (n : ℕ) (X : Valuation τ sig (Elt Ideal)) : Prop where
  q : ∀ n h t d, ((X (Proc.devRef .tc main_v18_0) : FVec Ideal S128x16x64x128 .f32) (ix4 n h t d) : EReal) = ((xH Q h.val (64 * n.val + t.val) d : ℝ) : EReal)
  k : ∀ n h t d, ((X (Proc.devRef .tc main_v18_1) : FVec Ideal S128x16x64x128 .f32) (ix4 n h t d) : EReal) = ((kH F h.val (64 * n.val + t.val) d : ℝ) : EReal)
  v : ∀ n h t d, ((X (Proc.devRef .tc main_v18_2) : FVec Ideal S128x16x64x128 .f32) (ix4 n h t d) : EReal) = ((xH V h.val (64 * n.val + t.val) d : ℝ) : EReal)
  a : ∀ n h t d, ((X (Proc.devRef .tc main_v18_3) : FVec Ideal S128x16x64x128 .f32) (ix4 n h t d) : EReal) = ((aH F h.val (64 * n.val + t.val) d : ℝ) : EReal)
  msk : X (Proc.devRef .tc main_v18_4) = mask
  ctr : X (Proc.devRef .tc main_v18_5) = fun _ => BitVec.ofNat 32 n
  st : ∀ h d e, ((X (Proc.devRef .tc main_v18_6) : FVec Ideal S16x128x128 .f32) (ix3 h d e) : EReal) = ((stH F V h.val (64 * n) d e : ℝ) : EReal)
  out : ∀ (n' : Fin 128) h t e, n'.val < n → ((X (Proc.devRef .tc main_v18_7) : FVec Ideal S128x16x64x128 .f32) (ix4 n' h t e) : EReal)
    = ((outH Q F V h.val (64 * n'.val + t.val) e : ℝ) : EReal)

omit hF0 hq hf hv in
/-- One trip. -/
theorem inv_step (n : ℕ) (hn : n < 128) (X : Valuation τ sig (Elt Ideal)) (I : Inv Q F V n X) : Inv Q F V (n + 1) (STEP X) := by
  have hc : X (Proc.devRef .tc main_v18_5) = fun _ => BitVec.ofNat 32 (⟨n, hn⟩ : Fin 128).val := I.ctr
  have ha := fun h t d => (rd_at (X (Proc.devRef .tc main_v18_3)) ⟨n, hn⟩ h t d).trans (I.a ⟨n, hn⟩ h t d)
  have hq := fun h t d => (rd_at (X (Proc.devRef .tc main_v18_0)) ⟨n, hn⟩ h t d).trans (I.q ⟨n, hn⟩ h t d)
  have hk := fun h t d => (rd_at (X (Proc.devRef .tc main_v18_1)) ⟨n, hn⟩ h t d).trans (I.k ⟨n, hn⟩ h t d)
  have hv := fun h t d => (rd_at (X (Proc.devRef .tc main_v18_2)) ⟨n, hn⟩ h t d).trans (I.v ⟨n, hn⟩ h t d)
  have hb := trB_at (lr := fun h t d => aH F h.val (64 * n + t.val) d) ha
  constructor
  · rw [STEP_main_v18_0]; exact I.q
  · rw [STEP_main_v18_1]; exact I.k
  · rw [STEP_main_v18_2]; exact I.v
  · rw [STEP_main_v18_3]; exact I.a
  · rw [STEP_main_v18_4]; exact I.msk
  · rw [STEP_main_v18_5]
    unfold step_main_v18_5
    rw [hc]
    funext i
    exact (BitVec.ofNat_add n 1).symm
  · intro h d e
    rw [STEP_main_v18_6, step6, hc]
    refine (trS_at (kr := fun h t d => kH F h.val (64 * n + t.val) d) (vr := fun h t d => xH V h.val (64 * n + t.val) d)
      (sr := fun h d e => stH F V h.val (64 * n) d e) hb hk hv I.st h d e).trans (congrArg (fun r : ℝ => (r : EReal)) ?_)
    exact (St_chunk (C := 64) (aH F h.val) (kH F h.val) (xH V h.val) (64 * n) 63 rfl d e).symm
  · intro n' h t e hn'
    rw [STEP_main_v18_7, step7, hc]
    refine (wr_at _ _ ⟨n, hn⟩ n' h t e).trans ?_
    split
    · rename_i heq
      subst heq
      refine (trO_at (kr := fun h t d => kH F h.val (64 * n + t.val) d) (vr := fun h t d => xH V h.val (64 * n + t.val) d)
        (qr := fun h t d => xH Q h.val (64 * n + t.val) d) (sr := fun h d e => stH F V h.val (64 * n) d e)
        hb hq hk hv I.st (fun t x => (congrFun I.msk _).trans (mask_at t x)) h t e).trans (congrArg (fun r : ℝ => (r : EReal)) ?_)
      exact (Out_chunk (C := 64) (aH F h.val) (kH F h.val) (xH V h.val) (xH Q h.val) (64 * n) t e).symm
    · rename_i hne
      exact I.out n' h t e (lt_of_le_of_ne (Nat.lt_succ_iff.mp hn') fun hh => hne (Fin.ext hh))

/-- The loop's entry. -/
theorem inv_zero : Inv Q F V 0 (entryContents preI m c) := by
  constructor
  · intro n h t d
    rw [entry0]
    exact (chunks_at _ n h t d).trans (hq _ _)
  · intro n h t d
    rw [entry1]
    refine (chunks_at _ n h t d).trans ?_
    pointwise
    exact congrArg (fun x : EReal => 1 - x) (hf _ _)
  · intro n h t d
    rw [entry2]
    exact (chunks_at _ n h t d).trans (hv _ _)
  · intro n h t d
    rw [entry3]
    refine (chunks_at _ n h t d).trans ((congrArg Ideal.log (hf _ _)).trans ?_)
    have := hF0 (64 * n.val + t.val) (128 * h.val + d.val)
    rw [Ideal.log_coe, if_neg (by show ¬ F (64 * n.val + t.val) (128 * h.val + d.val) ≤ 0; linarith)]
    rfl
  · exact entry4 m c
  · exact ctr_entry m c
  · intro h d e
    rw [entry6, stH, Nat.mul_zero, St_zero]
    pointwise
    rfl
  · intro n' h t e hn'
    exact absurd hn' (Nat.not_lt_zero _)

/-- After `n` trips. -/
theorem inv : ∀ n, n ≤ 128 → Inv Q F V n (STEP^[n] (entryContents preI m c))
  | 0, _ => inv_zero m c Q F V hF0 hq hf hv
  | n + 1, h => by
    rw [Function.iterate_succ_apply']
    exact inv_step Q F V n (by omega) _ (inv n (by omega))

/-- The reference's result. -/
theorem final : out_main_v34 (STEP^[128] (entryContents preI m c)) = Cert.KernelIdeal.Rec.rec Q F V (m ((c : Thread nD τ).loc main_arg3)) := by
  rw [out_eq, iter_main_arg3]
  exact fuse_at fun n h t e => (inv m c Q F V hF0 hq hf hv 128 le_rfl).out n h t e n.isLt

end run

end Cert.ReferenceIdeal.Rec

end
-- ==== Proof.RecClaim.lean ====
/-
  The claims about the recurrence: where every forget gate lies between 0.3 and 1 and the queries and values are finite, the
  kernel and its reference end at one array.
-/
module

public import proofs.«01_k».proof.Proof.RecRun
public import proofs.«01_k».proof.Proof.RecRefRun
public import proofs.«01_k».proof.Proof.Gen.Pre_decay_in_range
public import proofs.«01_k».proof.Defs
public import Idealize.ShloMosaic.Lib.ReduceAll

@[expose] public section

set_option maxRecDepth 16384

noncomputable section

namespace Cert.RecClaim

open Idealize.ShloMosaic Idealize.ShloMosaic.TcCoe Idealize.SL.Sem Cert.KernelIdeal.Rec
open Cert.KernelIdeal (S8192x2048)

/-- Both words of an `and` that is 1 are 1. -/
theorem and_one : ∀ a b : BitVec 1, IntOp.andi a b = 1#1 → a = 1#1 ∧ b = 1#1 := by decide

theorem of_decide {p : Prop} [Decidable p] (h : BitVec.ofBool (decide p) = 1#1) : p := by
  by_contra hp
  rw [decide_eq_false hp] at h
  exact absurd h (by decide)

theorem ofBits_low : (((3 / 10 : ℝ)) : EReal) ≤ Ideal.ofBits .f32 0x3E99999A#32 := by
  have h : Ideal.ofBits .f32 0x3E99999A#32 = ((10066330 / 33554432 : ℝ) : EReal) := by
    simp [Ideal.ofBits, Ideal.ieee, -EReal.coe_mul]; norm_num
  rw [h, EReal.coe_le_coe_iff]
  norm_num

theorem ofBits_one : Ideal.ofBits .f32 0x3F800000#32 = 1 := by
  simp [Ideal.ofBits, Ideal.ieee, -EReal.coe_mul]
  norm_num

theorem ofBits_inf : Ideal.ofBits .f32 0x7F800000#32 = ⊤ := by
  simp [Ideal.ofBits, Ideal.ieee]

theorem finite {x : EReal} (h : max x (-x) < ⊤) : x ≠ ⊤ ∧ x ≠ ⊥ := by
  constructor
  · rintro rfl
    simp at h
  · rintro rfl
    simp at h

/-- The precondition, read at every element. -/
theorem pre (q f v g : S8192x2048.Idx → EReal)
    (h : Cert.Pre_decay_in_range.fn (F := Ideal) q f v g = fun _ => 1#1) (i : S8192x2048.Idx) :
    ((3 / 10 : ℝ) : EReal) ≤ f i ∧ f i ≤ 1 ∧ (q i ≠ ⊤ ∧ q i ≠ ⊥) ∧ v i ≠ ⊤ ∧ v i ≠ ⊥ := by
  have h0 := congrFun h ix0
  dsimp only [Cert.Pre_decay_in_range.fn, Cert.Pre_decay_in_range.fn_part1] at h0
  haveI : Subsingleton Cert.Pre_decay_in_range.S_.Idx := ⟨fun a b => funext fun k => k.elim0⟩
  obtain ⟨h1, hv⟩ := and_one _ _ h0
  obtain ⟨h2, hq⟩ := and_one _ _ h1
  obtain ⟨hl, hu⟩ := and_one _ _ h2
  have hl := of_decide (Host.reduce_andi_all _ _ _ _ _ hl i)
  have hu := of_decide (Host.reduce_andi_all _ _ _ _ _ hu i)
  have hq := of_decide (Host.reduce_andi_all _ _ _ _ _ hq i)
  have hv := of_decide (Host.reduce_andi_all _ _ _ _ _ hv i)
  exact ⟨ofBits_low.trans hl, hu.trans_eq ofBits_one, finite (hq.trans_eq ofBits_inf), finite (hv.trans_eq ofBits_inf)⟩

/-- The real numbers of an array, `d` outside of it. -/
def real (d : ℝ) (x : S8192x2048.Idx → EReal) (i j : ℕ) : ℝ :=
  if h : i < 8192 ∧ j < 2048 then (x (ix2 ⟨i, h.1⟩ ⟨j, h.2⟩)).toReal else d

theorem real_reads (d : ℝ) (x : S8192x2048.Idx → EReal) (h : ∀ i, x i ≠ ⊤ ∧ x i ≠ ⊥) : Reads x (real d x) := fun i j => by
  rw [real, dif_pos ⟨i.isLt, j.isLt⟩]
  exact (EReal.coe_toReal (h _).1 (h _).2).symm

theorem real_bounds (x : S8192x2048.Idx → EReal) (h : ∀ i, ((3 / 10 : ℝ) : EReal) ≤ x i ∧ x i ≤ 1) (i j : ℕ) :
    3 / 10 ≤ real 1 x i j ∧ real 1 x i j ≤ 1 := by
  unfold real
  split
  · rename_i hh
    obtain ⟨hl, hu⟩ := h (ix2 ⟨i, hh.1⟩ ⟨j, hh.2⟩)
    have ht : x (ix2 ⟨i, hh.1⟩ ⟨j, hh.2⟩) ≠ ⊤ := (hu.trans_lt (EReal.coe_lt_top 1)).ne
    have hb : x (ix2 ⟨i, hh.1⟩ ⟨j, hh.2⟩) ≠ ⊥ := ((EReal.bot_lt_coe _).trans_le hl).ne'
    rw [← EReal.coe_le_coe_iff, ← EReal.coe_le_coe_iff, EReal.coe_toReal ht hb]
    exact ⟨hl, hu⟩
  · norm_num

/-- The array both programs end at. -/
def G (q f v g : S8192x2048.Idx → EReal) : S8192x2048.Idx → EReal := rec (real 0 q) (real 1 f) (real 0 v) g

theorem bounded {f : S8192x2048.Idx → EReal} (h : ∀ i, ((3 / 10 : ℝ) : EReal) ≤ f i ∧ f i ≤ 1) (i : S8192x2048.Idx) : f i ≠ ⊤ ∧ f i ≠ ⊥ :=
  ⟨((h i).2.trans_lt (EReal.coe_lt_top 1)).ne, ((EReal.bot_lt_coe _).trans_le (h i).1).ne'⟩

/-- The kernel and the reference agree. -/
theorem agree : Cert.algebraic_KernelIdeal_ReferenceIdeal_pre_decay_in_range := fun m ρ m' ρ' hpre hagree => by
  have hp := fun c => pre _ _ _ _ (hpre c)
  have hf := fun c i => And.intro (hp c i).1 (hp c i).2.1
  refine ⟨fun c => G (m (c.tc.loc Cert.KernelIdeal.main_arg0)) (m (c.tc.loc Cert.KernelIdeal.main_arg1)) (m (c.tc.loc Cert.KernelIdeal.main_arg2))
    (m (c.tc.loc Cert.KernelIdeal.main_arg3)), (θ_run _ _ _).mono (fun _ h c => ⟨(h c).1.trans ?_, (h c).2⟩) (Cert.KernelIdeal.Value.run_blocks m ρ),
    (θ_run _ _ _).mono (fun _ h c => ⟨(h c).1.trans ?_, (h c).2⟩) (Cert.ReferenceIdeal.Value.run m' ρ')⟩
  · exact Cert.KernelIdeal.Rec.final m _ _ _ c (fun i j => (real_bounds _ (hf c) i j).1) (fun i j => (real_bounds _ (hf c) i j).2)
      (real_reads 0 _ fun i => (hp c i).2.2.1) (real_reads 1 _ (bounded (hf c))) (real_reads 0 _ fun i => (hp c i).2.2.2)
  · obtain ⟨e0, e1, e2, e3⟩ := hagree c
    have hq := real_reads 0 _ fun i => (hp c i).2.2.1
    have hF := real_reads 1 _ (bounded (hf c))
    have hv := real_reads 0 _ fun i => (hp c i).2.2.2
    have hl := fun i j => (real_bounds _ (hf c) i j).1
    refine Eq.trans ?_ (congrArg (rec (real 0 (m (c.tc.loc Cert.KernelIdeal.main_arg0))) (real 1 (m (c.tc.loc Cert.KernelIdeal.main_arg1)))
      (real 0 (m (c.tc.loc Cert.KernelIdeal.main_arg2)))) e3)
    exact Cert.ReferenceIdeal.Rec.final m' c _ _ _ hl (fun i j => (congrFun e0 _).trans (hq i j)) (fun i j => (congrFun e1 _).trans (hF i j))
      (fun i j => (congrFun e2 _).trans (hv i j))

/-- The reference runs to its end and keeps its arguments. -/
theorem frame : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

end Cert.RecClaim

end
-- ==== Proof.ShortConvRun.lean ====
/-
  The body of the short convolution's input kernel, run once at any grid point over any values: what it
  leaves in the output block, in the normalised rows and in the buffer that carries the last eight rows of
  the gated product from one row block to the next.
-/
module

public import proofs.«01_k».proof.Proof.Gen.ShortConvIdeal.Frame
public import proofs.«01_k».proof.Proof.Gen.ShortConvIdeal.Skeleton
public import Idealize.ShloMosaic.Lib.VecWindow
public import Idealize.ShloMosaic.Lib.Claim

@[expose] public section

set_option maxRecDepth 16384

noncomputable section

namespace Cert.ShortConvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Cert.ShortConvIdeal Cert.ShortConvIdeal.Gen

variable {F : FTy → Type} [FloatOps F]

local notation "𝕄" => MT nD τ sig Unit (Elt F) ℕ (UR sig nD τ) ℕ

/-- The body's first condition: the first column block of a row block. -/
abbrev first (i : grid0.Coords) : Prop := (Scalar.cmpi .ne (Scalar.extui (Scalar.cmpi .eq (BitVec.ofNat 32 (i 1).val) 0#32)) 0#32) = 1#1

/-- Row `r` of the slot of column block `i 1` in the carried buffer. -/
abbrev row (i : grid0.Coords) (r : ℕ) : Fin 3 → ℕ := ![(i 1).val, r, 0]

theorem word_of_col (i : grid0.Coords) : (Scalar.indexCast (BitVec.ofNat 32 (i 1).val) : Index).toNat = (i 1).val := by
  have h : (i 1).val < 4 := (i 1).isLt
  simp only [Scalar.indexCast, BitVec.toNat_ofNat]
  omega

theorem off1 (i : grid0.Coords) : k0_off1 i = row i 0 := by unfold k0_off1; simp only [word_of_col]
theorem off2 (i : grid0.Coords) : k0_off2 i = row i 8 := by unfold k0_off2; simp only [word_of_col]
theorem off3 (i : grid0.Coords) : k0_off3 i = row i 6 := by unfold k0_off3; simp only [word_of_col]
theorem off4 (i : grid0.Coords) : k0_off4 i = row i 7 := by unfold k0_off4; simp only [word_of_col]
theorem off5 (i : grid0.Coords) : k0_off5 i = row i 0 := by unfold k0_off5; simp only [word_of_col]

theorem row_inb (i : grid0.Coords) (r : ℕ) (hr : r ≤ 8) : ∀ a, row i r a + S1x1024x512.size a ≤ S4x1032x512.size a := by
  have h : (i 1).val < 4 := (i 1).isLt
  intro a; fin_cases a <;> simp [row] <;> omega

/-- The rows that the body multiplies: those it has just normalised, or those found. -/
def rows (i : grid0.Coords) (x0 : Vec F S1024x2048 .f32) (x1 : Vec F S1x2048 .f32) (h : Vec F S1024x2048 .bf16) : Vec F S1024x2048 .bf16 :=
  if first i then k0_pay3 x0 x1 else h

/-- The carried buffer once its slot's first eight rows are cleared, if they are, and the product is stored behind them. -/
def mid (i : grid0.Coords) (h : Vec F S1024x2048 .bf16) (x3 x4 : Vec F S2048x512 .bf16) (g : Vec F S4x1032x512 .f32) : Vec F S4x1032x512 .f32 :=
  put (if k0_cond2 i = 1#1 then put g (row i 0) S1x8x512.size (k0_pay4 (F := F)) else g) (row i 8) S1x1024x512.size (k0_pay7 h x3 x4)

/-- The output block. -/
def out (i : grid0.Coords) (h : Vec F S1024x2048 .bf16) (x2 x3 x4 : Vec F S2048x512 .bf16) (x5 : Vec F S3x512 .f32) (x6 : Vec F S1x512 .f32)
    (g : Vec F S4x1032x512 .f32) : Vec F S1024x512 .bf16 :=
  k0_pay1 (k0_pay5 h x2) (k0_pay8 h x3 x4 x6 (window x5 ![2, 0] S1x512.size inb_S3x512_S1x512_2_0)) (window x5 ![0, 0] S1x512.size inb_S3x512_S1x512_0_0)
    (window g (row i 6) S1x1024x512.size (row_inb i 6 (by omega))) (window x5 ![1, 0] S1x512.size inb_S3x512_S1x512_1_0)
    (window g (row i 7) S1x1024x512.size (row_inb i 7 (by omega)))

/-- The carried buffer at the end: the product's last eight rows in the slot's first eight. -/
def fin (i : grid0.Coords) (h : Vec F S1024x2048 .bf16) (x3 x4 : Vec F S2048x512 .bf16) (g : Vec F S4x1032x512 .f32) : Vec F S4x1032x512 .f32 :=
  put g (row i 0) S1x8x512.size (k0_pay2 (k0_pay6 h x3 x4))

section Words

variable (v : View sig .tc .vmem S4x1032x512 .f32) (f : v.ty.Contents (Elt F)) (i : grid0.Coords) (L : List (View.Piece (Elt F) S4x1032x512 .f32))

theorem store1 (inb) (w : (Rect.unit (s := S4x1032x512) (k0_off1 i) S1x8x512.size inb).shape.Idx → Elt F .f32) :
    v.read (Elt F) (v.writes (Elt F) f (⟨Rect.unit (k0_off1 i) S1x8x512.size inb, w⟩ :: L)) = put (v.read (Elt F) (v.writes (Elt F) f L)) (row i 0) S1x8x512.size w :=
  View.read_writes_cons_put v f inb w L (off1 i)
theorem store2 (inb) (w : (Rect.unit (s := S4x1032x512) (k0_off2 i) S1x1024x512.size inb).shape.Idx → Elt F .f32) :
    v.read (Elt F) (v.writes (Elt F) f (⟨Rect.unit (k0_off2 i) S1x1024x512.size inb, w⟩ :: L)) = put (v.read (Elt F) (v.writes (Elt F) f L)) (row i 8) S1x1024x512.size w :=
  View.read_writes_cons_put v f inb w L (off2 i)
theorem store5 (inb) (w : (Rect.unit (s := S4x1032x512) (k0_off5 i) S1x8x512.size inb).shape.Idx → Elt F .f32) :
    v.read (Elt F) (v.writes (Elt F) f (⟨Rect.unit (k0_off5 i) S1x8x512.size inb, w⟩ :: L)) = put (v.read (Elt F) (v.writes (Elt F) f L)) (row i 0) S1x8x512.size w :=
  View.read_writes_cons_put v f inb w L (off5 i)
theorem load3 (inb) : v.readAt (Elt F) (Rect.unit (s := S4x1032x512) (k0_off3 i) ![1, 1024, 512] inb).toLoadRect f = window (v.read (Elt F) f) (row i 6) S1x1024x512.size (row_inb i 6 (by omega)) :=
  View.readAt_unit v f inb (off3 i) _
theorem load4 (inb) : v.readAt (Elt F) (Rect.unit (s := S4x1032x512) (k0_off4 i) ![1, 1024, 512] inb).toLoadRect f = window (v.read (Elt F) f) (row i 7) S1x1024x512.size (row_inb i 7 (by omega)) :=
  View.readAt_unit v f inb (off4 i) _
theorem loadTap (v : View sig .tc .vmem S3x512 .f32) (f : v.ty.Contents (Elt F)) (o : Fin 2 → ℕ) (inb) :
    v.readAt (Elt F) (Rect.unit (s := S3x512) o S1x512.size inb).toLoadRect f = window (v.read (Elt F) f) o S1x512.size inb :=
  View.readAt_unit v f inb rfl _
theorem loadTap' (v : View sig .tc .vmem S3x512 .f32) (f : v.ty.Contents (Elt F)) (o : Fin 2 → ℕ) (inb) :
    v.readAt (Elt F) (Rect.unit (s := S3x512) o ![1, 512] inb).toLoadRect f = window (v.read (Elt F) f) o S1x512.size inb :=
  View.readAt_unit v f inb rfl _

/-- A statement of the three axes, by axis. -/
theorem axes {p : Fin 3 → Prop} (h0 : p 0) (h1 : p 1) (h2 : p 2) : ∀ a, p a := fun a => by fin_cases a <;> assumption

/-- Once the slot's first eight rows and those behind them are stored, a load of the slot's rows does not depend on what the buffer held. -/
theorem window_stored (g g' : Vec F S4x1032x512 .f32) (p : Vec F S1x8x512 .f32) (z : Vec F S1x1024x512 .f32) (r : ℕ) (hr : r ≤ 8) :
    window (put (put g (row i 0) S1x8x512.size p) (row i 8) S1x1024x512.size z) (row i r) S1x1024x512.size (row_inb i r hr)
      = window (put (put g' (row i 0) S1x8x512.size p) (row i 8) S1x1024x512.size z) (row i r) S1x1024x512.size (row_inb i r hr) := by
  funext y
  have h0 : (y 0).val < 1 := (y 0).isLt
  have h1 : (y 1).val < 1024 := (y 1).isLt
  have h2 : (y 2).val < 512 := (y 2).isLt
  have hin : (((Rect.unit (s := S4x1032x512) (row i r) S1x1024x512.size (row_inb i r hr)).emb y 1).val < 8 ∧ ∀ a, row i 0 a ≤ ((Rect.unit (s := S4x1032x512) (row i r) S1x1024x512.size (row_inb i r hr)).emb y a).val ∧ ((Rect.unit (s := S4x1032x512) (row i r) S1x1024x512.size (row_inb i r hr)).emb y a).val < row i 0 a + S1x8x512.size a)
      ∨ ∀ a, row i 8 a ≤ ((Rect.unit (s := S4x1032x512) (row i r) S1x1024x512.size (row_inb i r hr)).emb y a).val ∧ ((Rect.unit (s := S4x1032x512) (row i r) S1x1024x512.size (row_inb i r hr)).emb y a).val < row i 8 a + S1x1024x512.size a := by
    have e0 : ((Rect.unit (s := S4x1032x512) (row i r) S1x1024x512.size (row_inb i r hr)).emb y 0).val = (i 1).val + 1 * (y 0).val := rfl
    have e1 : ((Rect.unit (s := S4x1032x512) (row i r) S1x1024x512.size (row_inb i r hr)).emb y 1).val = r + 1 * (y 1).val := rfl
    have e2 : ((Rect.unit (s := S4x1032x512) (row i r) S1x1024x512.size (row_inb i r hr)).emb y 2).val = 0 + 1 * (y 2).val := rfl
    generalize (Rect.unit (s := S4x1032x512) (row i r) S1x1024x512.size (row_inb i r hr)).emb y = u at e0 e1 e2 ⊢
    by_cases hb : r + (y 1).val < 8
    · exact Or.inl ⟨by omega, axes ⟨by show (i 1).val ≤ (u 0).val; omega, by show (u 0).val < (i 1).val + 1; omega⟩ ⟨Nat.zero_le _, by show (u 1).val < 0 + 8; omega⟩ ⟨Nat.zero_le _, by show (u 2).val < 0 + 512; omega⟩⟩
    · exact Or.inr (axes ⟨by show (i 1).val ≤ (u 0).val; omega, by show (u 0).val < (i 1).val + 1; omega⟩ ⟨by show 8 ≤ (u 1).val; omega, by show (u 1).val < 8 + 1024; omega⟩ ⟨Nat.zero_le _, by show (u 2).val < 0 + 512; omega⟩)
  unfold window put
  rcases hin with ⟨hlt, hin⟩ | hin
  · have hout : ¬ ∀ a, row i 8 a ≤ ((Rect.unit (s := S4x1032x512) (row i r) S1x1024x512.size (row_inb i r hr)).emb y a).val ∧ ((Rect.unit (s := S4x1032x512) (row i r) S1x1024x512.size (row_inb i r hr)).emb y a).val < row i 8 a + S1x1024x512.size a :=
      fun h => absurd (show 8 ≤ _ from (h 1).1) (by omega)
    rw [dif_neg hout, dif_neg hout, dif_pos hin, dif_pos hin]
  · rw [dif_pos hin, dif_pos hin]

theorem cov3 (g : Vec F S4x1032x512 .f32) (inb inb1 inb2) (p : Vec F S1x8x512 .f32) (z : Vec F S1x1024x512 .f32) :
    v.readCov [⟨Rect.unit (s := S4x1032x512) (k0_off2 i) S1x1024x512.size inb2, z⟩, ⟨Rect.unit (k0_off1 i) S1x8x512.size inb1, p⟩] (Rect.unit (s := S4x1032x512) (k0_off3 i) ![1, 1024, 512] inb).toLoadRect
      = window (put (put g (row i 0) S1x8x512.size p) (row i 8) S1x1024x512.size z) (row i 6) S1x1024x512.size (row_inb i 6 (by omega)) :=
  (load3 v _ i inb).trans (by rw [store2, store1]; exact window_stored i _ _ p z 6 (by omega))
theorem cov4 (g : Vec F S4x1032x512 .f32) (inb inb1 inb2) (p : Vec F S1x8x512 .f32) (z : Vec F S1x1024x512 .f32) :
    v.readCov [⟨Rect.unit (s := S4x1032x512) (k0_off2 i) S1x1024x512.size inb2, z⟩, ⟨Rect.unit (k0_off1 i) S1x8x512.size inb1, p⟩] (Rect.unit (s := S4x1032x512) (k0_off4 i) ![1, 1024, 512] inb).toLoadRect
      = window (put (put g (row i 0) S1x8x512.size p) (row i 8) S1x1024x512.size z) (row i 7) S1x1024x512.size (row_inb i 7 (by omega)) :=
  (load4 v _ i inb).trans (by rw [store2, store1]; exact window_stored i _ _ p z 7 (by omega))

end Words

set_option maxHeartbeats 4000000 in
/-- The body's run: the four cases of its two conditions, by one text. -/
theorem run (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S4x1032x512 .f32) (harg11 : arg11.IsWhole)
    (x0 : Vec F S1024x2048 .f32) (x1 : Vec F S1x2048 .f32) (x2 x3 x4 : Vec F S2048x512 .bf16) (x5 : Vec F S3x512 .f32) (x6 : Vec F S1x512 .f32)
    (h : Vec F S1024x2048 .bf16) (g : Vec F S4x1032x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare h ∗ owns (c : Thread nD τ) arg11 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out i (rows i x0 x1 h) x2 x3 x4 x5 x6 (mid i (rows i x0 x1 h) x3 x4 g))
            ∗ owns (c : Thread nD τ) arg10 fullShare (rows i x0 x1 h)
            ∗ owns (c : Thread nD τ) arg11 fullShare (fin i (rows i x0 x1 h) x3 x4 (mid i (rows i x0 x1 h) x3 x4 g))) -∗ K ⟨⟩))
      ⊢ wp frame (wpE (defs₀ (F := F)) Variants.none c none) E (cc0_short_conv_in i arg2 harg2 arg3 harg3 arg4 harg4 arg5 harg5 arg6 harg6 arg7 harg7 arg8 harg8 arg9 harg9 arg10 harg10 arg11 harg11) K := by
  by_cases hc1 : first i
  all_goals by_cases hc2 : k0_cond2 i = 1#1
  all_goals
    simp only [cc0_short_conv_in_eq_skeleton]; unfold cc0_short_conv_in_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hs0, HS0⟩, ⟨%fs1, %hs1, HS1⟩, Hk⟩
    sl_exec (disch := first | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; swap; · iexact H7
      ipureintro
      sl_unfold_run_names
      refine (View.read_writes_full arg9.view _ _ _ _).trans ?_
      simp -proj only [load3, load4, cov3 _ _ g, cov4 _ _ g, loadTap, loadTap', store1, store2, View.readAt_full, View.readCov_full, View.writes_nil, hf0, hf1, hf2, hf3, hf4, hf5, hf6, hs0, hs1, out, rows, mid, hc2, if_true, if_false]
      first | simp -proj only [if_pos hc1] | simp -proj only [if_neg hc1]
    isplitl [HS0]
    · iexists _; isplitr; swap; · iexact HS0
      ipureintro
      sl_unfold_run_names
      simp -proj only [View.read_writes_full, View.readAt_full, hf0, hf1, hs0, rows]
      first | exact (if_pos hc1).symm | exact (if_neg hc1).symm
    iexists _; isplitr; swap; · iexact HS1
    ipureintro
    sl_unfold_run_names
    refine (store5 arg11.view _ i _ _ _).trans ?_
    simp -proj only [store1, store2, View.readAt_full, View.readCov_full, View.writes_nil, hf0, hf1, hf3, hf4, hs0, hs1, rows, mid, fin, hc2, if_true, if_false]
    first | simp -proj only [if_pos hc1] | simp -proj only [if_neg hc1]

end Cert.ShortConvIdeal.Run

end
-- ==== Proof.ShortConvFrame.lean ====
/-
  The short convolution's input kernel from launch to end: what the two scratch buffers hold between grid
  points, what every point leaves in its output block, and the run of the whole program.
-/
module

public import proofs.«01_k».proof.Proof.ShortConvRun

@[expose] public section

set_option maxRecDepth 16384

noncomputable section

namespace Cert.ShortConvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.ShortConvIdeal Cert.ShortConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem pt_lt (t : Fin cfg0.N) : t.val < 32 := lt_of_lt_of_eq t.isLt (show cfg0.N = 32 from N_0)
theorem pt_row (t : Fin cfg0.N) : (grid0.coords t 0).val = t.val / 4 % 8 := Pipeline.Grid.coords_val t 0 (by decide) rfl
theorem pt_col (t : Fin cfg0.N) : (grid0.coords t 1).val = t.val / 1 % 4 := Pipeline.Grid.coords_val t 1 (by decide) rfl
theorem pt_col' (t : Fin cfg0.N) : (grid0.coords t 1).val = t.val % 4 := by rw [pt_col, Nat.div_one]

theorem first_iff (t : Fin cfg0.N) : first (grid0.coords t) ↔ t.val % 4 = 0 := by
  have ht := pt_lt t
  simp only [first, pt_col]
  word_cmp

theorem cond2_iff (t : Fin cfg0.N) : k0_cond2 (grid0.coords t) = 1#1 ↔ t.val < 4 := by
  have ht := pt_lt t
  simp only [k0_cond2, pt_row]
  word_cmp

/-- The first point of `t`'s row block. -/
def base (t : Fin cfg0.N) : Fin cfg0.N := ⟨4 * (t.val / 4), by have := t.isLt; omega⟩
/-- The point of the same columns, one row block back. -/
def back (t : Fin cfg0.N) : Fin cfg0.N := ⟨t.val - 4, by have := t.isLt; omega⟩

/-! ## What the points compute -/

/-- The rows of `t`'s row block, normalised. -/
def normed (c : Dev nD) (t : Fin cfg0.N) : Vec F S1024x2048 .bf16 := k0_pay3 (iblk m c 0 (base t)) (iblk m c 1 (base t))
/-- The gated product at `t`. -/
def gated (c : Dev nD) (t : Fin cfg0.N) : Vec F S1024x512 .f32 := k0_pay6 (normed m c t) (iblk m c 3 t) (iblk m c 4 t)
/-- What the first eight rows of `t`'s slot hold when `t` starts to read them: zeros, or the last eight rows of the product one row block back. -/
def carried (c : Dev nD) (t : Fin cfg0.N) : Vec F S1x8x512 .f32 :=
  if t.val < 4 then k0_pay4 else k0_pay2 (gated m c (back t))
/-- A carried buffer with `t`'s slot filled, all else zero. -/
def filled (c : Dev nD) (t : Fin cfg0.N) : Vec F S4x1032x512 .f32 :=
  put (put (broadcast S4x1032x512 (Scalar.ofBits .f32 0x00000000#32)) (row (grid0.coords t) 0) S1x8x512.size (carried m c t))
    (row (grid0.coords t) 8) S1x1024x512.size (k0_pay7 (normed m c t) (iblk m c 3 t) (iblk m c 4 t))
/-- The output block at `t`. -/
def block (c : Dev nD) (t : Fin cfg0.N) : Vec F S1024x512 .bf16 :=
  out (grid0.coords t) (normed m c t) (iblk m c 2 t) (iblk m c 3 t) (iblk m c 4 t) (iblk m c 5 t) (iblk m c 6 t) (filled m c t)

theorem row8_inb (i : grid0.Coords) : ∀ a, row i 0 a + S1x8x512.size a ≤ S4x1032x512.size a := by
  have h : (i 1).val < 4 := (i 1).isLt
  intro a; fin_cases a <;> simp [row] <;> omega

/-- What the scratch buffers hold before position `n`: within a row block its normalised rows; in the slot of each of the last four points the last rows of its product. -/
def Held (c : Dev nD) (n : ℕ) (h : Vec F S1024x2048 .bf16) (g : Vec F S4x1032x512 .f32) : Prop :=
  (∀ t : Fin cfg0.N, t.val = n → t.val % 4 ≠ 0 → h = normed m c t)
    ∧ ∀ t : Fin cfg0.N, t.val < n → n ≤ t.val + 4 → window g (row (grid0.coords t) 0) S1x8x512.size (row8_inb _) = k0_pay2 (gated m c t)

theorem held_rows (c : Dev nD) (t : Fin cfg0.N) (h : Vec F S1024x2048 .bf16) (g : Vec F S4x1032x512 .f32) (hh : Held m c t.val h g) :
    rows (grid0.coords t) (iblk m c 0 t) (iblk m c 1 t) h = normed m c t := by
  unfold rows
  by_cases h0 : t.val % 4 = 0
  · have hb : base t = t := Fin.ext (by show 4 * (t.val / 4) = t.val; omega)
    rw [if_pos ((first_iff t).mpr h0), normed, hb]
  · rw [if_neg (fun hf => h0 ((first_iff t).mp hf))]
    exact hh.1 t rfl h0

/-- A buffer is itself with any of its windows put back. -/
theorem put_window {s : Shape} {α : Type} (x : s.Idx → α) (off off' size : Fin s.rank → ℕ) (inb : ∀ a, off a + size a ≤ s.size a) (e : off = off') :
    put x off' size (window x off size inb) = x := by
  subst e
  funext y
  unfold put window
  split
  · rename_i h
    congr 1
    funext a
    apply Fin.ext
    show off a + 1 * ((y a).val - off a) = (y a).val
    have := (h a).1
    omega
  · rfl

theorem mid_window (c : Dev nD) (t : Fin cfg0.N) (h : Vec F S1024x2048 .bf16) (g : Vec F S4x1032x512 .f32) (hh : Held m c t.val h g) (r : ℕ) (hr : r ≤ 8) :
    window (mid (grid0.coords t) (normed m c t) (iblk m c 3 t) (iblk m c 4 t) g) (row (grid0.coords t) r) S1x1024x512.size (row_inb _ r hr)
      = window (filled m c t) (row (grid0.coords t) r) S1x1024x512.size (row_inb _ r hr) := by
  unfold mid filled carried
  by_cases h4 : t.val < 4
  · rw [if_pos ((cond2_iff t).mpr h4), if_pos h4]
    exact window_stored _ _ _ _ _ r hr
  · have e : g = put g (row (grid0.coords t) 0) S1x8x512.size (k0_pay2 (gated m c (back t))) := by
      have hrow : row (grid0.coords (back t)) 0 = row (grid0.coords t) 0 := by
        unfold row; rw [pt_col', pt_col']
        have : (back t).val % 4 = t.val % 4 := by show (t.val - 4) % 4 = t.val % 4; omega
        rw [this]
      have hw := hh.2 (back t) (by show t.val - 4 < t.val; omega) (by show t.val ≤ t.val - 4 + 4; omega)
      rw [← hw]
      exact (put_window g _ _ _ _ hrow).symm
    rw [if_neg (fun hc => h4 ((cond2_iff t).mp hc)), if_neg h4]
    conv_lhs => rw [e]
    exact window_stored _ _ _ _ _ r hr

theorem held_out (c : Dev nD) (t : Fin cfg0.N) (h : Vec F S1024x2048 .bf16) (g : Vec F S4x1032x512 .f32) (hh : Held m c t.val h g) :
    out (grid0.coords t) (normed m c t) (iblk m c 2 t) (iblk m c 3 t) (iblk m c 4 t) (iblk m c 5 t) (iblk m c 6 t)
      (mid (grid0.coords t) (normed m c t) (iblk m c 3 t) (iblk m c 4 t) g) = block m c t := by
  unfold block out
  rw [mid_window m c t h g hh 6 (by omega), mid_window m c t h g hh 7 (by omega)]

theorem held_step (c : Dev nD) (t : Fin cfg0.N) (h : Vec F S1024x2048 .bf16) (g : Vec F S4x1032x512 .f32) (hh : Held m c t.val h g) :
    Held m c (t.val + 1) (normed m c t) (fin (grid0.coords t) (normed m c t) (iblk m c 3 t) (iblk m c 4 t)
      (mid (grid0.coords t) (normed m c t) (iblk m c 3 t) (iblk m c 4 t) g)) := by
  refine ⟨fun u hu h4 => ?_, fun u hlt hle => ?_⟩
  · have hb : base u = base t := Fin.ext (by show 4 * (u.val / 4) = 4 * (t.val / 4); omega)
    unfold normed; rw [hb]
  · unfold fin
    by_cases hut : u = t
    · subst hut
      exact window_put_same _ _ _ _ _
    · have hne : u.val ≠ t.val := fun e => hut (Fin.ext e)
      have hcol : (grid0.coords u 1).val ≠ (grid0.coords t 1).val := by rw [pt_col', pt_col']; omega
      have hd : ∀ r : ℕ, row (grid0.coords u) 0 0 + S1x8x512.size 0 ≤ row (grid0.coords t) r 0 ∨ row (grid0.coords t) r 0 + S1x8x512.size 0 ≤ row (grid0.coords u) 0 0 := fun r => by
        show (grid0.coords u 1).val + 1 ≤ (grid0.coords t 1).val ∨ (grid0.coords t 1).val + 1 ≤ (grid0.coords u 1).val
        omega
      refine (window_put_of_disjoint _ _ _ _ _ _ _ (0 : Fin 3) (hd 0)).trans ?_
      unfold mid
      refine (window_put_of_disjoint _ _ _ _ _ _ _ (0 : Fin 3) (hd 8)).trans ?_
      by_cases hc : k0_cond2 (grid0.coords t) = 1#1
      · rw [if_pos hc]
        exact (window_put_of_disjoint _ _ _ _ _ _ _ (0 : Fin 3) (hd 0)).trans (hh.2 u (by omega) (by omega))
      · rw [if_neg hc]
        exact hh.2 u (by omega) (by omega)

/-! ## The pipeline's proof data -/

abbrev scr0 : Memref sig .tc .vmem S1024x2048 .bf16 := Memref.whole cc0_scratch0
abbrev scr1 : Memref sig .tc .vmem S4x1032x512 .f32 := Memref.whole cc0_scratch1

theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The invariant before position `n`. -/
def Inv (c : Dev nD) (n : ℕ) : sProp 𝕄 :=
  iprop(∃ h g, ⌜Held m c n h g⌝ ∗ owns (c : Thread nD τ) scr0 fullShare h ∗ owns (c : Thread nD τ) scr1 fullShare g ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => block m c t
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = block m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

set_option maxHeartbeats 1600000 in
/-- The body at any point keeps the invariant and leaves the output block. -/
theorem body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7]
  rw [show (dats m 0 c).Φ t.succ = Inv m c (t.val + 1) from rfl, show (dats m 0 c).Φ t.castSucc = Inv m c t.val from rfl]
  unfold Inv
  iintro ⟨⟨%h, %g, %hh, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) h g Set.univ _)
  rw [held_rows m c t h g hh, held_out m c t h g hh]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · iexists _; iexists _
    isplitr; · ipureintro; exact held_step m c t h g hh
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body m c t) rfl .rfl fun _ => .rfl

theorem hin (c : Dev nD) : Pipeline.ΦA spec0 c ⊢ (dats m 0 c).Φ 0 := by
  rw [show (dats m 0 c).Φ 0 = Inv m c 0 from rfl, PhiA_eq]
  unfold Inv
  iintro ⟨⟨⟨%h, HS0⟩, ⟨%g, HS1⟩⟩, Hg⟩
  iexists h; iexists g
  isplitr; · ipureintro; exact ⟨fun t ht h4 => absurd (by rw [ht]) h4, fun t ht => absurd ht (Nat.not_lt_zero _)⟩
  isplitl [HS0]; · iexact HS0
  isplitl [HS1]; · iexact HS1
  iexact Hg

theorem hout (c : Dev nD) : (dats m 0 c).Φ (Fin.last cfg0.N) ⊢ Pipeline.ΦA spec0 c := by
  rw [show (dats m 0 c).Φ (Fin.last cfg0.N) = Inv m c cfg0.N from rfl, PhiA_eq]
  unfold Inv
  iintro ⟨%h, %g, -, HS0, HS1, Hg⟩
  isplitl [HS0 HS1]
  · isplitl [HS0]; · iexists _; iexact HS0
    iexists _; iexact HS1
  iexact Hg

/-! ## The run -/

set_option backward.isDefEq.respectTransparency.types false in
/-- Every execution ends, with the arrays as the proof data says and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiescent m ρ)

/-- The arguments end as they were, the counters at zero. -/
theorem unchanged_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_quiescent m ρ))

end Cert.ShortConvIdeal.Run

end
-- ==== Proof.ShortConvValue.lean ====
/-
  The short convolution's input half (normalise, three projections, gate, three-tap causal convolution, gate): the blocks the
  grid points write back hold the values the reference computes on the whole arrays.
-/
module

public import proofs.«01_k».proof.Proof.ShortConvFrame
public import proofs.«01_k».proof.Proof.Gen.ShortConvRefIdeal.Run
public import proofs.«01_k».proof.Proof.Common
public import Idealize.ShloMosaic.Lib.Tactic.CleanTypes

@[expose] public section

set_option maxRecDepth 16384

noncomputable section

namespace Cert.ShortConvIdeal.RefValue

open Cert.ShortConvIdeal Cert.ShortConvIdeal.Gen Cert.ShortConvIdeal.Run Idealize.ShloMosaic Idealize.ShloMosaic.TcCoe Idealize.ShloMosaic.Tactic
open Idealize.SL.Sem Idealize.ShloMosaic.StableHlo
open Idealize.ShloMosaic.Pipeline (Dat)
open Idealize.ShloMosaic.VecWindow
open Cert.Common

/-! ## The function -/

/-- The normalised activations. -/
def hn (x : S8192x2048.Idx → EReal) (g : S2048.Idx → EReal) : S8192x2048.Idx → EReal :=
  rms (Ideal.ofBits .f32 0x45000000#32) (Ideal.ofBits .f32 0x358637BD#32) x g

/-- The same column of a third of the weights: the third starts at column `2048 p`. -/
def third (p : Fin 3) (j : Fin 2048) : Fin 6144 := ⟨2048 * p.val + j.val, by omega⟩

/-- Third `p` of the projection. -/
def pr (x : S8192x2048.Idx → EReal) (g : S2048.Idx → EReal) (w : S2048x6144.Idx → EReal) (p : Fin 3) (i : S8192x2048.Idx) : EReal :=
  ∑ k : Fin 2048, hn x g (ix2 (i 0) k) * w (ix2 k (third p (i 1)))

/-- The gated product. -/
def prod (x : S8192x2048.Idx → EReal) (g : S2048.Idx → EReal) (w : S2048x6144.Idx → EReal) (i : S8192x2048.Idx) : EReal :=
  pr x g w 1 i * pr x g w 2 i

/-- The gated product `d` rows earlier, zero before the first row. -/
def late (x : S8192x2048.Idx → EReal) (g : S2048.Idx → EReal) (w : S2048x6144.Idx → EReal) (d : ℕ) (i : S8192x2048.Idx) : EReal :=
  if d ≤ (i 0).val then prod x g w (ix2 ⟨(i 0).val - d, lt_of_le_of_lt (Nat.sub_le _ _) (i 0).isLt⟩ (i 1)) else 0

/-- The result: the first third times the causal convolution of the product with its bias. -/
def res (x : S8192x2048.Idx → EReal) (g : S2048.Idx → EReal) (w : S2048x6144.Idx → EReal) (cw : S3x2048.Idx → EReal) (cb : S2048.Idx → EReal) :
    S8192x2048.Idx → EReal := fun i =>
  pr x g w 0 i * (cw (ix2 0 (i 1)) * late x g w 2 i + cw (ix2 1 (i 1)) * late x g w 1 i + cw (ix2 2 (i 1)) * prod x g w i + cb (ix1 (i 1)))

/-! ## The blocks -/

variable (m : (ℓ : Loc nD τ sig) → Buf (Elt Ideal) ℓ) (ρ : Dev nD → PrngReg)

/-- Where the blocks of a point lie: row block `t / 4`, column block `t % 4` (of the later thirds, four blocks further each). -/
theorem idx (t : Fin cfg0.N) : (win0_0.index t 0 = t.val / 4 ∧ win0_0.index t 1 = 0) ∧ win0_1.index t 1 = 0
    ∧ (win0_2.index t 0 = 0 ∧ win0_2.index t 1 = t.val % 4) ∧ (win0_3.index t 0 = 0 ∧ win0_3.index t 1 = t.val % 4 + 4)
    ∧ (win0_4.index t 0 = 0 ∧ win0_4.index t 1 = t.val % 4 + 8) ∧ (win0_5.index t 0 = 0 ∧ win0_5.index t 1 = t.val % 4)
    ∧ win0_6.index t 1 = t.val % 4 ∧ (win0_7.index t 0 = t.val / 4 ∧ win0_7.index t 1 = t.val % 4) :=
  (by decide +kernel : ∀ t : Fin grid0.N, (win0_0.index t 0 = t.val / 4 ∧ win0_0.index t 1 = 0) ∧ win0_1.index t 1 = 0
    ∧ (win0_2.index t 0 = 0 ∧ win0_2.index t 1 = t.val % 4) ∧ (win0_3.index t 0 = 0 ∧ win0_3.index t 1 = t.val % 4 + 4)
    ∧ (win0_4.index t 0 = 0 ∧ win0_4.index t 1 = t.val % 4 + 8) ∧ (win0_5.index t 0 = 0 ∧ win0_5.index t 1 = t.val % 4)
    ∧ win0_6.index t 1 = t.val % 4 ∧ (win0_7.index t 0 = t.val / 4 ∧ win0_7.index t 1 = t.val % 4)) t

/-- Row `r` of a point's row block. -/
def rowAt (t : Fin cfg0.N) (r : Fin 1024) : Fin 8192 := ⟨1024 * (t.val / 4) + r.val, by have := pt_lt t; omega⟩
/-- Column `r` of a point's column block. -/
def colAt (t : Fin cfg0.N) (r : Fin 512) : Fin 2048 := ⟨512 * (t.val % 4) + r.val, by omega⟩

/-- The activations' block. -/
theorem iblk0 (c : Dev nD) (t : Fin cfg0.N) (y : S1024x2048.Idx) : iblk m c 0 t y = m ((c : Thread nD τ).loc main_arg0) (ix2 (rowAt t (y 0)) (y 1)) := by
  show V m c main_arg0 _ = _
  rw [V_main_arg0]
  obtain ⟨⟨h, h'⟩, -⟩ := idx t
  refine congrArg _ (funext fun a => Fin.ext ?_)
  match a with
  | ⟨0, _⟩ => show win0_0.index t 0 * 1024 + 1 * (y 0).val = 1024 * (t.val / 4) + (y 0).val; rw [h]; omega
  | ⟨1, _⟩ => show win0_0.index t 1 * 2048 + 1 * (y 1).val = (y 1).val; rw [h']; omega

/-- The scale, as a row. -/
theorem V_v0 (c : Dev nD) (y : S1x2048.Idx) : V m c main_v0 y = m ((c : Thread nD τ).loc main_arg1) (ix1 (y 1)) := by
  have : V m c main_v0 = shapeCast (α := EReal) (s := S2048) S1x2048 (m ((c : Thread nD τ).loc main_arg1)) shapeCasts_S2048_S1x2048 := by
    show StableHlo.after hostOps0 (fun b => m (c, b)) main_v0 = _
    unfold hostOps0; after_results; rfl
  rw [this]
  pointwise

/-- The convolution's bias, as a row. -/
theorem V_v2 (c : Dev nD) (y : S1x2048.Idx) : V m c main_v2 y = m ((c : Thread nD τ).loc main_arg4) (ix1 (y 1)) := by
  have : V m c main_v2 = shapeCast (α := EReal) (s := S2048) S1x2048 (m ((c : Thread nD τ).loc main_arg4)) shapeCasts_S2048_S1x2048 := by
    show StableHlo.after hostOps0 (fun b => m (c, b)) main_v2 = _
    unfold hostOps0; after_results; rfl
  rw [this]
  pointwise

/-- The weights: their cast is the identity. -/
theorem V_v1 (c : Dev nD) : V m c main_v1 = m ((c : Thread nD τ).loc main_arg2) := by
  have : V m c main_v1 = truncf (F := Ideal) (s := S2048x6144) (φ := .f32) .bf16 (m ((c : Thread nD τ).loc main_arg2)) bitsLt_bf16_f32 := by
    show StableHlo.after hostOps0 (fun b => m (c, b)) main_v1 = _
    unfold hostOps0; after_results
  rw [this]; rfl

/-- The scale's block. -/
theorem iblk1 (c : Dev nD) (t : Fin cfg0.N) (y : S1x2048.Idx) : iblk m c 1 t y = m ((c : Thread nD τ).loc main_arg1) (ix1 (y 1)) := by
  refine Eq.trans (V_v0 m c (((cfg0.win 1).blk t).view.emb y)) ?_
  obtain ⟨-, h, -⟩ := idx t
  refine congrArg _ (congrArg _ (Fin.ext ?_))
  show win0_1.index t 1 * 2048 + 1 * (y 1).val = (y 1).val; rw [h]; omega

/-- The first third of the weights. -/
theorem iblk2 (c : Dev nD) (t : Fin cfg0.N) (y : S2048x512.Idx) : iblk m c 2 t y = m ((c : Thread nD τ).loc main_arg2) (ix2 (y 0) (third 0 (colAt t (y 1)))) := by
  show V m c main_v1 _ = _
  rw [V_v1]
  obtain ⟨-, -, ⟨h, h'⟩, -⟩ := idx t
  refine congrArg _ (funext fun a => Fin.ext ?_)
  match a with
  | ⟨0, _⟩ => show win0_2.index t 0 * 2048 + 1 * (y 0).val = (y 0).val; rw [h]; omega
  | ⟨1, _⟩ => show win0_2.index t 1 * 512 + 1 * (y 1).val = 2048 * 0 + (512 * (t.val % 4) + (y 1).val); rw [h']; omega

/-- The second. -/
theorem iblk3 (c : Dev nD) (t : Fin cfg0.N) (y : S2048x512.Idx) : iblk m c 3 t y = m ((c : Thread nD τ).loc main_arg2) (ix2 (y 0) (third 1 (colAt t (y 1)))) := by
  show V m c main_v1 _ = _
  rw [V_v1]
  obtain ⟨-, -, -, ⟨h, h'⟩, -⟩ := idx t
  refine congrArg _ (funext fun a => Fin.ext ?_)
  match a with
  | ⟨0, _⟩ => show win0_3.index t 0 * 2048 + 1 * (y 0).val = (y 0).val; rw [h]; omega
  | ⟨1, _⟩ => show win0_3.index t 1 * 512 + 1 * (y 1).val = 2048 * 1 + (512 * (t.val % 4) + (y 1).val); rw [h']; omega

/-- The last. -/
theorem iblk4 (c : Dev nD) (t : Fin cfg0.N) (y : S2048x512.Idx) : iblk m c 4 t y = m ((c : Thread nD τ).loc main_arg2) (ix2 (y 0) (third 2 (colAt t (y 1)))) := by
  show V m c main_v1 _ = _
  rw [V_v1]
  obtain ⟨-, -, -, -, ⟨h, h'⟩, -⟩ := idx t
  refine congrArg _ (funext fun a => Fin.ext ?_)
  match a with
  | ⟨0, _⟩ => show win0_4.index t 0 * 2048 + 1 * (y 0).val = (y 0).val; rw [h]; omega
  | ⟨1, _⟩ => show win0_4.index t 1 * 512 + 1 * (y 1).val = 2048 * 2 + (512 * (t.val % 4) + (y 1).val); rw [h']; omega

/-- The taps. -/
theorem iblk5 (c : Dev nD) (t : Fin cfg0.N) (y : S3x512.Idx) : iblk m c 5 t y = m ((c : Thread nD τ).loc main_arg3) (ix2 (y 0) (colAt t (y 1))) := by
  show V m c main_arg3 _ = _
  rw [V_main_arg3]
  obtain ⟨-, -, -, -, -, ⟨h, h'⟩, -⟩ := idx t
  refine congrArg _ (funext fun a => Fin.ext ?_)
  match a with
  | ⟨0, _⟩ => show win0_5.index t 0 * 3 + 1 * (y 0).val = (y 0).val; rw [h]; omega
  | ⟨1, _⟩ => show win0_5.index t 1 * 512 + 1 * (y 1).val = 512 * (t.val % 4) + (y 1).val; rw [h']; omega

/-- The bias. -/
theorem iblk6 (c : Dev nD) (t : Fin cfg0.N) (y : S1x512.Idx) : iblk m c 6 t y = m ((c : Thread nD τ).loc main_arg4) (ix1 (colAt t (y 1))) := by
  refine Eq.trans (V_v2 m c (((cfg0.win 6).blk t).view.emb y)) ?_
  obtain ⟨-, -, -, -, -, -, h, -⟩ := idx t
  refine congrArg _ (congrArg _ (Fin.ext ?_))
  show win0_6.index t 1 * 512 + 1 * (y 1).val = (colAt t (y 1)).val; rw [h]; simp only [colAt]; omega

/-- One tap of the block. -/
theorem tap (c : Dev nD) (t : Fin cfg0.N) (k : Fin 3) (inb) (y : S1x512.Idx) :
    window (iblk m c 5 t) (![k.val, 0] : Fin 2 → ℕ) S1x512.size inb y = m ((c : Thread nD τ).loc main_arg3) (ix2 k (colAt t (y 1))) := by
  refine (iblk5 m c t _).trans (congrArg _ (funext fun a => Fin.ext ?_))
  have h0 : (y 0).val < 1 := (y 0).isLt
  match a with
  | ⟨0, _⟩ => show k.val + 1 * (y 0).val = k.val; omega
  | ⟨1, _⟩ => show 512 * (t.val % 4) + (0 + 1 * (y 1).val) = 512 * (t.val % 4) + (y 1).val; omega

/-! ## The values -/

/-- The normalised rows of a point. -/
theorem normed_eq (c : Dev nD) (t : Fin cfg0.N) (y : S1024x2048.Idx) :
    normed m c t y = hn (m ((c : Thread nD τ).loc main_arg0)) (m ((c : Thread nD τ).loc main_arg1)) (ix2 (rowAt t (y 0)) (y 1)) := by
  have e : rowAt t = rowAt (base t) := funext fun r => Fin.ext (by show 1024 * (t.val / 4) + _ = 1024 * (4 * (t.val / 4) / 4) + _; omega)
  rw [e]
  unfold normed hn rms
  pointwise [k0_pay3]
  simp only [iblk0, iblk1]
  rfl

/-- The gated product of a point. -/
theorem gated_eq (c : Dev nD) (t : Fin cfg0.N) (y : S1024x512.Idx) :
    gated m c t y = prod (m ((c : Thread nD τ).loc main_arg0)) (m ((c : Thread nD τ).loc main_arg1)) (m ((c : Thread nD τ).loc main_arg2)) (ix2 (rowAt t (y 0)) (colAt t (y 1))) := by
  unfold gated prod pr
  pointwise [k0_pay6]
  simp only [iblk3, iblk4, normed_eq]
  rfl

/-- The first eight rows of a point's slot. -/
theorem carried_eq (c : Dev nD) (t : Fin cfg0.N) (k : Fin 8) (j : Fin 512) :
    carried m c t (ix3 0 k j) = if t.val < 4 then (0 : EReal) else gated m c (back t) (ix2 ⟨1016 + k.val, by omega⟩ j) := by
  unfold carried
  split
  · pointwise [k0_pay4]
  · pointwise [k0_pay2]

/-- The product, in the carried buffer's shape. -/
theorem pay7_eq (c : Dev nD) (t : Fin cfg0.N) (k : Fin 1024) (j : Fin 512) :
    k0_pay7 (normed m c t) (iblk m c 3 t) (iblk m c 4 t) (ix3 0 k j) = gated m c t (ix2 k j) := by
  unfold gated
  pointwise [k0_pay7]

/-- The two stores of a slot, read at one of its rows: the carried eight, then the product. -/
theorem slot_at (g : Vec Ideal S4x1032x512 .f32) (p : Vec Ideal S1x8x512 .f32) (z : Vec Ideal S1x1024x512 .f32) (i : grid0.Coords) (r : ℕ) (hr : r ≤ 8) (y : S1x1024x512.Idx) :
    window (put (put g (row i 0) S1x8x512.size p) (row i 8) S1x1024x512.size z) (row i r) S1x1024x512.size (row_inb i r hr) y
      = if h : r + (y 1).val < 8 then p (ix3 0 ⟨r + (y 1).val, h⟩ (y 2)) else z (ix3 0 ⟨r + (y 1).val - 8, by have : (y 1).val < 1024 := (y 1).isLt; omega⟩ (y 2)) := by
  have h0 : (y 0).val < 1 := (y 0).isLt
  have h1 : (y 1).val < 1024 := (y 1).isLt
  have h2 : (y 2).val < 512 := (y 2).isLt
  have e0 : ((Rect.unit (s := S4x1032x512) (row i r) S1x1024x512.size (row_inb i r hr)).emb y 0).val = (i 1).val + 1 * (y 0).val := rfl
  have e1 : ((Rect.unit (s := S4x1032x512) (row i r) S1x1024x512.size (row_inb i r hr)).emb y 1).val = r + 1 * (y 1).val := rfl
  have e2 : ((Rect.unit (s := S4x1032x512) (row i r) S1x1024x512.size (row_inb i r hr)).emb y 2).val = 0 + 1 * (y 2).val := rfl
  unfold window put
  generalize (Rect.unit (s := S4x1032x512) (row i r) S1x1024x512.size (row_inb i r hr)).emb y = u at e0 e1 e2 ⊢
  by_cases hb : r + (y 1).val < 8
  · have hout : ¬ ∀ a, row i 8 a ≤ (u a).val ∧ (u a).val < row i 8 a + S1x1024x512.size a :=
      fun h => absurd (show 8 ≤ (u 1).val from (h 1).1) (by omega)
    have hin : ∀ a, row i 0 a ≤ (u a).val ∧ (u a).val < row i 0 a + S1x8x512.size a :=
      axes ⟨by show (i 1).val ≤ (u 0).val; omega, by show (u 0).val < (i 1).val + 1; omega⟩ ⟨Nat.zero_le _, by show (u 1).val < 0 + 8; omega⟩ ⟨Nat.zero_le _, by show (u 2).val < 0 + 512; omega⟩
    rw [dif_neg hout, dif_pos hin, dif_pos hb]
    refine congrArg p (funext fun a => Fin.ext ?_)
    match a with
    | ⟨0, _⟩ => show (u 0).val - (i 1).val = 0; omega
    | ⟨1, _⟩ => show (u 1).val - 0 = r + (y 1).val; omega
    | ⟨2, _⟩ => show (u 2).val - 0 = (y 2).val; omega
  · have hin : ∀ a, row i 8 a ≤ (u a).val ∧ (u a).val < row i 8 a + S1x1024x512.size a :=
      axes ⟨by show (i 1).val ≤ (u 0).val; omega, by show (u 0).val < (i 1).val + 1; omega⟩ ⟨by show 8 ≤ (u 1).val; omega, by show (u 1).val < 8 + 1024; omega⟩ ⟨Nat.zero_le _, by show (u 2).val < 0 + 512; omega⟩
    rw [dif_pos hin, dif_neg hb]
    refine congrArg z (funext fun a => Fin.ext ?_)
    match a with
    | ⟨0, _⟩ => show (u 0).val - (i 1).val = 0; omega
    | ⟨1, _⟩ => show (u 1).val - 8 = r + (y 1).val - 8; omega
    | ⟨2, _⟩ => show (u 2).val - 0 = (y 2).val; omega

/-- What a point reads of its slot from row `8 - d` on is the product `d` rows earlier, across the row blocks' boundary too. -/
theorem late_eq (c : Dev nD) (t : Fin cfg0.N) (d r : ℕ) (hd : d + r = 8) (k : Fin 1024) (j : Fin 512) :
    window (filled m c t) (row (grid0.coords t) r) S1x1024x512.size (row_inb _ r (by omega)) (ix3 0 k j)
      = late (m ((c : Thread nD τ).loc main_arg0)) (m ((c : Thread nD τ).loc main_arg1)) (m ((c : Thread nD τ).loc main_arg2)) d (ix2 (rowAt t k) (colAt t j)) := by
  have h1 : k.val < 1024 := k.isLt
  have ht := pt_lt t
  have hrow : (ix2 (rowAt t k) (colAt t j) 0 : Fin 8192).val = 1024 * (t.val / 4) + k.val := rfl
  refine (slot_at _ _ _ _ r (by omega) (ix3 0 k j)).trans ?_
  unfold late
  by_cases h : r + k.val < 8
  · refine (dif_pos h).trans ((carried_eq m c t ⟨r + k.val, h⟩ j).trans ?_)
    by_cases h4 : t.val < 4
    · rw [if_pos h4, if_neg (by rw [hrow]; omega)]
    · rw [if_neg h4, gated_eq, if_pos (by rw [hrow]; omega)]
      refine congrArg _ (congrArg₂ ix2 (Fin.ext ?_) (Fin.ext ?_))
      · show 1024 * ((t.val - 4) / 4) + (1016 + (r + k.val)) = 1024 * (t.val / 4) + k.val - d
        omega
      · show 512 * ((t.val - 4) % 4) + j.val = 512 * (t.val % 4) + j.val
        omega
  · refine (dif_neg h).trans ((pay7_eq m c t ⟨r + k.val - 8, by omega⟩ j).trans ?_)
    rw [gated_eq, if_pos (by rw [hrow]; omega)]
    refine congrArg _ (congrArg₂ ix2 (Fin.ext ?_) rfl)
    show 1024 * (t.val / 4) + (r + k.val - 8) = 1024 * (t.val / 4) + k.val - d
    omega

/-- The output block's arithmetic at an index. -/
theorem out_at (h : Vec Ideal S1024x2048 .bf16) (x2 x3 x4 : Vec Ideal S2048x512 .bf16) (x6 w0 w1 w2 : Vec Ideal S1x512 .f32) (z2 z1 : Vec Ideal S1x1024x512 .f32) (y : S1024x512.Idx) :
    k0_pay1 (k0_pay5 h x2) (k0_pay8 h x3 x4 x6 w2) w0 z2 w1 z1 y
      = ((∑ k : Fin 2048, (h (ix2 (y 0) k) : EReal) * x2 (ix2 k (y 1)))
          * ((x6 (ix2 0 (y 1)) : EReal) + w2 (ix2 0 (y 1)) * k0_pay6 h x3 x4 y + w0 (ix2 0 (y 1)) * z2 (ix3 0 (y 0) (y 1)) + w1 (ix2 0 (y 1)) * z1 (ix3 0 (y 0) (y 1))) : EReal) := by
  pointwise [k0_pay1, k0_pay5, k0_pay8]

/-- The bias and the three taps, added in another order. -/
theorem arrange {a a' b b' w2 c2 p p' w0 c0 l2 l2' w1 c1 l1 l1' : EReal} (ha : a = a') (hb : b = b') (h2 : w2 = c2) (hp : p = p')
    (h0 : w0 = c0) (hl2 : l2 = l2') (h1 : w1 = c1) (hl1 : l1 = l1') :
    a * (b + w2 * p + w0 * l2 + w1 * l1) = a' * (c0 * l2' + c1 * l1' + c2 * p' + b') := by
  subst ha hb h2 hp h0 hl2 h1 hl1
  exact congrArg (a * ·) (by ac_rfl)

/-- The output block of a point. -/
theorem block_eq (c : Dev nD) (t : Fin cfg0.N) (y : S1024x512.Idx) :
    block m c t y = res (m ((c : Thread nD τ).loc main_arg0)) (m ((c : Thread nD τ).loc main_arg1)) (m ((c : Thread nD τ).loc main_arg2)) (m ((c : Thread nD τ).loc main_arg3)) (m ((c : Thread nD τ).loc main_arg4)) (ix2 (rowAt t (y 0)) (colAt t (y 1))) := by
  unfold block out
  refine (out_at ..).trans (arrange ?_ (iblk6 m c t _) (tap m c t 2 _ _) (gated_eq m c t _) (tap m c t 0 _ _) (late_eq m c t 2 6 rfl _ _) (tap m c t 1 _ _) (late_eq m c t 1 7 rfl _ _))
  refine Finset.sum_congr rfl fun k _ => congrArg₂ (fun a b : EReal => a * b) (normed_eq m c t _) (iblk2 m c t _)

/-- What a point writes back. -/
theorem flushed_eq (c : Dev nD) (t : Fin cfg0.N) : (dats m 0 c).flushed 7 t
    = ((cfg0.win 7).blk t).view.read (Elt Ideal) ((res (m ((c : Thread nD τ).loc main_arg0)) (m ((c : Thread nD τ).loc main_arg1)) (m ((c : Thread nD τ).loc main_arg2)) (m ((c : Thread nD τ).loc main_arg3)) (m ((c : Thread nD τ).loc main_arg4)) : S8192x2048.Idx → EReal) : Buf (Elt Ideal) ((c : Thread nD τ).loc main_v3)) := by
  show (cfg0.win 7).cut (grid0.coords t) ((dats m 0 c).after 7 t) = _
  rw [after7]
  funext y
  refine (block_eq m c t y).trans (congrArg (res (m ((c : Thread nD τ).loc main_arg0)) (m ((c : Thread nD τ).loc main_arg1)) (m ((c : Thread nD τ).loc main_arg2)) (m ((c : Thread nD τ).loc main_arg3)) (m ((c : Thread nD τ).loc main_arg4))) ?_)
  obtain ⟨-, -, -, -, -, -, -, h, h'⟩ := idx t
  refine funext fun a => Fin.ext ?_
  match a with
  | ⟨0, _⟩ => show 1024 * (t.val / 4) + (y 0).val = win0_7.index t 0 * 1024 + 1 * (y 0).val; rw [h]; omega
  | ⟨1, _⟩ => show 512 * (t.val % 4) + (y 1).val = win0_7.index t 1 * 512 + 1 * (y 1).val; rw [h']; omega

/-- The indices of a point's block. -/
theorem mem_block (t : Fin cfg0.N) (i : S8192x2048.Idx) (h0 : (i 0 : Nat) / 1024 = t.val / 4) (h1 : (i 1 : Nat) / 512 = t.val % 4) :
    i ∈ ((cfg0.win 7).blk t).view.set := by
  show i ∈ ((View.whole main_v3).slice (win0_7.rect t)).set
  rw [View.set_slice_whole, Rect.mem_set_unit]
  obtain ⟨-, -, -, -, -, -, -, h, h'⟩ := idx t
  intro a
  match a with
  | ⟨0, _⟩ =>
    show win0_7.index t 0 * 1024 ≤ (i 0 : Nat) ∧ (i 0 : Nat) < win0_7.index t 0 * 1024 + 1024
    rw [h]; omega
  | ⟨1, _⟩ =>
    show win0_7.index t 1 * 512 ≤ (i 1 : Nat) ∧ (i 1 : Nat) < win0_7.index t 1 * 512 + 512
    rw [h']; omega

/-- The result array after the run. -/
theorem final (c : Dev nD) : (dats m 0 c).arrAt 7 cfg0.N = ((res (m ((c : Thread nD τ).loc main_arg0)) (m ((c : Thread nD τ).loc main_arg1)) (m ((c : Thread nD τ).loc main_arg2)) (m ((c : Thread nD τ).loc main_arg3)) (m ((c : Thread nD τ).loc main_arg4)) : S8192x2048.Idx → EReal) : Buf (Elt Ideal) ((c : Thread nD τ).loc main_v3)) :=
  (dats m 0 c).arrAt_eq_of_cover 7 _ (fun t _ => flushed_eq m c t) fun i => by
    have h0 : (i 0 : Nat) < 8192 := (i 0).isLt
    have h1 : (i 1 : Nat) < 2048 := (i 1).isLt
    refine ⟨⟨4 * ((i 0).val / 1024) + (i 1).val / 512, lt_of_lt_of_eq (by omega : 4 * ((i 0).val / 1024) + (i 1).val / 512 < 32) N_0.symm⟩, flush0_7 _, mem_block _ i ?_ ?_⟩
    · dsimp only; omega
    · dsimp only; omega

/-- The run, read: the result, the arguments unchanged. -/
theorem run : θ_run defs (onTc (τ := τ) (main (F := Ideal))) ⟨m, fun _ => 0, ρ⟩ fun r => ∀ c : Dev nD,
      r.2.mem ((c : Thread nD τ).loc main_v3) = res (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 7).trans (final m c), h.2 c⟩)
    (θ_run_and (run_post m ρ) (frame_of m ρ (dats m) (A_eq m) (run_post m ρ)))

end Cert.ShortConvIdeal.RefValue

namespace Cert.ShortConvRefIdeal.RefValue

open Cert.ShortConvRefIdeal Cert.ShortConvRefIdeal.Gen Idealize.ShloMosaic Idealize.ShloMosaic.TcCoe Idealize.SL.Sem
open Cert.Common Cert.ShortConvIdeal.RefValue

/-- The first third's columns are the first ones. -/
theorem third_zero (j : Fin 2048) : third 0 j = ⟨j.val, by omega⟩ := Fin.ext (by show 2048 * 0 + j.val = j.val; omega)

/-- The padding is zero. -/
theorem sitofp_zero : (FloatOps.sitofp (F := Ideal) .f32 0#32 : EReal) = 0 := by
  show (((0#32).toInt : ℝ) : EReal) = 0
  simp

set_option maxHeartbeats 4000000 in
/-- The reference's run, read: its result is the same function of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      funext i
      unfold Value.res_main_v45
      clean_types
      pointwise
      have h0 : (i 0).val < 8192 := (i 0).isLt
      unfold res
      refine congrArg₂ (· * ·) ?_ (congrArg₂ (· + ·) (congrArg₂ (· + ·) (congrArg₂ (· + ·) (congrArg₂ (fun a b : EReal => a * b) rfl ?_) (congrArg₂ (fun a b : EReal => a * b) rfl ?_)) rfl) rfl)
      · unfold pr
        exact Finset.sum_congr rfl fun k _ => congrArg₂ (fun a b : EReal => a * b) rfl (congrArg (fun j : Fin 2048 → Fin 6144 => m ((c.tc : Thread nD τ).loc main_arg2) (ix2 k (j (i 1)))) (funext third_zero).symm)
      · unfold late
        by_cases h2 : 2 ≤ (i 0).val
        · rw [dif_pos ⟨h2, by omega⟩, if_pos h2]
          rfl
        · rw [dif_neg (fun h => h2 h.1), if_neg h2]
          exact sitofp_zero
      · unfold late
        by_cases h2 : 1 ≤ (i 0).val
        · rw [dif_pos ⟨by omega, by omega⟩, if_pos h2]
          refine Eq.trans (b := prod _ _ _ (ix2 ⟨1 + (i 0).val - 2, by omega⟩ (i 1))) rfl ?_
          exact congrArg (fun r => prod _ _ _ (ix2 r (i 1))) (Fin.ext (by dsimp only; omega))
        · rw [dif_neg (fun h => h2 (by have := h.1; omega)), if_neg h2]
          exact sitofp_zero), (h c).2⟩) (Value.run m ρ)

end Cert.ShortConvRefIdeal.RefValue

end
-- ==== Proof.ShortConvClaims.lean ====
/-
  The claims about the short convolution's input call: the kernel runs to its end at both kinds of floats, and it and its
  reference end at one function of the arguments.
-/
module

public import proofs.«01_k».proof.Proof.ShortConvValue
public import proofs.«01_k».proof.Proof.Gen.ShortConv.Skeleton
public import proofs.«01_k».proof.Defs

@[expose] public section

noncomputable section

namespace Cert.ShortConvClaims

open Idealize.ShloMosaic Idealize.SL.Sem

/-- The idealized call and its reference agree. -/
theorem agree : Cert.algebraic_ShortConvIdeal_ShortConvRefIdeal := fun m ρ m' ρ' _ hagree =>
  ⟨_, Cert.ShortConvIdeal.RefValue.run m ρ,
    (θ_run _ _ _).mono (fun _ h c => ⟨(h c).1.trans (by
      rw [(hagree c).1, (hagree c).2.1, (hagree c).2.2.1, (hagree c).2.2.2.1, (hagree c).2.2.2.2]), (h c).2⟩) (Cert.ShortConvRefIdeal.RefValue.run m' ρ')⟩

/-- The reference runs to its end and keeps its arguments. -/
theorem frame : Cert.quiescent_ShortConvRefIdeal := fun m ρ _ =>
  (θ_run Cert.ShortConvRefIdeal.defs _ _).mono (fun r h => ⟨fun c => (h c).2, sem_eq_zero_of_no_sems (by decide) r.2⟩) (Cert.ShortConvRefIdeal.RefValue.run m ρ)

/-- The idealized call runs to its end and keeps its arguments. -/
theorem frame_ideal : Cert.quiescent_ShortConvIdeal := fun m ρ _ => Cert.ShortConvIdeal.Run.unchanged_quiescent (F := Ideal) m ρ

/-- The two programs' bodies have one text, label by label. -/
theorem bodies : Cert.ShortConv.defs₀ (F := Bits) = Cert.ShortConvIdeal.defs₀ (F := Bits) := by
  unfold Cert.ShortConv.defs₀ Cert.ShortConvIdeal.defs₀
  refine congrArg Defs.onTc ?_
  funext l a
  match l, a with
  | 0, (t, s) => exact rfl

/-- The call on machine floats does too. -/
theorem frame_kernel : Cert.quiescent_ShortConv := fun m ρ _ =>
  (congrArg (fun d => θ_run (Pipeline.defs (Cert.ShortConvIdeal.pcfgs (F := Bits)) d) (onTc (τ := Cert.ShortConvIdeal.τ) (Cert.ShortConvIdeal.main (F := Bits)))
    ⟨m, fun _ => 0, ρ⟩ _) bodies).mpr (Cert.ShortConvIdeal.Run.unchanged_quiescent (F := Bits) m ρ)

end Cert.ShortConvClaims

end
-- ==== Proof.ConfOutStrip.lean ====
/-
  One trip of the loop in the conformer block's output kernel: what it stores in a strip of 256 columns, as sums over the
  31 taps of the depthwise convolution.
-/
module

public import proofs.«01_k».proof.Proof.Gen.ConfOutIdeal.Frame
public import proofs.«01_k».proof.Proof.Gen.ConfOutIdeal.Skeleton
public import proofs.«01_k».proof.Proof.Common
public import Idealize.ShloMosaic.Lib.VecWindow
public import Idealize.ShloMosaic.Lib.Claim

@[expose] public section

set_option maxRecDepth 16384

noncomputable section

namespace Cert.ConfOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Cert.ConfOutIdeal Cert.ConfOutIdeal.Gen

variable {F : FTy → Type} [FloatOps F]

local notation "𝕄" => MT nD τ sig Unit (Elt F) ℕ (UR sig nD τ) ℕ

/-- The columns that a trip works on start here. -/
def base (k : Fin k0_t1_loop.trips) : ℕ := (Scalar.indexCast (Scalar.muli (Scf.iv 0#32 1#32 k) 256#32) : Index).toNat

theorem base_eq (k : Fin k0_t1_loop.trips) : base k = 256 * k.val := by
  have h : k.val < 8 := Nat.lt_of_lt_of_le k.isLt k0_t1_abs.2.1
  unfold base
  generalize k.val = n at h ⊢
  interval_cases n <;> rfl

/-- An entry of a matrix by its row and column numbers. -/
def cell {n p : ℕ} [NeZero n] [NeZero p] {α : Type} (x : (⟨2, ![n, p]⟩ : Shape).Idx → α) (r c : ℕ) : α :=
  x (fun a => match a with | ⟨0, _⟩ => Fin.ofNat n r | ⟨1, _⟩ => Fin.ofNat p c)

theorem cell_eq {n p : ℕ} [NeZero n] [NeZero p] {α : Type} (x : (⟨2, ![n, p]⟩ : Shape).Idx → α) (y : (⟨2, ![n, p]⟩ : Shape).Idx) (r c : ℕ)
    (hr : (y 0).val = r) (hc : (y 1).val = c) : x y = cell x r c := by
  subst hr; subst hc
  refine congrArg x (funext fun a => ?_)
  match a with
  | ⟨0, _⟩ => exact Fin.ext (Nat.mod_eq_of_lt (y 0).isLt).symm
  | ⟨1, _⟩ => exact Fin.ext (Nat.mod_eq_of_lt (y 1).isLt).symm

theorem cell_congr {n p : ℕ} [NeZero n] [NeZero p] {α : Type} (x : (⟨2, ![n, p]⟩ : Shape).Idx → α) {r r' c c' : ℕ} (hr : r = r') (hc : c = c') :
    cell x r c = cell x r' c' := by rw [hr, hc]

/-- The convolution's running sum at a row and a column, after the first `n` taps. -/
def acc (dw : Vec F S31x2048 .f32) (db : Vec F S1x2048 .f32) (u : Vec F S288x2048 .f32) (r c : ℕ) : ℕ → F .f32
  | 0 => cell db 0 c
  | n + 1 => FloatOps.addf (acc dw db u r c n) (FloatOps.mulf (cell dw n c) (cell u (r + 2 + n) c))

/-- The columns before `b` of a buffer hold the convolution. -/
def Done (dw : Vec F S31x2048 .f32) (db : Vec F S1x2048 .f32) (u : Vec F S288x2048 .f32) (b : ℕ) (x : Vec F S256x2048 .f32) : Prop :=
  ∀ y : S256x2048.Idx, (y 1).val < b → x y = acc dw db u (y 0).val (y 1).val 31

section Strip

variable (dw : Vec F S31x2048 .f32) (db : Vec F S1x2048 .f32) (u : Vec F S288x2048 .f32)

theorem put_miss (x : Vec F S256x2048 .f32) (r b : ℕ) (w : Vec F S64x256 .f32) (y : S256x2048.Idx)
    (h : (y 0).val < r ∨ r + 64 ≤ (y 0).val ∨ (y 1).val < b) : put (s := S256x2048) x ![r, b] S64x256.size w y = x y := by
  unfold put
  refine dif_neg fun hall => ?_
  have h0 : r ≤ (y 0).val ∧ (y 0).val < r + 64 := hall 0
  have h1 : b ≤ (y 1).val ∧ (y 1).val < b + 256 := hall 1
  omega

theorem put_hit (x : Vec F S256x2048 .f32) (r b : ℕ) (w : Vec F S64x256 .f32) (y : S256x2048.Idx)
    (hw : ∀ z : S64x256.Idx, w z = acc dw db u (r + (z 0).val) (b + (z 1).val) 31)
    (h0 : r ≤ (y 0).val) (h0' : (y 0).val < r + 64) (h1 : b ≤ (y 1).val) (h1' : (y 1).val < b + 256) :
    put (s := S256x2048) x ![r, b] S64x256.size w y = acc dw db u (y 0).val (y 1).val 31 := by
  have hall : ∀ a, (![r, b] : Fin 2 → ℕ) a ≤ (y a).val ∧ (y a).val < (![r, b] : Fin 2 → ℕ) a + S64x256.size a := fun a => by
    match a with
    | ⟨0, _⟩ => exact ⟨h0, h0'⟩
    | ⟨1, _⟩ => exact ⟨h1, h1'⟩
  unfold put
  refine (dif_pos hall).trans ((hw _).trans ?_)
  have e0 : r + ((y 0).val - r) = (y 0).val := by omega
  have e1 : b + ((y 1).val - b) = (y 1).val := by omega
  exact congrArg₂ (fun p q => acc dw db u p q 31) e0 e1

/-- A strip's four chunks stored: the columns up to the strip's end hold the convolution. -/
theorem done_strip (b : ℕ) (x : Vec F S256x2048 .f32) (hd : Done dw db u b x) (w0 w1 w2 w3 : Vec F S64x256 .f32)
    (h0 : ∀ z : S64x256.Idx, w0 z = acc dw db u (0 + (z 0).val) (b + (z 1).val) 31) (h1 : ∀ z : S64x256.Idx, w1 z = acc dw db u (64 + (z 0).val) (b + (z 1).val) 31)
    (h2 : ∀ z : S64x256.Idx, w2 z = acc dw db u (128 + (z 0).val) (b + (z 1).val) 31) (h3 : ∀ z : S64x256.Idx, w3 z = acc dw db u (192 + (z 0).val) (b + (z 1).val) 31) :
    Done dw db u (b + 256) (put (put (put (put (s := S256x2048) x ![0, b] S64x256.size w0) ![64, b] S64x256.size w1) ![128, b] S64x256.size w2) ![192, b] S64x256.size w3) := by
  intro y hy
  have hr : (y 0).val < 256 := (y 0).isLt
  by_cases hb : (y 1).val < b
  · rw [put_miss _ _ _ _ _ (Or.inr (Or.inr hb)), put_miss _ _ _ _ _ (Or.inr (Or.inr hb)), put_miss _ _ _ _ _ (Or.inr (Or.inr hb)), put_miss _ _ _ _ _ (Or.inr (Or.inr hb))]
    exact hd y hb
  · by_cases c3 : 192 ≤ (y 0).val
    · exact put_hit dw db u _ _ _ _ _ h3 c3 (by omega) (by omega) hy
    rw [put_miss _ _ _ _ _ (Or.inl (by omega))]
    by_cases c2 : 128 ≤ (y 0).val
    · exact put_hit dw db u _ _ _ _ _ h2 c2 (by omega) (by omega) hy
    rw [put_miss _ _ _ _ _ (Or.inl (by omega))]
    by_cases c1 : 64 ≤ (y 0).val
    · exact put_hit dw db u _ _ _ _ _ h1 c1 (by omega) (by omega) hy
    rw [put_miss _ _ _ _ _ (Or.inl (by omega))]
    exact put_hit dw db u _ _ _ _ _ h0 (by omega) (by omega) (by omega) hy

end Strip

section Loads

/-- A load at unit stride, entry by entry. -/
theorem load {n p : ℕ} [NeZero n] [NeZero p] (v : View sig .tc .vmem (⟨2, ![n, p]⟩ : Shape) .f32) (f : v.ty.Contents (Elt F)) (off : Fin 2 → ℕ) (size : Fin 2 → ℕ) (inb)
    (y : (⟨2, size⟩ : Shape).Idx) :
    v.readAt (Elt F) (Rect.unit (s := ⟨2, ![n, p]⟩) off size inb).toLoadRect f y = cell (v.read (Elt F) f) (off 0 + (y 0).val) (off 1 + (y 1).val) := by
  refine (congrFun (View.readAt_unit v f inb rfl inb) y).trans ?_
  refine cell_eq (v.read (Elt F) f) _ _ _ ?_ ?_
  · show off 0 + 1 * (y 0).val = _; rw [Nat.one_mul]
  · show off 1 + 1 * (y 1).val = _; rw [Nat.one_mul]

variable (v : View sig .tc .vmem S7x280x256 .f32) (L : List (View.Piece (Elt F) S7x280x256 .f32)) (p : Vec F S1x280x256 .f32)

/-- A load of a copy reads the copy just stored, -/
theorem copy_hit (s o : ℕ) (inb inb') :
    v.readCov (⟨Rect.unit (s := S7x280x256) ![s, 0, 0] S1x280x256.size inb, p⟩ :: L) (Rect.unit (s := S7x280x256) ![s, o, 0] S1x64x256.size inb').toLoadRect
      = fun y : S1x64x256.Idx => p (ix3 0 (Fin.ofNat 280 (o + (y 1).val)) (y 2)) := by
  have ho : o + 64 ≤ 280 := inb' 1
  refine (View.readAt_unit v _ inb' rfl inb').trans ?_
  rw [View.read_writes_cons_put v _ inb p L rfl]
  funext y
  have hy0 : (y 0).val < 1 := (y 0).isLt
  have hy1 : (y 1).val < 64 := (y 1).isLt
  have hy2 : (y 2).val < 256 := (y 2).isLt
  unfold window put
  refine (dif_pos (fun a => ?_)).trans (congrArg p (funext fun a => ?_))
  · match a with
    | ⟨0, _⟩ => exact ⟨Nat.le_add_right _ _, by show s + 1 * (y 0).val < s + 1; omega⟩
    | ⟨1, _⟩ => exact ⟨Nat.zero_le _, by show o + 1 * (y 1).val < 0 + 280; omega⟩
    | ⟨2, _⟩ => exact ⟨Nat.zero_le _, by show 0 + 1 * (y 2).val < 0 + 256; omega⟩
  · match a with
    | ⟨0, _⟩ => exact Fin.ext (by show s + 1 * (y 0).val - s = 0; omega)
    | ⟨1, _⟩ => exact Fin.ext (by show o + 1 * (y 1).val - 0 = (o + (y 1).val) % 280; rw [Nat.mod_eq_of_lt (by omega)]; omega)
    | ⟨2, _⟩ => exact Fin.ext (by show 0 + 1 * (y 2).val - 0 = (y 2).val; omega)

/-- and passes over a store of another copy. -/
theorem copy_miss (s s' o : ℕ) (hs : s ≠ s') (inb inb') :
    v.readCov (⟨Rect.unit (s := S7x280x256) ![s', 0, 0] S1x280x256.size inb, p⟩ :: L) (Rect.unit (s := S7x280x256) ![s, o, 0] S1x64x256.size inb').toLoadRect
      = v.readCov L (Rect.unit (s := S7x280x256) ![s, o, 0] S1x64x256.size inb').toLoadRect := by
  refine (View.readAt_unit v _ inb' rfl inb').trans (Eq.trans ?_ (View.readAt_unit v _ inb' rfl inb').symm)
  rw [View.read_writes_cons_put v _ inb p L rfl]
  refine window_put_of_disjoint _ _ _ _ _ _ _ (0 : Fin 3) ?_
  show s + 1 ≤ s' ∨ s' + 1 ≤ s
  omega

/-- A bias or tap row, repeated over the rows of a chunk. -/
theorem spread (x : FVec F S1x256 .f32) (y : S64x256.Idx) : broadcastTo S64x256 x broadcasts_S1x256_S64x256 y = x (ix2 0 (y 1)) := by
  pointwise

/-- A chunk of a copy, its leading axis dropped. -/
theorem dropAxis (x : FVec F S1x64x256 .f32) (y : S64x256.Idx) : shapeCast S64x256 x shapeCasts_S1x64x256_S64x256 y = x (ix3 0 (y 0) (y 1)) :=
  (shapeCast_dropUnit_apply _ x shapeCasts_S1x64x256_S64x256 y).trans (congrArg x (funext fun a => match a with | ⟨0, _⟩ => rfl | ⟨1, _⟩ => rfl | ⟨2, _⟩ => rfl))

/-- A copy, a leading axis added. -/
theorem addAxis (x : FVec F S280x256 .f32) (y : S1x280x256.Idx) : shapeCast S1x280x256 x shapeCasts_S280x256_S1x280x256 y = x (ix2 (y 1) (y 2)) :=
  (shapeCast_addUnit_apply _ x shapeCasts_S280x256_S1x280x256 y).trans (congrArg x (funext fun a => match a with | ⟨0, _⟩ => rfl | ⟨1, _⟩ => rfl))

theorem same64 (x : FVec F S64x256 .f32) : shapeCast S64x256 x shapeCasts_S64x256_S64x256 = x := shapeCast_self x _
theorem same1 (x : FVec F S1x256 .f32) : shapeCast S1x256 x shapeCasts_S1x256_S1x256 = x := shapeCast_self x _

/-- One more tap. -/
theorem more (dw : Vec F S31x2048 .f32) (db : Vec F S1x2048 .f32) (u : Vec F S288x2048 .f32) {r c n : ℕ} {a d t : FVec F S64x256 .f32} {z : S64x256.Idx}
    (ha : a z = acc dw db u r c n) (hd : d z = cell dw n c) (ht : t z = cell u (r + 2 + n) c) : addf a (mulf d t) z = acc dw db u r c (n + 1) :=
  congrArg₂ FloatOps.addf ha (congrArg₂ FloatOps.mulf hd ht)

/-- A row of the taps, loaded and repeated over the rows of a chunk. -/
theorem tapRow (v : View sig .tc .vmem S31x2048 .f32) (f : v.ty.Contents (Elt F)) (n b : ℕ) (off : Fin 2 → ℕ) (e : off = ![n, b]) (inb) (z : S64x256.Idx) :
    broadcastTo S64x256 (v.readAt (Elt F) (Rect.unit (s := S31x2048) off S1x256.size inb).toLoadRect f) broadcasts_S1x256_S64x256 z = cell (v.read (Elt F) f) n (b + (z 1).val) := by
  subst e
  exact (spread _ z).trans ((load v f _ _ inb _).trans (cell_congr _ (Nat.add_zero _) rfl))

/-- The bias, loaded and repeated over the rows of a chunk. -/
theorem biasRow (v : View sig .tc .vmem S1x2048 .f32) (f : v.ty.Contents (Elt F)) (b : ℕ) (off : Fin 2 → ℕ) (e : off = ![0, b]) (inb) (z : S64x256.Idx) :
    broadcastTo S64x256 (shapeCast S1x256 (shapeCast S1x256 (v.readAt (Elt F) (Rect.unit (s := S1x2048) off S1x256.size inb).toLoadRect f) shapeCasts_S1x256_S1x256) shapeCasts_S1x256_S1x256) broadcasts_S1x256_S64x256 z
      = cell (v.read (Elt F) f) 0 (b + (z 1).val) := by
  subst e
  rw [same1, same1]
  exact (spread _ z).trans ((load v f _ _ inb _).trans (cell_congr _ (Nat.add_zero _) rfl))

/-- Rows of the buffer, loaded straight. -/
theorem plainRow (v : View sig .tc .vmem S288x2048 .f32) (f : v.ty.Contents (Elt F)) (q n b : ℕ) (off : Fin 2 → ℕ) (e : off = ![q + 2 + n, b]) (inb) (z : S64x256.Idx) :
    v.readAt (Elt F) (Rect.unit (s := S288x2048) off S64x256.size inb).toLoadRect f z = cell (v.read (Elt F) f) (q + (z 0).val + 2 + n) (b + (z 1).val) := by
  subst e
  refine (load v f _ _ inb z).trans (cell_congr _ ?_ rfl)
  show q + 2 + n + (z 0).val = q + (z 0).val + 2 + n
  omega

/-- The seven shifted copies of a strip, the last stored first. -/
def copies (w : View sig .tc .vmem S288x2048 .f32) (f : w.ty.Contents (Elt F)) (i : grid0.Coords) (h1 : k0_cond1 i = 1#1) (k : Fin k0_t1_loop.trips) : List (View.Piece (Elt F) S7x280x256 .f32) :=
  [⟨Rect.unit (s := S7x280x256) ![6, 0, 0] S1x280x256.size inb_S7x280x256_S1x280x256_6_0_0, shapeCast S1x280x256 (w.readAt (Elt F) (Rect.unit (s := S288x2048) (k0_off7 k) S280x256.size (k0_off7_inb i k h1)).toLoadRect f) shapeCasts_S280x256_S1x280x256⟩,
   ⟨Rect.unit (s := S7x280x256) ![5, 0, 0] S1x280x256.size inb_S7x280x256_S1x280x256_5_0_0, shapeCast S1x280x256 (w.readAt (Elt F) (Rect.unit (s := S288x2048) (k0_off6 k) S280x256.size (k0_off6_inb i k h1)).toLoadRect f) shapeCasts_S280x256_S1x280x256⟩,
   ⟨Rect.unit (s := S7x280x256) ![4, 0, 0] S1x280x256.size inb_S7x280x256_S1x280x256_4_0_0, shapeCast S1x280x256 (w.readAt (Elt F) (Rect.unit (s := S288x2048) (k0_off5 k) S280x256.size (k0_off5_inb i k h1)).toLoadRect f) shapeCasts_S280x256_S1x280x256⟩,
   ⟨Rect.unit (s := S7x280x256) ![3, 0, 0] S1x280x256.size inb_S7x280x256_S1x280x256_3_0_0, shapeCast S1x280x256 (w.readAt (Elt F) (Rect.unit (s := S288x2048) (k0_off4 k) S280x256.size (k0_off4_inb i k h1)).toLoadRect f) shapeCasts_S280x256_S1x280x256⟩,
   ⟨Rect.unit (s := S7x280x256) ![2, 0, 0] S1x280x256.size inb_S7x280x256_S1x280x256_2_0_0, shapeCast S1x280x256 (w.readAt (Elt F) (Rect.unit (s := S288x2048) (k0_off3 k) S280x256.size (k0_off3_inb i k h1)).toLoadRect f) shapeCasts_S280x256_S1x280x256⟩,
   ⟨Rect.unit (s := S7x280x256) ![1, 0, 0] S1x280x256.size inb_S7x280x256_S1x280x256_1_0_0, shapeCast S1x280x256 (w.readAt (Elt F) (Rect.unit (s := S288x2048) (k0_off2 k) S280x256.size (k0_off2_inb i k h1)).toLoadRect f) shapeCasts_S280x256_S1x280x256⟩,
   ⟨Rect.unit (s := S7x280x256) ![0, 0, 0] S1x280x256.size inb_S7x280x256_S1x280x256_0_0_0, shapeCast S1x280x256 (w.readAt (Elt F) (Rect.unit (s := S288x2048) (k0_off1 k) S280x256.size (k0_off1_inb i k h1)).toLoadRect f) shapeCasts_S280x256_S1x280x256⟩]

/-- Rows of the buffer, loaded from the copy of their residue. -/
theorem copyRow (w : View sig .tc .vmem S288x2048 .f32) (f : w.ty.Contents (Elt F)) (i : grid0.Coords) (h1 : k0_cond1 i = 1#1) (k : Fin k0_t1_loop.trips) (L) (hL : L = copies w f i h1 k) (s o : ℕ) (hs : s < 7) (inb) (z : S64x256.Idx) :
    shapeCast S64x256 (v.readCov L (Rect.unit (s := S7x280x256) ![s, o, 0] S1x64x256.size inb).toLoadRect) shapeCasts_S1x64x256_S64x256 z
      = cell (w.read (Elt F) f) (s + 1 + (o + (z 0).val)) (base k + (z 1).val) := by
  subst hL
  have ho : o + 64 ≤ 280 := inb 1
  have hz : (z 0).val < 64 := (z 0).isLt
  have key : ∀ (off : Fin 2 → ℕ) (inb') (e : off = ![s + 1, base k]),
      shapeCast S64x256 (fun y : S1x64x256.Idx => shapeCast S1x280x256 (w.readAt (Elt F) (Rect.unit (s := S288x2048) off S280x256.size inb').toLoadRect f) shapeCasts_S280x256_S1x280x256
          (ix3 0 (Fin.ofNat 280 (o + (y 1).val)) (y 2))) shapeCasts_S1x64x256_S64x256 z
        = cell (w.read (Elt F) f) (s + 1 + (o + (z 0).val)) (base k + (z 1).val) := by
    intro off inb' e
    subst e
    refine (dropAxis _ z).trans ((addAxis _ _).trans ((load w f _ _ inb' _).trans (cell_congr _ ?_ rfl)))
    show s + 1 + (o + (z 0).val) % 280 = s + 1 + (o + (z 0).val)
    rw [Nat.mod_eq_of_lt (by omega)]
  unfold copies
  interval_cases s
  all_goals
    repeat rw [copy_miss v _ _ _ _ _ (by omega)]
    rw [copy_hit]
    exact key _ _ rfl

end Loads
set_option maxHeartbeats 1000000 in
theorem trip (c : Dev nD) (i : grid0.Coords) (arg2 : Memref sig .tc .vmem S256x2048 .f32) (harg2 : arg2.IsWhole) (arg3 : Memref sig .tc .vmem S32x2048 .f32) (harg3 : arg3.IsWhole) (arg4 : Memref sig .tc .vmem S31x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S288x2048 .f32) (harg12 : arg12.IsWhole) (arg13 : Memref sig .tc .vmem S256x2048 .f32) (harg13 : arg13.IsWhole) (arg14 : Memref sig .tc .vmem S256x2048 .bf16) (harg14 : arg14.IsWhole) (arg15 : Memref sig .tc .vmem S7x280x256 .f32) (harg15 : arg15.IsWhole) (arg0 : BitVec 32) (h1 : k0_cond1 i = 1#1)
    (f4 : BufTy.Contents (Elt F) arg4.view.ty) (f5 : BufTy.Contents (Elt F) arg5.view.ty) (f12 : BufTy.Contents (Elt F) arg12.view.ty) (k : Fin k0_t1_loop.trips)
    (f13 : BufTy.Contents (Elt F) arg13.view.ty) (f15 : BufTy.Contents (Elt F) arg15.view.ty) (E : Set ℕ)
    (hd : Done (arg4.view.read (Elt F) f4) (arg5.view.read (Elt F) f5) (arg12.view.read (Elt F) f12) (256 * k.val) (arg13.view.read (Elt F) f13)) :
    (iprop((arg4.view.loc (c : Thread nD τ) ↦[arg4.view.set]{fullShare} f4) ∗ (arg5.view.loc (c : Thread nD τ) ↦[arg5.view.set]{fullShare} f5) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} f15)) : sProp 𝕄)
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 h1 k PUnit.unit)
          (fun _ => iprop((arg4.view.loc (c : Thread nD τ) ↦[arg4.view.set]{fullShare} f4) ∗ (arg5.view.loc (c : Thread nD τ) ↦[arg5.view.set]{fullShare} f5) ∗ (arg12.view.loc (c : Thread nD τ) ↦[arg12.view.set]{fullShare} f12)
            ∗ (∃ g : BufTy.Contents (Elt F) arg13.view.ty, ⌜Done (arg4.view.read (Elt F) f4) (arg5.view.read (Elt F) f5) (arg12.view.read (Elt F) f12) (256 * (k.val + 1)) (arg13.view.read (Elt F) g)⌝ ∗ (arg13.view.loc (c : Thread nD τ) ↦[arg13.view.set]{fullShare} g)) ∗ (∃ g, arg15.view.loc (c : Thread nD τ) ↦[arg15.view.set]{fullShare} g))) := by
  have hk : k.val < 8 := Nat.lt_of_lt_of_le k.isLt k0_t1_abs.2.1
  unfold k0_t1_body
  iintro ⟨H4, H5, H12, H13, H15⟩
  sl_exec
  sl_step
  isplitl [H4]; · iexact H4
  isplitl [H5]; · iexact H5
  isplitl [H12]; · iexact H12
  isplitl [H13]
  · iexists _; isplitr; swap; · iexact H13
    ipureintro
    sl_unfold_run_names
    rw [show 256 * (k.val + 1) = base k + 256 by rw [base_eq]; omega]
    rw [View.read_writes_cons_put arg13.view _ _ _ _ (show k0_off59 k = ![192, base k] from rfl), View.read_writes_cons_put arg13.view _ _ _ _ (show k0_off54 k = ![128, base k] from rfl),
      View.read_writes_cons_put arg13.view _ _ _ _ (show k0_off49 k = ![64, base k] from rfl), View.read_writes_cons_put arg13.view _ _ _ _ (show k0_off44 k = ![0, base k] from rfl), View.writes_nil]
    refine done_strip _ _ _ (base k) _ (by rw [base_eq]; exact hd) _ _ _ _ ?_ ?_ ?_ ?_
    all_goals
      intro z
      delta k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay46
      beta_reduce
      refine (congrFun (same64 _) z).trans ?_
      iterate 31 refine more _ _ _ ?_ (tapRow arg4.view f4 _ (base k) _ rfl _ z) ?_
      exact biasRow arg5.view f5 (base k) _ rfl _ z
      all_goals first
        | with_reducible refine plainRow arg12.view f12 _ _ (base k) _ ?_ _ z
          rfl
        | with_reducible refine (copyRow arg15.view arg12.view f12 i h1 k _ ?_ _ _ ?_ _ z).trans (cell_congr _ ?_ rfl)
          · rfl
          · decide
          · omega
  iexists _; iexact H15

end Cert.ConfOutIdeal.Run

end
-- ==== Proof.ConfOutRun.lean ====
/-
  The body of the conformer block's output kernel, run once at any grid point over any values: the loop over
  the column strips of the depthwise convolution by an invariant, and what the body leaves in the output block.
-/
module

public import proofs.«01_k».proof.Proof.ConfOutStrip

@[expose] public section

set_option maxRecDepth 16384

noncomputable section

namespace Cert.ConfOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Cert.ConfOutIdeal Cert.ConfOutIdeal.Gen

variable {F : FTy → Type} [FloatOps F]

local notation "𝕄" => MT nD τ sig Unit (Elt F) ℕ (UR sig nD τ) ℕ

/-! ## The loop -/

set_option warn.classDefReducibility false in
/-- The loop's invariant: the strips done so far hold their convolution. -/
@[sl_loop] def loopInv (c : Dev nD) (i : grid0.Coords) (arg2 : Memref sig .tc .vmem S256x2048 .f32) (harg2 : arg2.IsWhole) (arg3 : Memref sig .tc .vmem S32x2048 .f32) (harg3 : arg3.IsWhole) (arg4 : Memref sig .tc .vmem S31x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S288x2048 .f32) (harg12 : arg12.IsWhole) (arg13 : Memref sig .tc .vmem S256x2048 .f32) (harg13 : arg13.IsWhole) (arg14 : Memref sig .tc .vmem S256x2048 .bf16) (harg14 : arg14.IsWhole) (arg15 : Memref sig .tc .vmem S7x280x256 .f32) (harg15 : arg15.IsWhole) (arg0 : BitVec 32) (h1 : k0_cond1 i = 1#1)
    (f4 : BufTy.Contents (Elt F) arg4.view.ty) (f5 : BufTy.Contents (Elt F) arg5.view.ty) (f12 : BufTy.Contents (Elt F) arg12.view.ty) (E : Set ℕ) :
    Idealize.ShloMosaic.LoopInv (M := 𝕄) Idealize.ShloMosaic.frame (wpE (defs₀ (F := F)) Variants.none (c : Thread nD τ) none) E k0_t1_loop.lb k0_t1_loop.ub k0_t1_loop.st (k0_t1_ok i h1) ()
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 h1) where
  inv k _ := iprop((arg4.view.loc (c : Thread nD τ) ↦[arg4.view.set]{fullShare} f4) ∗ (arg5.view.loc (c : Thread nD τ) ↦[arg5.view.set]{fullShare} f5) ∗ (arg12.view.loc (c : Thread nD τ) ↦[arg12.view.set]{fullShare} f12)
    ∗ (∃ f, (arg13.view.loc (c : Thread nD τ) ↦[arg13.view.set]{fullShare} f) ∗ ⌜k = 0 ∨ Done (arg4.view.read (Elt F) f4) (arg5.view.read (Elt F) f5) (arg12.view.read (Elt F) f12) (256 * k) (arg13.view.read (Elt F) f)⌝)
    ∗ (∃ g, arg15.view.loc (c : Thread nD τ) ↦[arg15.view.set]{fullShare} g))
  step k acc := by
    iintro ⟨H4, H5, H12, ⟨%f, H13, %hd⟩, ⟨%g, H15⟩⟩
    iapply (wp_wand_r Idealize.ShloMosaic.frame (wpE (defs₀ (F := F)) Variants.none (c : Thread nD τ) none) E)
    isplitl [H4 H5 H12 H13 H15]
    · iapply (trip c i arg2 harg2 arg3 harg3 arg4 harg4 arg5 harg5 arg6 harg6 arg7 harg7 arg8 harg8 arg9 harg9 arg10 harg10 arg11 harg11 arg12 harg12 arg13 harg13 arg14 harg14 arg15 harg15 arg0 h1 f4 f5 f12 k f g E (hd.elim (fun e y hy => absurd hy (by rw [e]; exact Nat.not_lt_zero _)) id))
      isplitl [H4]; · iexact H4
      isplitl [H5]; · iexact H5
      isplitl [H12]; · iexact H12
      isplitl [H13]; · iexact H13
      iexact H15
    iintro %_ ⟨H4, H5, H12, ⟨%f', %hd', H13⟩, H15⟩
    isplitl [H4]; · iexact H4
    isplitl [H5]; · iexact H5
    isplitl [H12]; · iexact H12
    isplitl [H13]
    · iexists f'; isplitl [H13]; · iexact H13
      ipureintro; exact Or.inr hd'
    iexact H15

/-! ## The body -/

/-- The rows that a grid point convolves: 32 of the block before, or zeros at the first, then its own. -/
def rows (i : grid0.Coords) (prev : Vec F S32x2048 .f32) (u : Vec F S256x2048 .f32) : Vec F S288x2048 .f32 := fun y =>
  if h : (y 0).val < 32 then k0_pay44 (BitVec.ofNat 32 (i 0).val) prev (ix2 ⟨(y 0).val, h⟩ (y 1))
  else k0_pay45 u (ix2 ⟨(y 0).val - 32, by have := (y 0).isLt; have : (y 0).val < 288 := this; omega⟩ (y 1))

theorem rows_stored (i : grid0.Coords) (x : Vec F S288x2048 .f32) (p : Vec F S32x2048 .f32) (u : Vec F S256x2048 .f32) :
    put (put x ![0, 0] S32x2048.size (k0_pay44 (BitVec.ofNat 32 (i 0).val) p)) ![32, 0] S256x2048.size (k0_pay45 u) = rows i p u := by
  funext y
  have h0 : (y 0).val < 288 := (y 0).isLt
  have h1 : (y 1).val < 2048 := (y 1).isLt
  unfold rows
  by_cases h : (y 0).val < 32
  · rw [dif_pos h]
    refine (dif_neg (fun hb => ?_)).trans ((dif_pos (fun a => ?_)).trans (congrArg _ (funext fun a => ?_)))
    · have : 32 ≤ (y 0).val := (hb 0).1
      omega
    · match a with
      | ⟨0, _⟩ => exact ⟨Nat.zero_le _, h⟩
      | ⟨1, _⟩ => exact ⟨Nat.zero_le _, h1⟩
    · match a with
      | ⟨0, _⟩ => rfl
      | ⟨1, _⟩ => rfl
  · rw [dif_neg h]
    refine (dif_pos (fun a => ?_)).trans (congrArg _ (funext fun a => ?_))
    · match a with
      | ⟨0, _⟩ => exact ⟨Nat.le_of_not_lt h, by show (y 0).val < 32 + 256; omega⟩
      | ⟨1, _⟩ => exact ⟨Nat.zero_le _, h1⟩
    · match a with
      | ⟨0, _⟩ => rfl
      | ⟨1, _⟩ => rfl

/-- The depthwise convolution of a block of rows. -/
def conv (dw : Vec F S31x2048 .f32) (db : Vec F S1x2048 .f32) (u : Vec F S288x2048 .f32) : Vec F S256x2048 .f32 := fun y => acc dw db u (y 0).val (y 1).val 31

theorem conv_of_done (dw : Vec F S31x2048 .f32) (db : Vec F S1x2048 .f32) (u : Vec F S288x2048 .f32) (x : Vec F S256x2048 .f32) (n : ℕ) (hn : n = 2048) (h : Done dw db u n x) : x = conv dw db u :=
  funext fun y => h y (hn ▸ (y 1).isLt)

/-- What a grid point leaves in its output block. -/
def out (i : grid0.Coords) (x2 : Vec F S256x2048 .f32) (x3 : Vec F S32x2048 .f32) (x4 : Vec F S31x2048 .f32) (x5 : Vec F S1x2048 .f32) (x6 : Vec F S1x2048 .f32) (x7 : Vec F S1x2048 .f32) (x8 : Vec F S2048x2048 .bf16) (x9 : Vec F S1x2048 .f32) (x10 : Vec F S256x2048 .f32) : Vec F S256x2048 .f32 :=
  k0_pay2 x10 (k0_pay1 (k0_pay47 (conv x4 x5 (rows i x3 x2)) x6) x7) x8 x9

theorem trips_eq : Scf.trips k0_t1_loop.lb k0_t1_loop.ub k0_t1_loop.st = 8 := by decide

set_option maxHeartbeats 1000000 in
/-- The body's run. -/
theorem run (c : Dev nD) (i : grid0.Coords) (arg2 : Memref sig .tc .vmem S256x2048 .f32) (harg2 : arg2.IsWhole) (arg3 : Memref sig .tc .vmem S32x2048 .f32) (harg3 : arg3.IsWhole) (arg4 : Memref sig .tc .vmem S31x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S288x2048 .f32) (harg12 : arg12.IsWhole) (arg13 : Memref sig .tc .vmem S256x2048 .f32) (harg13 : arg13.IsWhole) (arg14 : Memref sig .tc .vmem S256x2048 .bf16) (harg14 : arg14.IsWhole) (arg15 : Memref sig .tc .vmem S7x280x256 .f32) (harg15 : arg15.IsWhole) (h1 : k0_cond1 i = 1#1)
    (x2 : Vec F S256x2048 .f32) (x3 : Vec F S32x2048 .f32) (x4 : Vec F S31x2048 .f32) (x5 : Vec F S1x2048 .f32) (x6 : Vec F S1x2048 .f32) (x7 : Vec F S1x2048 .f32) (x8 : Vec F S2048x2048 .bf16) (x9 : Vec F S1x2048 .f32) (x10 : Vec F S256x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out i x2 x3 x4 x5 x6 x7 x8 x9 x10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_conformer_out i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_conformer_out_eq_skeleton]; unfold cc0_conformer_out_skel
  simp only [k0_part25_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
  sl_exec (disch := sl_exact h1)
  sl_step
  have hc : View.read (Elt F) arg13.view fL0 = conv x4 x5 (rows i x3 x2) := by
    refine (conv_of_done _ _ _ _ _ (by rw [trips_eq]) (hL4.resolve_left (by rw [trips_eq]; decide))).trans ?_
    refine congr (congrArg₂ conv hf4 hf5) ?_
    sl_unfold_run_names
    rw [View.read_writes_cons_put arg12.view _ _ _ _ rfl, View.read_writes_cons_put arg12.view _ _ _ _ rfl, View.writes_nil]
    simp -proj only [View.readAt_full, hf2, hf3]
    exact rows_stored i _ x3 x2
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; swap; · iexact H11
    ipureintro
    sl_unfold_run_names
    refine (View.read_writes_full arg11.view _ _ _ _).trans ?_
    refine congr (congr (congr (congrArg k0_pay2 ((View.readAt_full arg10.view _ _).trans hf10)) ((View.readCov_full arg14.view _ _ _ _).trans ?_)) ((View.readAt_full arg8.view _ _).trans hf8)) ((View.readAt_full arg9.view _ _).trans hf9)
    refine congr (congrArg k0_pay1 (congr (congrArg k0_pay47 ((View.readAt_full arg13.view _ _).trans hc)) ((View.readAt_full arg6.view _ _).trans hf6))) ((View.readAt_full arg7.view _ _).trans hf7)
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  iexists _; iexists _; isplitr; swap; · iexact H15
  ipureintro; rfl

end Cert.ConfOutIdeal.Run

end
-- ==== Proof.ConfOutFrame.lean ====
/-
  The conformer block's output kernel from launch to end: what every grid point leaves in its output block, and the
  run of the whole program. The scratch buffers carry nothing from one point to the next.
-/
module

public import proofs.«01_k».proof.Proof.ConfOutRun

@[expose] public section

set_option maxRecDepth 16384

noncomputable section

namespace Cert.ConfOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.ConfOutIdeal Cert.ConfOutIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem pt_lt (t : Fin cfg0.N) : t.val < 32 := lt_of_lt_of_eq t.isLt (show cfg0.N = 32 from N_0)
theorem pt_row (t : Fin cfg0.N) : (grid0.coords t 0).val = t.val := by
  have h : (grid0.coords t 0).val = t.val / 1 % 32 := Pipeline.Grid.coords_val t 0 (by decide) rfl
  have := pt_lt t
  omega

theorem cond1_one (i : grid0.Coords) : k0_cond1 i = 1#1 := by
  have h : (i 1).val = 0 := Nat.lt_one_iff.mp (i 1).isLt
  simp only [k0_cond1, h]
  decide

/-- The output block at `t`. -/
def block (c : Dev nD) (t : Fin cfg0.N) : Vec F S256x2048 .f32 := out (grid0.coords t) (iblk m c 0 t) (iblk m c 1 t) (iblk m c 2 t) (iblk m c 3 t) (iblk m c 4 t) (iblk m c 5 t) (iblk m c 6 t) (iblk m c 7 t) (iblk m c 8 t)

/-! ## The pipeline's proof data -/

abbrev scr0 : Memref sig .tc .vmem S288x2048 .f32 := Memref.whole cc0_scratch0
abbrev scr1 : Memref sig .tc .vmem S256x2048 .f32 := Memref.whole cc0_scratch1
abbrev scr2 : Memref sig .tc .vmem S256x2048 .bf16 := Memref.whole cc0_scratch2
abbrev scr3 : Memref sig .tc .vmem S7x280x256 .f32 := Memref.whole cc0_scratch3

/-- Between grid points the scratch buffers are owned at any contents. -/
def Inv (c : Dev nD) : sProp 𝕄 :=
  iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r))

theorem PhiA_eq (c : Dev nD) : (Pipeline.ΦA spec0 c : sProp 𝕄) = Inv c := by
  unfold Pipeline.ΦA Inv; rw [scopedRest0_eq]; simp only [scr0, scr1, scr2, scr3, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => block m c t
  Φ _ := Inv c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = block m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

set_option maxHeartbeats 1600000 in
/-- The body at any point keeps the invariant and leaves the output block. -/
theorem body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl,
    after0, after1, after2, after3, after4, after5, after6, after7, after8, after9]
  rw [show (dats m 0 c).Φ t.succ = Inv c from rfl, show (dats m 0 c).Φ t.castSucc = Inv c from rfl]
  unfold Inv
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run c (grid0.coords t) _ _ _ _ _ _ _ _ _ _ _ _ _ _ _ _ _ _ _ _ _ _ _ _ _ _ _ _ (cond1_one _) (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body m c t) rfl .rfl fun _ => .rfl

theorem hin (c : Dev nD) : Pipeline.ΦA spec0 c ⊢ (dats m 0 c).Φ 0 := by
  rw [show (dats m 0 c).Φ 0 = Inv c from rfl, PhiA_eq]

theorem hout (c : Dev nD) : (dats m 0 c).Φ (Fin.last cfg0.N) ⊢ Pipeline.ΦA spec0 c := by
  rw [show (dats m 0 c).Φ (Fin.last cfg0.N) = Inv c from rfl, PhiA_eq]

/-! ## The run -/

set_option backward.isDefEq.respectTransparency.types false in
/-- Every execution ends, with the arrays as the proof data says and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiescent m ρ)

/-- The arguments end as they were, the counters at zero. -/
theorem unchanged_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_post m ρ)) ((θ_run defs _ _).mono (fun _ h => h.2) (run_quiescent m ρ))

end Cert.ConfOutIdeal.Run

end
-- ==== Proof.ConfOutValue.lean ====
/-
  The conformer block's output half (depthwise causal convolution of 31 taps, layer norm, silu, projection, residual): the
  blocks the grid points write back hold the values the reference computes on the whole arrays.
-/
module

public import proofs.«01_k».proof.Proof.ConfOutFrame
public import proofs.«01_k».proof.Proof.Gen.ConfOutRefIdeal.Run
public import proofs.«01_k».proof.Proof.Common
public import Idealize.ShloMosaic.Lib.Tactic.CleanTypes

@[expose] public section

set_option maxRecDepth 16384

noncomputable section

namespace Cert.ConfOutIdeal.RefValue

open Cert.ConfOutIdeal Cert.ConfOutIdeal.Gen Cert.ConfOutIdeal.Run Idealize.ShloMosaic Idealize.ShloMosaic.TcCoe Idealize.ShloMosaic.Tactic
open Idealize.SL.Sem Idealize.ShloMosaic.StableHlo
open Idealize.ShloMosaic.Pipeline (Dat)
open Cert.Common

/-! ## The function -/

/-- Row `r` of the activations after 30 rows of zeros are put before them. -/
def padded (u : S8192x2048.Idx → EReal) (r : ℕ) (j : Fin 2048) : EReal :=
  if 30 ≤ r then u (ix2 (Fin.ofNat 8192 (r - 30)) j) else 0

/-- The first `n` taps of the convolution at row `r`. -/
def taps (u : S8192x2048.Idx → EReal) (w : S31x2048.Idx → EReal) (r : ℕ) (j : Fin 2048) : ℕ → EReal
  | 0 => 0
  | n + 1 => taps u w r j n + w (ix2 (Fin.ofNat 31 n) j) * padded u (n + r) j

/-- The bias with the first `n` taps. -/
def biased (u : S8192x2048.Idx → EReal) (w : S31x2048.Idx → EReal) (b : S2048.Idx → EReal) (r : ℕ) (j : Fin 2048) (n : ℕ) : EReal :=
  b (ix1 j) + taps u w r j n

/-- The convolution with its bias. -/
def conv (u : S8192x2048.Idx → EReal) (w : S31x2048.Idx → EReal) (b : S2048.Idx → EReal) : S8192x2048.Idx → EReal := fun i =>
  taps u w (i 0).val (i 1) 31 + b (ix1 (i 1))

/-- The rows less their means. -/
def centred {n : ℕ} (z : (⟨2, ![n, 2048]⟩ : Shape).Idx → EReal) : (⟨2, ![n, 2048]⟩ : Shape).Idx → EReal := fun i =>
  z i - Ideal.div (∑ k : Fin 2048, z (ix2 (i 0) k)) (Ideal.ofBits .f32 0x45000000#32)

/-- The layer norm, from centred rows. -/
def norm {n : ℕ} (z : (⟨2, ![n, 2048]⟩ : Shape).Idx → EReal) (g b : Fin 2048 → EReal) : (⟨2, ![n, 2048]⟩ : Shape).Idx → EReal := fun i =>
  z i * Ideal.rsqrt (Ideal.div (∑ k : Fin 2048, z (ix2 (i 0) k) * z (ix2 (i 0) k)) (Ideal.ofBits .f32 0x45000000#32) + Ideal.ofBits .f32 0x358637BD#32)
    * g (i 1) + b (i 1)

/-- The projection of the activated rows. -/
def mix {n : ℕ} (y : (⟨2, ![n, 2048]⟩ : Shape).Idx → EReal) (w : S2048x2048.Idx → EReal) (i : (⟨2, ![n, 2048]⟩ : Shape).Idx) : EReal :=
  ∑ k : Fin 2048, y (ix2 (i 0) k) * Ideal.logistic (y (ix2 (i 0) k)) * w (ix2 k (i 1))

/-- The result. -/
def res (u : S8192x2048.Idx → EReal) (dw : S31x2048.Idx → EReal) (db g b : S2048.Idx → EReal) (w : S2048x2048.Idx → EReal) (pb : S2048.Idx → EReal) (x : S8192x2048.Idx → EReal) :
    S8192x2048.Idx → EReal := fun i =>
  x i + (mix (norm (centred (conv u dw db)) (fun k => g (ix1 k)) (fun k => b (ix1 k))) w i + pb (ix1 (i 1)))

/-! ## The blocks -/

variable (m : (ℓ : Loc nD τ sig) → Buf (Elt Ideal) ℓ) (ρ : Dev nD → PrngReg)

/-- Where the blocks of a point lie: row block `t`, and the 32 rows before it; all else whole. -/
theorem idx (t : Fin cfg0.N) : (win0_0.index t 0 = t.val ∧ win0_0.index t 1 = 0) ∧ (win0_1.index t 0 = 8 * t.val - 1 ∧ win0_1.index t 1 = 0)
    ∧ (win0_2.index t 0 = 0 ∧ win0_2.index t 1 = 0) ∧ win0_3.index t 1 = 0 ∧ win0_4.index t 1 = 0 ∧ win0_5.index t 1 = 0
    ∧ (win0_6.index t 0 = 0 ∧ win0_6.index t 1 = 0) ∧ win0_7.index t 1 = 0 ∧ (win0_8.index t 0 = t.val ∧ win0_8.index t 1 = 0) ∧ (win0_9.index t 0 = t.val ∧ win0_9.index t 1 = 0) :=
  (by decide +kernel : ∀ t : Fin grid0.N, (win0_0.index t 0 = t.val ∧ win0_0.index t 1 = 0) ∧ (win0_1.index t 0 = 8 * t.val - 1 ∧ win0_1.index t 1 = 0)
    ∧ (win0_2.index t 0 = 0 ∧ win0_2.index t 1 = 0) ∧ win0_3.index t 1 = 0 ∧ win0_4.index t 1 = 0 ∧ win0_5.index t 1 = 0
    ∧ (win0_6.index t 0 = 0 ∧ win0_6.index t 1 = 0) ∧ win0_7.index t 1 = 0 ∧ (win0_8.index t 0 = t.val ∧ win0_8.index t 1 = 0) ∧ (win0_9.index t 0 = t.val ∧ win0_9.index t 1 = 0)) t

/-- Row `r` of a point's row block. -/
def rowAt (t : Fin cfg0.N) (r : Fin 256) : Fin 8192 := ⟨256 * t.val + r.val, by have := pt_lt t; omega⟩

/-- The activations' block. -/
theorem iblk0 (c : Dev nD) (t : Fin cfg0.N) (y : S256x2048.Idx) : iblk m c 0 t y = m ((c : Thread nD τ).loc main_arg0) (ix2 (rowAt t (y 0)) (y 1)) := by
  show V m c main_arg0 _ = _
  rw [V_main_arg0]
  obtain ⟨⟨h, h'⟩, -⟩ := idx t
  refine congrArg _ (funext fun a => Fin.ext ?_)
  match a with
  | ⟨0, _⟩ => show win0_0.index t 0 * 256 + 1 * (y 0).val = 256 * t.val + (y 0).val; rw [h]; omega
  | ⟨1, _⟩ => show win0_0.index t 1 * 2048 + 1 * (y 1).val = (y 1).val; rw [h']; omega

/-- The 32 rows before it, away from the first point. -/
theorem iblk1 (c : Dev nD) (t : Fin cfg0.N) (ht : t.val ≠ 0) (y : S32x2048.Idx) :
    iblk m c 1 t y = m ((c : Thread nD τ).loc main_arg0) (ix2 (Fin.ofNat 8192 (256 * t.val + (y 0).val - 32)) (y 1)) := by
  show V m c main_arg0 _ = _
  rw [V_main_arg0]
  have hl := pt_lt t
  have hy : (y 0).val < 32 := (y 0).isLt
  obtain ⟨-, ⟨h, h'⟩, -⟩ := idx t
  refine congrArg _ (funext fun a => Fin.ext ?_)
  match a with
  | ⟨0, _⟩ => show win0_1.index t 0 * 32 + 1 * (y 0).val = (256 * t.val + (y 0).val - 32) % 8192; rw [h]; omega
  | ⟨1, _⟩ => show win0_1.index t 1 * 2048 + 1 * (y 1).val = (y 1).val; rw [h']; omega

/-- The taps. -/
theorem iblk2 (c : Dev nD) (t : Fin cfg0.N) (y : S31x2048.Idx) : iblk m c 2 t y = m ((c : Thread nD τ).loc main_arg1) y := by
  show V m c main_arg1 _ = _
  rw [V_main_arg1]
  obtain ⟨-, -, ⟨h, h'⟩, -⟩ := idx t
  refine congrArg _ (funext fun a => Fin.ext ?_)
  match a with
  | ⟨0, _⟩ => show win0_2.index t 0 * 31 + 1 * (y 0).val = (y 0).val; rw [h]; omega
  | ⟨1, _⟩ => show win0_2.index t 1 * 2048 + 1 * (y 1).val = (y 1).val; rw [h']; omega

/-- A vector as a row. -/
theorem asRow (x : S2048.Idx → EReal) (y : S1x2048.Idx) : shapeCast (α := EReal) (s := S2048) S1x2048 x shapeCasts_S2048_S1x2048 y = x (ix1 (y 1)) := by
  pointwise

/-- The rows of the vector arguments. -/
theorem V_v0 (c : Dev nD) : V m c main_v0 = shapeCast (α := EReal) (s := S2048) S1x2048 (m ((c : Thread nD τ).loc main_arg2)) shapeCasts_S2048_S1x2048 := by
  show StableHlo.after hostOps0 (fun b => m (c, b)) main_v0 = _
  unfold hostOps0; after_results; rfl
theorem V_v1 (c : Dev nD) : V m c main_v1 = shapeCast (α := EReal) (s := S2048) S1x2048 (m ((c : Thread nD τ).loc main_arg3)) shapeCasts_S2048_S1x2048 := by
  show StableHlo.after hostOps0 (fun b => m (c, b)) main_v1 = _
  unfold hostOps0; after_results; rfl
theorem V_v2 (c : Dev nD) : V m c main_v2 = shapeCast (α := EReal) (s := S2048) S1x2048 (m ((c : Thread nD τ).loc main_arg4)) shapeCasts_S2048_S1x2048 := by
  show StableHlo.after hostOps0 (fun b => m (c, b)) main_v2 = _
  unfold hostOps0; after_results; rfl
theorem V_v4 (c : Dev nD) : V m c main_v4 = shapeCast (α := EReal) (s := S2048) S1x2048 (m ((c : Thread nD τ).loc main_arg6)) shapeCasts_S2048_S1x2048 := by
  show StableHlo.after hostOps0 (fun b => m (c, b)) main_v4 = _
  unfold hostOps0; after_results; rfl

/-- The weights: their cast is the identity. -/
theorem V_v3 (c : Dev nD) : V m c main_v3 = m ((c : Thread nD τ).loc main_arg5) := by
  have : V m c main_v3 = truncf (F := Ideal) (s := S2048x2048) (φ := .f32) .bf16 (m ((c : Thread nD τ).loc main_arg5)) bitsLt_bf16_f32 := by
    show StableHlo.after hostOps0 (fun b => m (c, b)) main_v3 = _
    unfold hostOps0; after_results
  rw [this]; rfl

/-- The convolution's bias. -/
theorem iblk3 (c : Dev nD) (t : Fin cfg0.N) (y : S1x2048.Idx) : iblk m c 3 t y = m ((c : Thread nD τ).loc main_arg2) (ix1 (y 1)) := by
  refine ((congrFun (V_v0 m c) (((cfg0.win 3).blk t).view.emb y)).trans (asRow _ _)).trans ?_
  obtain ⟨-, -, -, h, -⟩ := idx t
  refine congrArg _ (congrArg _ (Fin.ext ?_))
  show win0_3.index t 1 * 2048 + 1 * (y 1).val = (y 1).val; rw [h]; omega

/-- The layer norm's scale. -/
theorem iblk4 (c : Dev nD) (t : Fin cfg0.N) (y : S1x2048.Idx) : iblk m c 4 t y = m ((c : Thread nD τ).loc main_arg3) (ix1 (y 1)) := by
  refine ((congrFun (V_v1 m c) (((cfg0.win 4).blk t).view.emb y)).trans (asRow _ _)).trans ?_
  obtain ⟨-, -, -, -, h, -⟩ := idx t
  refine congrArg _ (congrArg _ (Fin.ext ?_))
  show win0_4.index t 1 * 2048 + 1 * (y 1).val = (y 1).val; rw [h]; omega

/-- The layer norm's shift. -/
theorem iblk5 (c : Dev nD) (t : Fin cfg0.N) (y : S1x2048.Idx) : iblk m c 5 t y = m ((c : Thread nD τ).loc main_arg4) (ix1 (y 1)) := by
  refine ((congrFun (V_v2 m c) (((cfg0.win 5).blk t).view.emb y)).trans (asRow _ _)).trans ?_
  obtain ⟨-, -, -, -, -, h, -⟩ := idx t
  refine congrArg _ (congrArg _ (Fin.ext ?_))
  show win0_5.index t 1 * 2048 + 1 * (y 1).val = (y 1).val; rw [h]; omega

/-- The weights. -/
theorem iblk6 (c : Dev nD) (t : Fin cfg0.N) (y : S2048x2048.Idx) : iblk m c 6 t y = m ((c : Thread nD τ).loc main_arg5) y := by
  show V m c main_v3 _ = _
  rw [V_v3]
  obtain ⟨-, -, -, -, -, -, ⟨h, h'⟩, -⟩ := idx t
  refine congrArg _ (funext fun a => Fin.ext ?_)
  match a with
  | ⟨0, _⟩ => show win0_6.index t 0 * 2048 + 1 * (y 0).val = (y 0).val; rw [h]; omega
  | ⟨1, _⟩ => show win0_6.index t 1 * 2048 + 1 * (y 1).val = (y 1).val; rw [h']; omega

/-- The projection's bias. -/
theorem iblk7 (c : Dev nD) (t : Fin cfg0.N) (y : S1x2048.Idx) : iblk m c 7 t y = m ((c : Thread nD τ).loc main_arg6) (ix1 (y 1)) := by
  refine ((congrFun (V_v4 m c) (((cfg0.win 7).blk t).view.emb y)).trans (asRow _ _)).trans ?_
  obtain ⟨-, -, -, -, -, -, -, h, -⟩ := idx t
  refine congrArg _ (congrArg _ (Fin.ext ?_))
  show win0_7.index t 1 * 2048 + 1 * (y 1).val = (y 1).val; rw [h]; omega

/-- The residual's block. -/
theorem iblk8 (c : Dev nD) (t : Fin cfg0.N) (y : S256x2048.Idx) : iblk m c 8 t y = m ((c : Thread nD τ).loc main_arg7) (ix2 (rowAt t (y 0)) (y 1)) := by
  show V m c main_arg7 _ = _
  rw [V_main_arg7]
  obtain ⟨-, -, -, -, -, -, -, -, ⟨h, h'⟩, -⟩ := idx t
  refine congrArg _ (funext fun a => Fin.ext ?_)
  match a with
  | ⟨0, _⟩ => show win0_8.index t 0 * 256 + 1 * (y 0).val = 256 * t.val + (y 0).val; rw [h]; omega
  | ⟨1, _⟩ => show win0_8.index t 1 * 2048 + 1 * (y 1).val = (y 1).val; rw [h']; omega

/-! ## The values -/

/-- A row of zeros at the first point, the row before elsewhere. -/
theorem first_rows (t : Fin cfg0.N) (p : Vec Ideal S32x2048 .f32) (y : S32x2048.Idx) :
    k0_pay44 (BitVec.ofNat 32 (grid0.coords t 0).val) p y = if t.val = 0 then (0 : EReal) else p y := by
  have ht := pt_lt t
  rw [pt_row]
  by_cases h : t.val = 0
  · rw [if_pos h, h]
    pointwise [k0_pay44]
  · rw [if_neg h]
    have hc : Scalar.cmpi .eq (BitVec.ofNat 32 t.val) 0#32 = 0#1 := by
      word_cmp
    unfold k0_pay44
    rw [hc]
    pointwise

/-- The rows that a point convolves are rows of the padded activations. -/
theorem rows_eq (c : Dev nD) (t : Fin cfg0.N) (q : ℕ) (h2 : 2 ≤ q) (hq : q < 288) (j : ℕ) (hj : j < 2048) :
    cell (rows (grid0.coords t) (iblk m c 1 t) (iblk m c 0 t)) q j = padded (m ((c : Thread nD τ).loc main_arg0)) (256 * t.val + q - 2) ⟨j, hj⟩ := by
  have ht := pt_lt t
  have eq : q % 288 = q := Nat.mod_eq_of_lt hq
  have ej : j % 2048 = j := Nat.mod_eq_of_lt hj
  unfold cell rows padded
  by_cases h : q < 32
  · refine (dif_pos (show q % 288 < 32 by omega)).trans ((first_rows t _ _).trans ?_)
    by_cases h0 : t.val = 0
    · rw [if_pos h0, if_neg (by omega)]
    · rw [if_neg h0, if_pos (by omega), iblk1 m c t h0]
      refine congrArg _ (congrArg₂ ix2 (Fin.ext ?_) (Fin.ext ej))
      show (256 * t.val + q % 288 - 32) % 8192 = (256 * t.val + q - 2 - 30) % 8192
      omega
  · refine (dif_neg (show ¬ q % 288 < 32 by omega)).trans ?_
    rw [if_pos (by omega)]
    have e : ∀ y : S256x2048.Idx, k0_pay45 (iblk m c 0 t) y = iblk m c 0 t y := fun y => by pointwise [k0_pay45]
    rw [e, iblk0]
    refine congrArg _ (congrArg₂ ix2 (Fin.ext ?_) (Fin.ext ej))
    show 256 * t.val + (q % 288 - 32) = (256 * t.val + q - 2 - 30) % 8192
    omega

/-- The first `n` taps of a point's convolution. -/
theorem acc_eq (c : Dev nD) (t : Fin cfg0.N) (r : Fin 256) (j : Fin 2048) (n : ℕ) (hn : n ≤ 31) :
    acc (iblk m c 2 t) (iblk m c 3 t) (rows (grid0.coords t) (iblk m c 1 t) (iblk m c 0 t)) r.val j.val n
      = biased (m ((c : Thread nD τ).loc main_arg0)) (m ((c : Thread nD τ).loc main_arg1)) (m ((c : Thread nD τ).loc main_arg2)) (rowAt t r).val j n := by
  have ej : Fin.ofNat 2048 j.val = j := Fin.ext (Nat.mod_eq_of_lt j.isLt)
  induction n with
  | zero =>
    refine Eq.trans ?_ (add_zero (M := EReal) _).symm
    refine (iblk3 m c t _).trans (congrArg _ (congrArg ix1 ej))
  | succ n ih =>
    refine Eq.trans (congrArg₂ (fun a b : EReal => a + b) (ih (by omega)) (congrArg₂ (fun a b : EReal => a * b) ?_ ?_)) (add_assoc (G := EReal) _ _ _)
    · refine (iblk2 m c t _).trans (congrArg _ (congrArg₂ ix2 rfl ej))
    · refine (rows_eq m c t _ (by omega) (by omega) _ j.isLt).trans (congrArg (fun a => padded _ a j) ?_)
      show 256 * t.val + (r.val + 2 + n) - 2 = n + (256 * t.val + r.val)
      omega

/-- The convolution at a point. -/
theorem conv_eq (c : Dev nD) (t : Fin cfg0.N) (y : S256x2048.Idx) :
    Run.conv (iblk m c 2 t) (iblk m c 3 t) (rows (grid0.coords t) (iblk m c 1 t) (iblk m c 0 t)) y
      = conv (m ((c : Thread nD τ).loc main_arg0)) (m ((c : Thread nD τ).loc main_arg1)) (m ((c : Thread nD τ).loc main_arg2)) (ix2 (rowAt t (y 0)) (y 1)) :=
  (acc_eq m c t (y 0) (y 1) 31 (le_refl _)).trans (add_comm (G := EReal) _ _)

/-- The layer norm's arithmetic at an index. -/
theorem norm_at (z : Vec Ideal S256x2048 .f32) (g b : Vec Ideal S1x2048 .f32) (y : S256x2048.Idx) :
    k0_pay1 (k0_pay47 z g) b y = (norm (centred z) (fun k => g (ix2 0 k)) (fun k => b (ix2 0 k)) y * Ideal.logistic (norm (centred z) (fun k => g (ix2 0 k)) (fun k => b (ix2 0 k)) y) : EReal) := by
  unfold norm centred
  pointwise [k0_pay1, k0_pay47]

/-- The output block's arithmetic at an index. -/
theorem out_at (x : Vec Ideal S256x2048 .f32) (h : Vec Ideal S256x2048 .bf16) (w : Vec Ideal S2048x2048 .bf16) (b : Vec Ideal S1x2048 .f32) (y : S256x2048.Idx) :
    k0_pay2 x h w b y = (x y + ((∑ k : Fin 2048, (h (ix2 (y 0) k) : EReal) * w (ix2 k (y 1))) + b (ix2 0 (y 1))) : EReal) := by
  refine Eq.trans ?_ (add_assoc (G := EReal) _ _ _)
  pointwise [k0_pay2]

/-- A point's centred rows, from its rows. -/
theorem centred_at (t : Fin cfg0.N) (z : S256x2048.Idx → EReal) (Z : S8192x2048.Idx → EReal) (hz : ∀ y, z y = Z (ix2 (rowAt t (y 0)) (y 1))) (y : S256x2048.Idx) :
    centred z y = centred Z (ix2 (rowAt t (y 0)) (y 1)) := by
  unfold centred
  simp only [hz]
  rfl

/-- A point's normed rows, from its centred rows. -/
theorem normed_at (t : Fin cfg0.N) (z : S256x2048.Idx → EReal) (Z : S8192x2048.Idx → EReal) (hz : ∀ y, z y = Z (ix2 (rowAt t (y 0)) (y 1))) (g b g' b' : Fin 2048 → EReal)
    (hg : ∀ k, g k = g' k) (hb : ∀ k, b k = b' k) (y : S256x2048.Idx) : norm z g b y = norm Z g' b' (ix2 (rowAt t (y 0)) (y 1)) := by
  obtain rfl : g = g' := funext hg
  obtain rfl : b = b' := funext hb
  unfold norm
  simp only [hz]
  rfl

/-- What a point leaves. -/
theorem block_eq (c : Dev nD) (t : Fin cfg0.N) (y : S256x2048.Idx) :
    block m c t y = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (rowAt t (y 0)) (y 1)) := by
  unfold block out
  refine (out_at ..).trans (congrArg₂ (fun a b : EReal => a + b) (iblk8 m c t y) (congrArg₂ (fun a b : EReal => a + b) ?_ (iblk7 m c t _)))
  refine Finset.sum_congr rfl fun k _ => congrArg₂ (fun a b : EReal => a * b) ((norm_at ..).trans ?_) (iblk6 m c t _)
  refine congrArg (fun a : EReal => a * Ideal.logistic a) ?_
  exact normed_at t _ _ (centred_at t _ _ (conv_eq m c t)) _ _ _ _ (fun k => iblk4 m c t _) (fun k => iblk5 m c t _) (ix2 (y 0) k)

/-- What a point writes back. -/
theorem flushed_eq (c : Dev nD) (t : Fin cfg0.N) : (dats m 0 c).flushed 9 t
    = ((cfg0.win 9).blk t).view.read (Elt Ideal) ((res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S8192x2048.Idx → EReal) : Buf (Elt Ideal) ((c : Thread nD τ).loc main_v5)) := by
  show (cfg0.win 9).cut (grid0.coords t) ((dats m 0 c).after 9 t) = _
  rw [after9]
  funext y
  refine (block_eq m c t y).trans (congrArg (res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)
  obtain ⟨-, -, -, -, -, -, -, -, -, h, h'⟩ := idx t
  refine funext fun a => Fin.ext ?_
  match a with
  | ⟨0, _⟩ => show 256 * t.val + (y 0).val = win0_9.index t 0 * 256 + 1 * (y 0).val; rw [h]; omega
  | ⟨1, _⟩ => show (y 1).val = win0_9.index t 1 * 2048 + 1 * (y 1).val; rw [h']; omega

/-- The indices of a point's block. -/
theorem mem_block (t : Fin cfg0.N) (i : S8192x2048.Idx) (h0 : (i 0 : Nat) / 256 = t.val) :
    i ∈ ((cfg0.win 9).blk t).view.set := by
  show i ∈ ((View.whole main_v5).slice (win0_9.rect t)).set
  rw [View.set_slice_whole, Rect.mem_set_unit]
  obtain ⟨-, -, -, -, -, -, -, -, -, h, h'⟩ := idx t
  have h1 : (i 1 : Nat) < 2048 := (i 1).isLt
  intro a
  match a with
  | ⟨0, _⟩ =>
    show win0_9.index t 0 * 256 ≤ (i 0 : Nat) ∧ (i 0 : Nat) < win0_9.index t 0 * 256 + 256
    rw [h]; omega
  | ⟨1, _⟩ =>
    show win0_9.index t 1 * 2048 ≤ (i 1 : Nat) ∧ (i 1 : Nat) < win0_9.index t 1 * 2048 + 2048
    rw [h']; omega

/-- The result array after the run. -/
theorem final (c : Dev nD) : (dats m 0 c).arrAt 9 cfg0.N = ((res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S8192x2048.Idx → EReal) : Buf (Elt Ideal) ((c : Thread nD τ).loc main_v5)) :=
  (dats m 0 c).arrAt_eq_of_cover 9 _ (fun t _ => flushed_eq m c t) fun i => by
    have h0 : (i 0 : Nat) < 8192 := (i 0).isLt
    exact ⟨⟨(i 0).val / 256, lt_of_lt_of_eq (by omega : (i 0).val / 256 < 32) N_0.symm⟩, flush0_9 _, mem_block _ i rfl⟩

/-- The run, read: the result, the arguments unchanged. -/
theorem run : θ_run defs (onTc (τ := τ) (main (F := Ideal))) ⟨m, fun _ => 0, ρ⟩ fun r => ∀ c : Dev nD,
      r.2.mem ((c : Thread nD τ).loc main_v5) = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h.1 c).1 9).trans (final m c), h.2 c⟩)
    (θ_run_and (run_post m ρ) (frame_of m ρ (dats m) (A_eq m) (run_post m ρ)))

end Cert.ConfOutIdeal.RefValue

end
-- ==== Proof.ConfOutRef.lean ====
/-
  The conformer block's output half: the reference's stages, read as the same functions of the arguments.
-/
module

public import proofs.«01_k».proof.Proof.ConfOutValue

@[expose] public section

set_option maxRecDepth 16384

noncomputable section

namespace Cert.ConfOutRefIdeal.RefValue

open Cert.ConfOutRefIdeal Cert.ConfOutRefIdeal.Gen Idealize.ShloMosaic Idealize.ShloMosaic.TcCoe Idealize.ShloMosaic.StableHlo Idealize.SL.Sem
open Cert.Common Cert.ConfOutIdeal.RefValue

/-- The padding is zero. -/
theorem sitofp_zero : (FloatOps.sitofp (F := Ideal) .f32 0#32 : EReal) = 0 := by
  show (((0#32).toInt : ℝ) : EReal) = 0
  simp

/-- A tap's row, spread over the rows. -/
theorem tap (w : S31x2048.Idx → EReal) (k : ℕ) (hk : k < 31) (h : S31x2048.Slices ![k, 0] S1x2048) (i : S8192x2048.Idx) :
    broadcastInDim (α := EReal) S8192x2048 ![0, 1] bcast_S1x2048_S8192x2048_0_1 (broadcastInDim (α := EReal) S1x2048 ![1] bcast_S2048_S1x2048_1
      (shapeCast (α := EReal) S2048 (extractStridedSlice (α := EReal) S1x2048 ![k, 0] w h) shapeCasts_S1x2048_S2048)) i = w (ix2 (Fin.ofNat 31 k) (i 1)) := by
  pointwise
  refine congrArg w (congrArg₂ ix2 (Fin.ext ?_) (Fin.ext ?_))
  · show _ = k % 31; simp; omega
  · simp

variable (V0 : Valuation τ sig (Elt Ideal))

/-- The padded activations, at a shifted row. -/
theorem shifted (k : ℕ) (hk : k < 31) (h : S8222x2048.Slices ![k, 0] S8192x2048) (i : S8192x2048.Idx) :
    extractStridedSlice (α := EReal) S8192x2048 ![k, 0] (Value.res_main_v0 V0) h i = padded (V0 (Proc.devRef .tc main_arg0)) (k + (i 0).val) (i 1) := by
  unfold Value.res_main_v0
  clean_types
  pointwise
  have h0 : (i 0).val < 8192 := (i 0).isLt
  unfold padded
  by_cases h2 : 30 ≤ k + (i 0).val
  · rw [dif_pos ⟨h2, by omega⟩, if_pos h2]
    refine congrArg _ (congrArg₂ ix2 (Fin.ext ?_) rfl)
    show k + (i 0).val - 30 = (k + (i 0).val - 30) % 8192
    omega
  · rw [dif_neg (fun h => h2 h.1), if_neg h2]
    exact sitofp_zero

/-- One more tap. -/
theorem more (u : S8192x2048.Idx → EReal) (w : S31x2048.Idx → EReal) {a d t : FVec Ideal S8192x2048 .f32} {i : S8192x2048.Idx} {n : ℕ} (ha : a i = taps u w (i 0).val (i 1) n)
    (hd : d i = w (ix2 (Fin.ofNat 31 n) (i 1))) (ht : t i = padded u (n + (i 0).val) (i 1)) : addf a (mulf d t) i = taps u w (i 0).val (i 1) (n + 1) :=
  congrArg₂ (fun a b : EReal => a + b) ha (congrArg₂ (fun a b : EReal => a * b) hd ht)

/-- The first eleven taps. -/
theorem v78 (i : S8192x2048.Idx) : Value.res_main_v78 V0 i = taps (V0 (Proc.devRef .tc main_arg0)) (V0 (Proc.devRef .tc main_arg1)) (i 0).val (i 1) 11 := by
  unfold Value.res_main_v78
  iterate 11 refine more _ _ ?_ (tap _ _ (by decide) _ i) (shifted V0 _ (by decide) _ i)
  clean_types
  pointwise
  rfl

/-- The next eleven. -/
theorem v155 (i : S8192x2048.Idx) : Value.res_main_v155 V0 i = taps (V0 (Proc.devRef .tc main_arg0)) (V0 (Proc.devRef .tc main_arg1)) (i 0).val (i 1) 22 := by
  unfold Value.res_main_v155
  iterate 11 refine more _ _ ?_ (tap _ _ (by decide) _ i) (shifted V0 _ (by decide) _ i)
  exact v78 V0 i

/-- The rest, and the bias: the convolution. -/
theorem v221 : Value.res_main_v221 V0 = conv (V0 (Proc.devRef .tc main_arg0)) (V0 (Proc.devRef .tc main_arg1)) (V0 (Proc.devRef .tc main_arg2)) := by
  funext i
  unfold Value.res_main_v221
  refine congrArg₂ (fun a b : EReal => a + b) ?_ ?_
  · iterate 9 refine more _ _ ?_ (tap _ _ (by decide) _ i) (shifted V0 _ (by decide) _ i)
    exact v155 V0 i
  · clean_types
    pointwise

/-- The centred rows. -/
theorem v227 : Value.res_main_v227 V0 = centred (conv (V0 (Proc.devRef .tc main_arg0)) (V0 (Proc.devRef .tc main_arg1)) (V0 (Proc.devRef .tc main_arg2))) := by
  funext i
  unfold Value.res_main_v227
  rw [v221]
  clean_types
  unfold centred
  pointwise

/-- The normed rows. -/
theorem v243 : Value.res_main_v243 V0 = norm (centred (conv (V0 (Proc.devRef .tc main_arg0)) (V0 (Proc.devRef .tc main_arg1)) (V0 (Proc.devRef .tc main_arg2)))) (fun k => (V0 (Proc.devRef .tc main_arg3)) (ix1 k)) (fun k => (V0 (Proc.devRef .tc main_arg4)) (ix1 k)) := by
  funext i
  unfold Value.res_main_v243
  rw [v227]
  clean_types
  unfold Cert.ConfOutIdeal.RefValue.norm
  pointwise

/-- The reference's run, read: its result is the same function of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v249) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (by
      rw [v243]
      funext i
      clean_types
      unfold res mix
      pointwise
      rfl), (h c).2⟩) (Value.run m ρ)

end Cert.ConfOutRefIdeal.RefValue

end
-- ==== Proof.ConfOutClaims.lean ====
/-
  The claims about the conformer block's output call: the kernel runs to its end at both kinds of floats, and it and its
  reference end at one function of the arguments.
-/
module

public import proofs.«01_k».proof.Proof.ConfOutRef
public import proofs.«01_k».proof.Proof.Gen.ConfOut.Skeleton
public import proofs.«01_k».proof.Defs

@[expose] public section

noncomputable section

namespace Cert.ConfOutClaims

open Idealize.ShloMosaic Idealize.SL.Sem

/-- The idealized call and its reference agree. -/
theorem agree : Cert.algebraic_ConfOutIdeal_ConfOutRefIdeal := fun m ρ m' ρ' _ hagree =>
  ⟨_, Cert.ConfOutIdeal.RefValue.run m ρ,
    (θ_run _ _ _).mono (fun _ h c => ⟨(h c).1.trans (by
      rw [(hagree c).1, (hagree c).2.1, (hagree c).2.2.1, (hagree c).2.2.2.1, (hagree c).2.2.2.2.1, (hagree c).2.2.2.2.2.1, (hagree c).2.2.2.2.2.2.1, (hagree c).2.2.2.2.2.2.2]), (h c).2⟩) (Cert.ConfOutRefIdeal.RefValue.run m' ρ')⟩

/-- The reference runs to its end and keeps its arguments. -/
theorem frame : Cert.quiescent_ConfOutRefIdeal := fun m ρ _ =>
  (θ_run Cert.ConfOutRefIdeal.defs _ _).mono (fun r h => ⟨fun c => (h c).2, sem_eq_zero_of_no_sems (by decide) r.2⟩) (Cert.ConfOutRefIdeal.RefValue.run m ρ)

/-- The idealized call runs to its end and keeps its arguments. -/
theorem frame_ideal : Cert.quiescent_ConfOutIdeal := fun m ρ _ => Cert.ConfOutIdeal.Run.unchanged_quiescent (F := Ideal) m ρ

/-- The two programs' bodies have one text, label by label. -/
theorem bodies : Cert.ConfOut.defs₀ (F := Bits) = Cert.ConfOutIdeal.defs₀ (F := Bits) := by
  unfold Cert.ConfOut.defs₀ Cert.ConfOutIdeal.defs₀
  refine congrArg Defs.onTc ?_
  funext l a
  match l, a with
  | 0, (t, s) => exact rfl

/-- The call on machine floats does too. -/
theorem frame_kernel : Cert.quiescent_ConfOut := fun m ρ _ =>
  (congrArg (fun d => θ_run (Pipeline.defs (Cert.ConfOutIdeal.pcfgs (F := Bits)) d) (onTc (τ := Cert.ConfOutIdeal.τ) (Cert.ConfOutIdeal.main (F := Bits)))
    ⟨m, fun _ => 0, ρ⟩ _) bodies).mpr (Cert.ConfOutIdeal.Run.unchanged_quiescent (F := Bits) m ρ)

end Cert.ConfOutClaims

end
-- ==== Proof.DensePay.lean ====
/-
  The body of PEER's dense feed-forward read at an index: the gated activations its two halves store, and the block product it
  adds to the accumulator.
-/
module

public import proofs.«01_k».proof.Proof.Gen.DenseIdeal.Skeleton
public import Idealize.ShloMosaic.Lib.Pointwise

@[expose] public section

set_option maxRecDepth 16384

noncomputable section

namespace Cert.DenseIdeal.RefValue

open Cert.DenseIdeal Cert.DenseIdeal.Gen Idealize.ShloMosaic Idealize.ShloMosaic.TcCoe Idealize.ShloMosaic.Tactic

/-- The exact GELU, as the kernel writes it. -/
def gelu (x : EReal) : EReal :=
  Ideal.ofBits .f32 0x3F000000#32 * x * (1 + Ideal.erf (x * Ideal.ofBits .f32 0x3F3504F3#32))

/-- One head's part of a gate, from the slabs and the rows the body loads. -/
def slabGate (a : Vec Ideal S1x128x512 .f32) (b : Vec Ideal S1x1x512 .f32) (w : Vec Ideal S1x128x512 .f32) (e : Vec Ideal S1x1x512 .f32)
    (j : Fin 128) (n : Fin 512) : EReal :=
  if (a (ix3 0 j n) : EReal) < b (ix3 0 0 n) then (w (ix3 0 j n) : EReal) * e (ix3 0 0 n) else 0

set_option maxHeartbeats 2000000 in
/-- The lower half's store. -/
theorem lower (v7 : FVec Ideal S256x512 .f32)
    (a0 w0 a1 w1 a2 w2 a3 w3 a4 w4 a5 w5 a6 w6 a7 w7 : Vec Ideal S1x128x512 .f32)
    (b0 e0 b1 e1 b2 e2 b3 e3 b4 e4 b5 e5 b6 e6 b7 e7 : Vec Ideal S1x1x512 .f32) (j : Fin 128) (n : Fin 512) :
    k0_pay16 (F := Ideal) v7 (k0_pay12 (k0_pay9 (k0_pay7 (k0_pay4 a0 b0 w0 e0) (k0_pay5 a1) (k0_pay6 b1) w1 e1 a2 b2 w2 e2) (k0_pay8 a3 b3) w3 e3 a4 b4 w4 e4) (k0_pay10 a5 b5) (k0_pay11 w5) e5 a6 b6 w6 e6)
      (k0_pay13 a7 b7) (k0_pay14 w7) (k0_pay15 e7) (ix2 j n)
      = (slabGate a0 b0 w0 e0 j n + slabGate a1 b1 w1 e1 j n + slabGate a2 b2 w2 e2 j n + slabGate a3 b3 w3 e3 j n + slabGate a4 b4 w4 e4 j n + slabGate a5 b5 w5 e5 j n + slabGate a6 b6 w6 e6 j n + slabGate a7 b7 w7 e7 j n) * gelu (v7 (ix2 ⟨j.val, by omega⟩ n)) := by
  unfold gelu slabGate
  pointwise [k0_pay16, k0_pay15, k0_pay14, k0_pay13, k0_pay12, k0_pay11, k0_pay10, k0_pay9, k0_pay8, k0_pay7, k0_pay6, k0_pay5, k0_pay4]
  rfl

set_option maxHeartbeats 2000000 in
/-- The upper half's store. -/
theorem upper (v7 : FVec Ideal S256x512 .f32)
    (a0 w0 a1 w1 a2 w2 a3 w3 a4 w4 a5 w5 a6 w6 a7 w7 : Vec Ideal S1x128x512 .f32)
    (b0 e0 b1 e1 b2 e2 b3 e3 b4 e4 b5 e5 b6 e6 b7 e7 : Vec Ideal S1x1x512 .f32) (j : Fin 128) (n : Fin 512) :
    k0_pay24 (F := Ideal) v7 (k0_pay22 (k0_pay20 (k0_pay18 (k0_pay17 a0 b0 w0 e0) a1 b1 w1 e1 a2 b2 w2 e2) (k0_pay19 a3) b3 w3 e3 a4 b4 w4 e4) (k0_pay21 a5 b5) w5 e5 a6 b6 w6 e6)
      (k0_pay23 a7 b7) w7 e7 (ix2 j n)
      = (slabGate a0 b0 w0 e0 j n + slabGate a1 b1 w1 e1 j n + slabGate a2 b2 w2 e2 j n + slabGate a3 b3 w3 e3 j n + slabGate a4 b4 w4 e4 j n + slabGate a5 b5 w5 e5 j n + slabGate a6 b6 w6 e6 j n + slabGate a7 b7 w7 e7 j n) * gelu (v7 (ix2 ⟨128 + j.val, by omega⟩ n)) := by
  unfold gelu slabGate
  pointwise [k0_pay24, k0_pay23, k0_pay22, k0_pay21, k0_pay20, k0_pay19, k0_pay18, k0_pay17]
  rfl

/-- The activations of a point before the gate. -/
theorem pay3 (v3 : Vec Ideal S256x2048 .bf16) (v5 : Vec Ideal S2048x512 .bf16) (r : Fin 256) (n : Fin 512) :
    k0_pay3 (F := Ideal) v3 v5 (ix2 r n) = ∑ d : Fin 2048, (v3 (ix2 r d) : EReal) * v5 (ix2 d n) := by
  pointwise [k0_pay3]

/-- The accumulator after a point. -/
theorem pay25 (v310 : Vec Ideal S2048x512 .f32) (v311 : Vec Ideal S2048x256 .bf16) (v313 : Vec Ideal S256x512 .bf16) (d : Fin 2048) (n : Fin 512) :
    k0_pay25 (F := Ideal) v310 v311 v313 (ix2 d n) = (v310 (ix2 d n) : EReal) + ∑ r : Fin 256, (v311 (ix2 d r) : EReal) * v313 (ix2 r n) := by
  pointwise [k0_pay25]

end Cert.DenseIdeal.RefValue
-- ==== Proof.DenseStep.lean ====
/-
  PEER's dense feed-forward, one point at a time: the scratch of gated activations a point builds in two halves holds, for the
  point's 256 experts and 512 tokens, the value the specification gives them, so that the accumulator gains one block product.
-/
module

public import proofs.«01_k».proof.Proof.Gen.DenseIdeal.Value
public import proofs.«01_k».proof.Proof.Common
public import proofs.«01_k».proof.Proof.DensePay
public import Idealize.ShloMosaic.Lib.Pipeline.ValueKit.Tiles

@[expose] public section

set_option maxRecDepth 16384

noncomputable section

namespace Cert.DenseIdeal.RefValue

open Cert.DenseIdeal Cert.DenseIdeal.Gen Idealize.ShloMosaic Idealize.ShloMosaic.TcCoe Idealize.ShloMosaic.Tactic
open Idealize.SL.Sem Idealize.ShloMosaic.StableHlo
open Idealize.ShloMosaic.Pipeline (Dat)
open Cert.Common

/-- A load from one slab of a stack of eight, `n` rows from row `b`. -/
theorem ld3 (X : S8x128x512.Idx → EReal) (a b n : ℕ)
    (inb : ∀ i, (![a, b, 0] : Fin 3 → ℕ) i + (![1, n, 512] : Fin 3 → ℕ) i ≤ S8x128x512.size i)
    (z : (⟨3, ![1, n, 512]⟩ : Shape).Idx) :
    View.ld (Val := Elt Ideal) (e' := .f32) X (Rect.unit (s := S8x128x512) ![a, b, 0] ![1, n, 512] inb) z
      = X (ix3 ⟨a, by have := inb 0; show a < 8; change a + 1 ≤ 8 at this; omega⟩
          ⟨b + (z 1).val, by have := inb 1; have h : (z 1).val < n := (z 1).isLt; show _ < 128; change b + n ≤ 128 at this; omega⟩ (z 2)) := by
  refine View.ld_unit_apply_of (Val := Elt Ideal) (e := .f32) (S := S8x128x512) X ![a, b, 0] ![1, n, 512] inb z _ fun i => ?_
  match i with
  | ⟨0, _⟩ => have h : (z 0).val < 1 := (z 0).isLt; show a = a + (z 0).val; omega
  | ⟨1, _⟩ => rfl
  | ⟨2, _⟩ => show (z 2).val = 0 + (z 2).val; omega

/-- The whole of a 256-row scratch stored in two halves. -/
theorem two (p : S256x512.Idx → EReal)
    (inb1 : ∀ i, (![128, 0] : Fin 2 → ℕ) i + (![128, 512] : Fin 2 → ℕ) i ≤ S256x512.size i)
    (inb0 : ∀ i, (![0, 0] : Fin 2 → ℕ) i + (![128, 512] : Fin 2 → ℕ) i ≤ S256x512.size i)
    (w1 w0 : S128x512.Idx → EReal)
    (h1 : ∀ (j : Fin 128) (n : Fin 512), w1 (ix2 j n) = p (ix2 ⟨128 + j.val, by omega⟩ n))
    (h0 : ∀ (j : Fin 128) (n : Fin 512), w0 (ix2 j n) = p (ix2 ⟨j.val, by omega⟩ n)) :
    View.canon (Val := Elt Ideal) [(⟨Rect.unit (s := S256x512) ![128, 0] ![128, 512] inb1, w1⟩ : View.Piece (Elt Ideal) S256x512 .bf16),
        (⟨Rect.unit (s := S256x512) ![0, 0] ![128, 512] inb0, w0⟩ : View.Piece (Elt Ideal) S256x512 .bf16)] = p := by
  funext y
  have hy1 : (y 1).val < 512 := (y 1).isLt
  have hy0 : (y 0).val < 256 := (y 0).isLt
  refine View.canon_eq_of_allAt _ y _ ?_ ?_
  · by_cases h : (y 0).val < 128
    · refine ⟨_, List.mem_cons_of_mem _ (List.mem_singleton_self _), ?_⟩
      rw [Rect.mem_set_unit]
      intro a
      match a with
      | ⟨0, _⟩ => exact ⟨Nat.zero_le _, by show (y 0).val < 0 + 128; omega⟩
      | ⟨1, _⟩ => exact ⟨Nat.zero_le _, by show (y 1).val < 0 + 512; omega⟩
    · refine ⟨_, List.mem_cons_self, ?_⟩
      rw [Rect.mem_set_unit]
      intro a
      match a with
      | ⟨0, _⟩ => exact ⟨by show 128 ≤ (y 0).val; omega, by show (y 0).val < 128 + 128; omega⟩
      | ⟨1, _⟩ => exact ⟨Nat.zero_le _, by show (y 1).val < 0 + 512; omega⟩
  · intro q hq x hx
    rcases List.mem_cons.mp hq with rfl | hq
    · have e0 : (y 0).val = 128 + 1 * (x 0).val := congrArg (fun z => (z 0).val) hx.symm
      have e1 : (y 1).val = 0 + 1 * (x 1).val := congrArg (fun z => (z 1).val) hx.symm
      have hx' : x = ix2 (x 0) (x 1) := funext fun a => by match a with | ⟨0, _⟩ => rfl | ⟨1, _⟩ => rfl
      rw [hx']
      refine (h1 (x 0) (x 1)).trans (congrArg p (funext fun a => Fin.ext ?_))
      match a with
      | ⟨0, _⟩ => show 128 + (x 0).val = (y 0).val; omega
      | ⟨1, _⟩ => show (x 1).val = (y 1).val; omega
    · obtain rfl := List.mem_singleton.mp hq
      have e0 : (y 0).val = 0 + 1 * (x 0).val := congrArg (fun z => (z 0).val) hx.symm
      have e1 : (y 1).val = 0 + 1 * (x 1).val := congrArg (fun z => (z 1).val) hx.symm
      have hx' : x = ix2 (x 0) (x 1) := funext fun a => by match a with | ⟨0, _⟩ => rfl | ⟨1, _⟩ => rfl
      rw [hx']
      refine (h0 (x 0) (x 1)).trans (congrArg p (funext fun a => Fin.ext ?_))
      match a with
      | ⟨0, _⟩ => show (x 0).val = (y 0).val; omega
      | ⟨1, _⟩ => show (x 1).val = (y 1).val; omega

/-- The row of a slab that a point reads for its half `r`: row `2·(t % 64) + r`. -/
theorem offset (t : Fin cfg0.N) :
    BitVec.toNat (Scalar.indexCast (Scalar.addi (Scalar.muli (BitVec.ofNat 32 (grid0.coords t 1).val) 2#32) 0#32)) = 2 * (t.val % 64)
    ∧ BitVec.toNat (Scalar.indexCast (Scalar.addi (Scalar.muli (BitVec.ofNat 32 (grid0.coords t 1).val) 2#32) 1#32)) = 2 * (t.val % 64) + 1 :=
  (by decide +kernel : ∀ t : Fin grid0.N,
    BitVec.toNat (Scalar.indexCast (Scalar.addi (Scalar.muli (BitVec.ofNat 32 (grid0.coords t 1).val) 2#32) 0#32)) = 2 * (t.val % 64)
    ∧ BitVec.toNat (Scalar.indexCast (Scalar.addi (Scalar.muli (BitVec.ofNat 32 (grid0.coords t 1).val) 2#32) 1#32)) = 2 * (t.val % 64) + 1) t

/-- Slab `h` of a stack of eight. -/
def slab {F : FTy → Type} [FloatOps F] (X : Vec F S8x128x512 .f32) (h : Fin 8) : Vec F S1x128x512 .f32 :=
  View.ld (Val := Elt F) (e' := .f32) X (Rect.unit (s := S8x128x512) ![h.val, 0, 0] ![1, 128, 512] fun i => by
    match i with
    | ⟨0, _⟩ => have := h.isLt; show h.val + 1 ≤ 8; omega
    | ⟨1, _⟩ => exact Nat.le_refl _
    | ⟨2, _⟩ => exact Nat.le_refl _)

/-- Row `o` of that slab. -/
def row {F : FTy → Type} [FloatOps F] (X : Vec F S8x128x512 .f32) (h : Fin 8) (o : Fin 128) : Vec F S1x1x512 .f32 :=
  View.ld (Val := Elt F) (e' := .f32) X (Rect.unit (s := S8x128x512) ![h.val, o.val, 0] ![1, 1, 512] fun i => by
    match i with
    | ⟨0, _⟩ => have := h.isLt; show h.val + 1 ≤ 8; omega
    | ⟨1, _⟩ => have := o.isLt; show o.val + 1 ≤ 128; omega
    | ⟨2, _⟩ => exact Nat.le_refl _)

/-- The even row a point reads, as the body writes it. -/
def even (t : Fin cfg0.N) : Fin 128 :=
  ⟨BitVec.toNat (Scalar.indexCast (Scalar.addi (Scalar.muli (BitVec.ofNat 32 (grid0.coords t 1).val) 2#32) 0#32)), by
    rw [(offset t).1]; omega⟩

/-- The odd row. -/
def odd (t : Fin cfg0.N) : Fin 128 :=
  ⟨BitVec.toNat (Scalar.indexCast (Scalar.addi (Scalar.muli (BitVec.ofNat 32 (grid0.coords t 1).val) 2#32) 1#32)), by
    rw [(offset t).2]; omega⟩

/-- What a point stores of the lower half, from its activations and the four stacks. -/
def lowHalf {F : FTy → Type} [FloatOps F] (v : FVec F S256x512 .f32) (R W C E : Vec F S8x128x512 .f32) (o : Fin 128) : Vec F S128x512 .bf16 :=
  k0_pay16 v (k0_pay12 (k0_pay9 (k0_pay7 (k0_pay4 (slab R 0) (row C 0 o) (slab W 0) (row E 0 o)) (k0_pay5 (slab R 1)) (k0_pay6 (row C 1 o)) (slab W 1) (row E 1 o) (slab R 2) (row C 2 o) (slab W 2) (row E 2 o)) (k0_pay8 (slab R 3) (row C 3 o)) (slab W 3) (row E 3 o) (slab R 4) (row C 4 o) (slab W 4) (row E 4 o)) (k0_pay10 (slab R 5) (row C 5 o)) (k0_pay11 (slab W 5)) (row E 5 o) (slab R 6) (row C 6 o) (slab W 6) (row E 6 o))
    (k0_pay13 (slab R 7) (row C 7 o)) (k0_pay14 (slab W 7)) (k0_pay15 (row E 7 o))

/-- What it stores of the upper half. -/
def upHalf {F : FTy → Type} [FloatOps F] (v : FVec F S256x512 .f32) (R W C E : Vec F S8x128x512 .f32) (o : Fin 128) : Vec F S128x512 .bf16 :=
  k0_pay24 v (k0_pay22 (k0_pay20 (k0_pay18 (k0_pay17 (slab R 0) (row C 0 o) (slab W 0) (row E 0 o)) (slab R 1) (row C 1 o) (slab W 1) (row E 1 o) (slab R 2) (row C 2 o) (slab W 2) (row E 2 o)) (k0_pay19 (slab R 3)) (row C 3 o) (slab W 3) (row E 3 o) (slab R 4) (row C 4 o) (slab W 4) (row E 4 o)) (k0_pay21 (slab R 5) (row C 5 o)) (slab W 5) (row E 5 o) (slab R 6) (row C 6 o) (slab W 6) (row E 6 o))
    (k0_pay23 (slab R 7) (row C 7 o)) (slab W 7) (row E 7 o)

/-- A slab read at an index. -/
theorem slab_apply (X : S8x128x512.Idx → EReal) (h : Fin 8) (j : Fin 128) (n : Fin 512) : slab (F := Ideal) X h (ix3 (0 : Fin 1) j n) = X (ix3 h j n) := by
  have e1 : (⟨0 + j.val, by omega⟩ : Fin 128) = j := Fin.ext (Nat.zero_add _)
  exact (ld3 X h.val 0 128 _ _).trans (congrArg (fun z => X (ix3 h z n)) e1)

/-- A row read at an index. -/
theorem row_apply (X : S8x128x512.Idx → EReal) (h : Fin 8) (o : Fin 128) (n : Fin 512) : row (F := Ideal) X h o (ix3 (0 : Fin 1) (0 : Fin 1) n) = X (ix3 h o n) :=
  ld3 X h.val o.val 1 _ _

/-- Head `h`'s part of the gate of expert `(k, j)` for one token: its weight if the expert's row is among those picked. -/
def headGate {n : ℕ} (R W C E : (⟨3, ![8, 128, n]⟩ : Shape).Idx → EReal) (k j : Fin 128) (t : Fin n) (h : Fin 8) : EReal :=
  if R (ix3 h j t) < C (ix3 h k t) then W (ix3 h j t) * E (ix3 h k t) else 0

/-- The gated activation of one expert for one token of a block: `r` its row in the block of 256, `k` its first index. -/
def part (x0 : S2048x512.Idx → EReal) (x1 : S256x2048.Idx → EReal) (R W C E : S8x128x512.Idx → EReal) (k j : Fin 128) (r : Fin 256) (n : Fin 512) : EReal :=
  (∑ h : Fin 8, headGate R W C E k j n h) * gelu (∑ d : Fin 2048, x1 (ix2 r d) * x0 (ix2 d n))

/-- One head's part of a gate, from what the body loads of the four stacks. -/
theorem slabGate_apply (R W C E : S8x128x512.Idx → EReal) (h : Fin 8) (o : Fin 128) (j : Fin 128) (n : Fin 512) :
    slabGate (slab (F := Ideal) R h) (row (F := Ideal) C h o) (slab (F := Ideal) W h) (row (F := Ideal) E h o) j n = headGate R W C E o j n h := by
  unfold slabGate headGate
  erw [slab_apply, slab_apply, row_apply, row_apply]

/-- The lower half's store is the gated activation. -/
theorem lowHalf_apply (x0 : S2048x512.Idx → EReal) (x1 : S256x2048.Idx → EReal) (R W C E : S8x128x512.Idx → EReal) (o : Fin 128) (j : Fin 128) (n : Fin 512) :
    lowHalf (F := Ideal) (k0_pay3 (F := Ideal) x1 x0) R W C E o (ix2 j n) = part x0 x1 R W C E o j ⟨j.val, by omega⟩ n := by
  unfold lowHalf
  refine (lower ..).trans ?_
  simp only [slabGate_apply]
  unfold part
  rw [pay3, Fin.sum_univ_eight]

/-- And the upper half's. -/
theorem upHalf_apply (x0 : S2048x512.Idx → EReal) (x1 : S256x2048.Idx → EReal) (R W C E : S8x128x512.Idx → EReal) (o : Fin 128) (j : Fin 128) (n : Fin 512) :
    upHalf (F := Ideal) (k0_pay3 (F := Ideal) x1 x0) R W C E o (ix2 j n) = part x0 x1 R W C E o j ⟨128 + j.val, by omega⟩ n := by
  unfold upHalf
  refine (upper ..).trans ?_
  simp only [slabGate_apply]
  unfold part
  rw [pay3, Fin.sum_univ_eight]

/-- A store of the whole of a matrix, last. -/
theorem canonCons2 {F : FTy → Type} [FloatOps F] {a b : ℕ} {e : EltTy} (w : Vec F ⟨2, ![a, b]⟩ e)
    (inb : ∀ i, (![0, 0] : Fin 2 → ℕ) i + (![a, b] : Fin 2 → ℕ) i ≤ (⟨2, ![a, b]⟩ : Shape).size i) (L : List (View.Piece (Elt F) ⟨2, ![a, b]⟩ e)) :
    View.canon ((⟨Rect.unit (s := ⟨2, ![a, b]⟩) ![0, 0] ![a, b] inb, w⟩ : View.Piece (Elt F) ⟨2, ![a, b]⟩ e) :: L) = w :=
  View.canon_cons_unit_zero (S := ⟨2, ![a, b]⟩) hz inb w L

section Generic

variable {F : FTy → Type} [FloatOps F] (m : (ℓ : Loc nD τ sig) → Buf (Elt F) ℓ)

/-- The scratch of gated activations as the point's two stores leave it. -/
def scratch (c : Dev nD) (t : Fin cfg0.N) : Vec F S256x512 .bf16 :=
  View.canon (Val := Elt F) [(⟨Rect.unit (s := S256x512) ![128, 0] ![128, 512] inb_S256x512_S128x512_128_0, upHalf (k0_pay3 (iblk m c 1 t) (iblk m c 0 t)) (iblk m c 3 t) (iblk m c 4 t) (iblk m c 5 t) (iblk m c 6 t) (odd t)⟩ : View.Piece (Elt F) S256x512 .bf16),
    (⟨Rect.unit (s := S256x512) ![0, 0] ![128, 512] inb_S256x512_S128x512_0_0, lowHalf (k0_pay3 (iblk m c 1 t) (iblk m c 0 t)) (iblk m c 3 t) (iblk m c 4 t) (iblk m c 5 t) (iblk m c 6 t) (even t)⟩ : View.Piece (Elt F) S256x512 .bf16)]

set_option maxHeartbeats 4000000 in
/-- The first point of a run of 64 starts the accumulator from zero. -/
theorem outs_A (c : Dev nD) (t : Fin cfg0.N) (h0 : t.val % 64 = 0) (h1 : ¬t.val % 64 = 63) :
    (outsAt0 m c t.val t.isLt).2 = k0_pay25 k0_pay2 (iblk m c 2 t) (scratch m c t) := by
  rw [outsAt0_A m c t h0 h1]
  dsimp only
  unfold sout0_A_0
  rw [View.read_writes_eq_canon _ _ _ (scover0_A_0 c _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
  simp only [canonCons2, ld2, readCov2, Fin.eta]
  rw [View.readCov_eq_canon']
  refine congrArg (k0_pay25 k0_pay2 (iblk m c 2 t)) ((ld2 (e := .bf16) _ _).trans ?_)
  rfl

set_option maxHeartbeats 4000000 in
/-- A middle point adds its block product to the accumulator. -/
theorem outs_B (c : Dev nD) (t : Fin cfg0.N) (h0 : ¬t.val % 64 = 0) (h1 : ¬t.val % 64 = 63) :
    (outsAt0 m c t.val t.isLt).2 = k0_pay25 (outsAt0 m c (t.val - 1) (Nat.lt_of_le_of_lt (Nat.sub_le _ _) t.isLt)).2 (iblk m c 2 t) (scratch m c t) := by
  rw [outsAt0_B m c t h0 h1]
  dsimp only
  generalize (outsAt0 m c (t.val - 1) _).2 = acc
  unfold sout0_B_0
  rw [View.read_writes_eq_canon _ _ _ (scover0_B_0 c _ _ _ _ _ _ _ _ _ _ _ _ _ _ _ _ _ _ _ _ _ _ _ _ _ _ _ _ _ _ _ _ _ _)]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
  simp only [canon2, ld2, readCov2, Fin.eta]
  rw [View.readCov_eq_canon']
  refine congrArg (k0_pay25 acc (iblk m c 2 t)) ((ld2 (e := .bf16) _ _).trans ?_)
  rfl

set_option maxHeartbeats 4000000 in
/-- So does the last. -/
theorem outs_C (c : Dev nD) (t : Fin cfg0.N) (h0 : ¬t.val % 64 = 0) (h1 : t.val % 64 = 63) :
    (outsAt0 m c t.val t.isLt).2 = k0_pay25 (outsAt0 m c (t.val - 1) (Nat.lt_of_le_of_lt (Nat.sub_le _ _) t.isLt)).2 (iblk m c 2 t) (scratch m c t) := by
  rw [outsAt0_C m c t h0 h1]
  dsimp only
  generalize (outsAt0 m c (t.val - 1) _).2 = acc
  unfold sout0_C_0
  rw [View.read_writes_eq_canon _ _ _ (scover0_C_0 c _ _ _ _ _ _ _ _ _ _ _ _ _ _ _ _ _ _ _ _ _ _ _ _ _ _ _ _ _ _ _ _ _ _)]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
  simp only [canon2, ld2, readCov2, Fin.eta]
  rw [View.readCov_eq_canon']
  refine congrArg (k0_pay25 acc (iblk m c 2 t)) ((ld2 (e := .bf16) _ _).trans ?_)
  rfl

set_option maxHeartbeats 4000000 in
/-- The last point of a run writes the input's block plus the transpose of the accumulator it leaves. -/
theorem out_C (c : Dev nD) (t : Fin cfg0.N) (h0 : ¬t.val % 64 = 0) (h1 : t.val % 64 = 63) :
    (outsAt0 m c t.val t.isLt).1 = k0_pay1 (iblk m c 7 t) (outsAt0 m c t.val t.isLt).2 := by
  rw [outs_C m c t h0 h1, outsAt0_C m c t h0 h1]
  dsimp only
  generalize (outsAt0 m c (t.val - 1) _).2 = acc
  unfold out0_C_8
  rw [View.read_writes_eq_canon _ _ _ (cover0_C_8 c _ _ _ _ _ _ _ _ _ _ _ _ _ _ _ _ _ _ _ _ _ _ _ _ _ _ _ _ _ _ _ _ _ _)]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
  simp only [canon2, ld2, readCov2, Fin.eta]
  rw [View.readCov_eq_canon']
  refine congrArg (fun z => k0_pay1 (iblk m c 7 t) (k0_pay25 acc (iblk m c 2 t) z)) ((ld2 (e := .bf16) _ _).trans ?_)
  rfl

end Generic

variable (m : (ℓ : Loc nD τ sig) → Buf (Elt Ideal) ℓ)

/-- The gated activations of a point's 256 experts and 512 tokens. -/
def gated (c : Dev nD) (t : Fin cfg0.N) : S256x512.Idx → EReal := fun y =>
  part (iblk m c 0 t) (iblk m c 1 t) (iblk m c 3 t) (iblk m c 4 t) (iblk m c 5 t) (iblk m c 6 t)
    ⟨2 * (t.val % 64) + (y 0).val / 128, by have : (y 0).val < 256 := (y 0).isLt; omega⟩ ⟨(y 0).val % 128, Nat.mod_lt _ (by norm_num)⟩ (y 0) (y 1)

/-- In the upper half the first index is the odd one. -/
theorem gated_upper (c : Dev nD) (t : Fin cfg0.N) (j : Fin 128) (n : Fin 512) : gated m c t (ix2 ⟨128 + j.val, by omega⟩ n)
    = part (iblk m c 0 t) (iblk m c 1 t) (iblk m c 3 t) (iblk m c 4 t) (iblk m c 5 t) (iblk m c 6 t)
      ⟨2 * (t.val % 64) + 1, by omega⟩ j ⟨128 + j.val, by omega⟩ n := by
  have e : (⟨2 * (t.val % 64) + (128 + j.val) / 128, by omega⟩ : Fin 128) = ⟨2 * (t.val % 64) + 1, by omega⟩ := Fin.ext (by show 2 * (t.val % 64) + (128 + j.val) / 128 = 2 * (t.val % 64) + 1; omega)
  have e' : (⟨(128 + j.val) % 128, by omega⟩ : Fin 128) = j := Fin.ext (by show (128 + j.val) % 128 = j.val; omega)
  show part _ _ _ _ _ _ (⟨2 * (t.val % 64) + (128 + j.val) / 128, _⟩ : Fin 128) (⟨(128 + j.val) % 128, _⟩ : Fin 128) ⟨128 + j.val, _⟩ n = _
  rw [e, e']

/-- In the lower half it is the even one. -/
theorem gated_lower (c : Dev nD) (t : Fin cfg0.N) (j : Fin 128) (n : Fin 512) : gated m c t (ix2 ⟨j.val, by omega⟩ n)
    = part (iblk m c 0 t) (iblk m c 1 t) (iblk m c 3 t) (iblk m c 4 t) (iblk m c 5 t) (iblk m c 6 t)
      ⟨2 * (t.val % 64), by omega⟩ j ⟨j.val, by omega⟩ n := by
  have e : (⟨2 * (t.val % 64) + j.val / 128, by omega⟩ : Fin 128) = ⟨2 * (t.val % 64), by omega⟩ := Fin.ext (by show 2 * (t.val % 64) + j.val / 128 = 2 * (t.val % 64); omega)
  have e' : (⟨j.val % 128, by omega⟩ : Fin 128) = j := Fin.ext (by show j.val % 128 = j.val; omega)
  show part _ _ _ _ _ _ (⟨2 * (t.val % 64) + j.val / 128, _⟩ : Fin 128) (⟨j.val % 128, _⟩ : Fin 128) ⟨j.val, _⟩ n = _
  rw [e, e']

/-- The scratch holds the gated activations. -/
theorem scratch_eq (c : Dev nD) (t : Fin cfg0.N) : scratch (F := Ideal) m c t = gated m c t := by
  unfold scratch
  refine two _ _ _ _ _ (fun j n => ?_) (fun j n => ?_)
  · rw [gated_upper]
    refine (upHalf_apply (iblk m c 0 t) (iblk m c 1 t) (iblk m c 3 t) (iblk m c 4 t) (iblk m c 5 t) (iblk m c 6 t) (odd t) j n).trans ?_
    rw [show odd t = ⟨2 * (t.val % 64) + 1, by omega⟩ from Fin.ext (offset t).2]
  · rw [gated_lower]
    refine (lowHalf_apply (iblk m c 0 t) (iblk m c 1 t) (iblk m c 3 t) (iblk m c 4 t) (iblk m c 5 t) (iblk m c 6 t) (even t) j n).trans ?_
    rw [show even t = ⟨2 * (t.val % 64), by omega⟩ from Fin.ext (offset t).1]

/-- The gated activation of expert `e` for token `n`. -/
def act (xn : S8192x2048.Idx → EReal) (dn : S16384x2048.Idx → EReal) (R W C E : S8x128x8192.Idx → EReal) (e : Fin 16384) (n : Fin 8192) : EReal :=
  (∑ h : Fin 8, headGate R W C E ⟨e.val / 128, by omega⟩ ⟨e.val % 128, Nat.mod_lt _ (by norm_num)⟩ n h) * gelu (∑ d : Fin 2048, dn (ix2 e d) * xn (ix2 n d))

/-- The dense feed-forward: the input plus the experts' rows weighted by their gated activations. -/
def peer (xn : S8192x2048.Idx → EReal) (dn up : S16384x2048.Idx → EReal) (R W C E : S8x128x8192.Idx → EReal) (x : S8192x2048.Idx → EReal) : S8192x2048.Idx → EReal :=
  fun i => x i + ∑ e : Fin 16384, up (ix2 e (i 1)) * act xn dn R W C E e (i 0)

end Cert.DenseIdeal.RefValue
-- ==== Proof.DenseValue.lean ====
/-
  PEER's dense feed-forward: the accumulator over a run of 64 points is the sum over the experts so far, and what the last
  point writes is the reference's rows.
-/
module

public import proofs.«01_k».proof.Proof.DenseStep

@[expose] public section

set_option maxRecDepth 16384

noncomputable section

namespace Cert.DenseIdeal.RefValue

open Cert.DenseIdeal Cert.DenseIdeal.Gen Idealize.ShloMosaic Idealize.ShloMosaic.TcCoe Idealize.ShloMosaic.Tactic
open Idealize.SL.Sem Idealize.ShloMosaic.StableHlo
open Idealize.ShloMosaic.Pipeline (Dat)
open Cert.Common

variable (m : (ℓ : Loc nD τ sig) → Buf (Elt Ideal) ℓ) (ρ : Dev nD → PrngReg)

/-- Where the block of the normalised input lies. -/
theorem idx0 (t : Fin cfg0.N) : win0_0.index t 0 = 0 ∧ win0_0.index t 1 = t.val / 64 :=
  (by decide +kernel : ∀ t : Fin grid0.N, win0_0.index t 0 = 0 ∧ win0_0.index t 1 = t.val / 64) t

/-- Where the block of the first projection lies. -/
theorem idx1 (t : Fin cfg0.N) : win0_1.index t 0 = t.val % 64 ∧ win0_1.index t 1 = 0 :=
  (by decide +kernel : ∀ t : Fin grid0.N, win0_1.index t 0 = t.val % 64 ∧ win0_1.index t 1 = 0) t

/-- Where the block of the second projection lies. -/
theorem idx2 (t : Fin cfg0.N) : win0_2.index t 0 = 0 ∧ win0_2.index t 1 = t.val % 64 :=
  (by decide +kernel : ∀ t : Fin grid0.N, win0_2.index t 0 = 0 ∧ win0_2.index t 1 = t.val % 64) t

/-- Where the block of argument 3 lies. -/
theorem idx3 (t : Fin cfg0.N) : win0_3.index t 0 = 0 ∧ win0_3.index t 1 = 0 ∧ win0_3.index t 2 = t.val / 64 :=
  (by decide +kernel : ∀ t : Fin grid0.N, win0_3.index t 0 = 0 ∧ win0_3.index t 1 = 0 ∧ win0_3.index t 2 = t.val / 64) t

/-- Where the block of argument 4 lies. -/
theorem idx4 (t : Fin cfg0.N) : win0_4.index t 0 = 0 ∧ win0_4.index t 1 = 0 ∧ win0_4.index t 2 = t.val / 64 :=
  (by decide +kernel : ∀ t : Fin grid0.N, win0_4.index t 0 = 0 ∧ win0_4.index t 1 = 0 ∧ win0_4.index t 2 = t.val / 64) t

/-- Where the block of argument 5 lies. -/
theorem idx5 (t : Fin cfg0.N) : win0_5.index t 0 = 0 ∧ win0_5.index t 1 = 0 ∧ win0_5.index t 2 = t.val / 64 :=
  (by decide +kernel : ∀ t : Fin grid0.N, win0_5.index t 0 = 0 ∧ win0_5.index t 1 = 0 ∧ win0_5.index t 2 = t.val / 64) t

/-- Where the block of argument 6 lies. -/
theorem idx6 (t : Fin cfg0.N) : win0_6.index t 0 = 0 ∧ win0_6.index t 1 = 0 ∧ win0_6.index t 2 = t.val / 64 :=
  (by decide +kernel : ∀ t : Fin grid0.N, win0_6.index t 0 = 0 ∧ win0_6.index t 1 = 0 ∧ win0_6.index t 2 = t.val / 64) t

/-- Where the block of the input lies. -/
theorem idx7 (t : Fin cfg0.N) : win0_7.index t 0 = t.val / 64 ∧ win0_7.index t 1 = 0 :=
  (by decide +kernel : ∀ t : Fin grid0.N, win0_7.index t 0 = t.val / 64 ∧ win0_7.index t 1 = 0) t

/-- Where the block of the result lies. -/
theorem idx8 (t : Fin cfg0.N) : win0_8.index t 0 = t.val / 64 ∧ win0_8.index t 1 = 0 :=
  (by decide +kernel : ∀ t : Fin grid0.N, win0_8.index t 0 = t.val / 64 ∧ win0_8.index t 1 = 0) t

/-- Token `n` of a point's block. -/
def tok (t : Fin cfg0.N) (n : Fin 512) : Fin 8192 := ⟨512 * (t.val / 64) + n.val, by
  have h : t.val < 1024 := lt_of_lt_of_eq t.isLt N_0
  omega⟩

/-- Expert `r` of a point's block. -/
def expert (t : Fin cfg0.N) (r : Fin 256) : Fin 16384 := ⟨256 * (t.val % 64) + r.val, by omega⟩

/-- The host's copy of the normalised input, transposed. -/
theorem V_v1 (c : Dev nD) (d : Fin 2048) (n : Fin 8192) : V m c main_v1 (ix2 d n) = m ((c : Thread nD τ).loc main_arg0) (ix2 n d) := by
  have : V m c main_v1 = truncf (F := Ideal) .bf16 (transpose S2048x8192 [1, 0] (m ((c : Thread nD τ).loc main_arg0)) transposes_S8192x2048_S2048x8192_1_0) bitsLt_bf16_f32 := by
    show StableHlo.after hostOps0 (fun b => m (c, b)) main_v1 = _
    unfold hostOps0; after_results
  rw [this]
  pointwise

/-- The host's copy of the first projection. -/
theorem V_v2 (c : Dev nD) (e : Fin 16384) (d : Fin 2048) : V m c main_v2 (ix2 e d) = m ((c : Thread nD τ).loc main_arg1) (ix2 e d) := by
  have : V m c main_v2 = truncf (F := Ideal) (s := S16384x2048) (φ := .f32) .bf16 (m ((c : Thread nD τ).loc main_arg1)) bitsLt_bf16_f32 := by
    show StableHlo.after hostOps0 (fun b => m (c, b)) main_v2 = _
    unfold hostOps0; after_results
  rw [this]
  pointwise

/-- The host's copy of the second, transposed. -/
theorem V_v4 (c : Dev nD) (d : Fin 2048) (e : Fin 16384) : V m c main_v4 (ix2 d e) = m ((c : Thread nD τ).loc main_arg2) (ix2 e d) := by
  have : V m c main_v4 = truncf (F := Ideal) .bf16 (transpose S2048x16384 [1, 0] (m ((c : Thread nD τ).loc main_arg2)) transposes_S16384x2048_S2048x16384_1_0) bitsLt_bf16_f32 := by
    show StableHlo.after hostOps0 (fun b => m (c, b)) main_v4 = _
    unfold hostOps0; after_results
  rw [this]
  pointwise

/-- A point's block of the normalised input. -/
theorem iblk0 (c : Dev nD) (t : Fin cfg0.N) (d : Fin 2048) (n : Fin 512) :
    iblk m c 0 t (ix2 d n) = m ((c : Thread nD τ).loc main_arg0) (ix2 (tok t n) d) := by
  obtain ⟨h0, h1⟩ := idx0 t
  refine Eq.trans ?_ (V_v1 m c d (tok t n))
  show V m c main_v1 _ = _
  refine congrArg _ (funext fun a => Fin.ext ?_)
  match a with
  | ⟨0, _⟩ => show win0_0.index t 0 * 2048 + 1 * d.val = d.val; rw [h0]; omega
  | ⟨1, _⟩ => show win0_0.index t 1 * 512 + 1 * n.val = 512 * (t.val / 64) + n.val; rw [h1]; omega

/-- A point's block of the first projection. -/
theorem iblk1 (c : Dev nD) (t : Fin cfg0.N) (r : Fin 256) (d : Fin 2048) :
    iblk m c 1 t (ix2 r d) = m ((c : Thread nD τ).loc main_arg1) (ix2 (expert t r) d) := by
  obtain ⟨h0, h1⟩ := idx1 t
  refine Eq.trans ?_ (V_v2 m c (expert t r) d)
  show V m c main_v2 _ = _
  refine congrArg _ (funext fun a => Fin.ext ?_)
  match a with
  | ⟨0, _⟩ => show win0_1.index t 0 * 256 + 1 * r.val = 256 * (t.val % 64) + r.val; rw [h0]; omega
  | ⟨1, _⟩ => show win0_1.index t 1 * 2048 + 1 * d.val = d.val; rw [h1]; omega

/-- A point's block of the second projection. -/
theorem iblk2 (c : Dev nD) (t : Fin cfg0.N) (d : Fin 2048) (r : Fin 256) :
    iblk m c 2 t (ix2 d r) = m ((c : Thread nD τ).loc main_arg2) (ix2 (expert t r) d) := by
  obtain ⟨h0, h1⟩ := idx2 t
  refine Eq.trans ?_ (V_v4 m c d (expert t r))
  show V m c main_v4 _ = _
  refine congrArg _ (funext fun a => Fin.ext ?_)
  match a with
  | ⟨0, _⟩ => show win0_2.index t 0 * 2048 + 1 * d.val = d.val; rw [h0]; omega
  | ⟨1, _⟩ => show win0_2.index t 1 * 256 + 1 * r.val = 256 * (t.val % 64) + r.val; rw [h1]; omega

/-- A point's block of argument 3: its 512 tokens' columns. -/
theorem iblk3 (c : Dev nD) (t : Fin cfg0.N) (h : Fin 8) (j : Fin 128) (n : Fin 512) :
    iblk m c 3 t (ix3 h j n) = m ((c : Thread nD τ).loc main_arg3) (ix3 h j (tok t n)) := by
  show V m c main_arg3 _ = _
  rw [V_main_arg3]
  obtain ⟨h0, h1, h2⟩ := idx3 t
  refine congrArg _ (funext fun a => Fin.ext ?_)
  match a with
  | ⟨0, _⟩ => show win0_3.index t 0 * 8 + 1 * h.val = h.val; rw [h0]; omega
  | ⟨1, _⟩ => show win0_3.index t 1 * 128 + 1 * j.val = j.val; rw [h1]; omega
  | ⟨2, _⟩ => show win0_3.index t 2 * 512 + 1 * n.val = 512 * (t.val / 64) + n.val; rw [h2]; omega

/-- A point's block of argument 4: its 512 tokens' columns. -/
theorem iblk4 (c : Dev nD) (t : Fin cfg0.N) (h : Fin 8) (j : Fin 128) (n : Fin 512) :
    iblk m c 4 t (ix3 h j n) = m ((c : Thread nD τ).loc main_arg4) (ix3 h j (tok t n)) := by
  show V m c main_arg4 _ = _
  rw [V_main_arg4]
  obtain ⟨h0, h1, h2⟩ := idx4 t
  refine congrArg _ (funext fun a => Fin.ext ?_)
  match a with
  | ⟨0, _⟩ => show win0_4.index t 0 * 8 + 1 * h.val = h.val; rw [h0]; omega
  | ⟨1, _⟩ => show win0_4.index t 1 * 128 + 1 * j.val = j.val; rw [h1]; omega
  | ⟨2, _⟩ => show win0_4.index t 2 * 512 + 1 * n.val = 512 * (t.val / 64) + n.val; rw [h2]; omega

/-- A point's block of argument 5: its 512 tokens' columns. -/
theorem iblk5 (c : Dev nD) (t : Fin cfg0.N) (h : Fin 8) (j : Fin 128) (n : Fin 512) :
    iblk m c 5 t (ix3 h j n) = m ((c : Thread nD τ).loc main_arg5) (ix3 h j (tok t n)) := by
  show V m c main_arg5 _ = _
  rw [V_main_arg5]
  obtain ⟨h0, h1, h2⟩ := idx5 t
  refine congrArg _ (funext fun a => Fin.ext ?_)
  match a with
  | ⟨0, _⟩ => show win0_5.index t 0 * 8 + 1 * h.val = h.val; rw [h0]; omega
  | ⟨1, _⟩ => show win0_5.index t 1 * 128 + 1 * j.val = j.val; rw [h1]; omega
  | ⟨2, _⟩ => show win0_5.index t 2 * 512 + 1 * n.val = 512 * (t.val / 64) + n.val; rw [h2]; omega

/-- A point's block of argument 6: its 512 tokens' columns. -/
theorem iblk6 (c : Dev nD) (t : Fin cfg0.N) (h : Fin 8) (j : Fin 128) (n : Fin 512) :
    iblk m c 6 t (ix3 h j n) = m ((c : Thread nD τ).loc main_arg6) (ix3 h j (tok t n)) := by
  show V m c main_arg6 _ = _
  rw [V_main_arg6]
  obtain ⟨h0, h1, h2⟩ := idx6 t
  refine congrArg _ (funext fun a => Fin.ext ?_)
  match a with
  | ⟨0, _⟩ => show win0_6.index t 0 * 8 + 1 * h.val = h.val; rw [h0]; omega
  | ⟨1, _⟩ => show win0_6.index t 1 * 128 + 1 * j.val = j.val; rw [h1]; omega
  | ⟨2, _⟩ => show win0_6.index t 2 * 512 + 1 * n.val = 512 * (t.val / 64) + n.val; rw [h2]; omega

/-- A point's block of the input. -/
theorem iblk7 (c : Dev nD) (t : Fin cfg0.N) (n : Fin 512) (d : Fin 2048) :
    iblk m c 7 t (ix2 n d) = m ((c : Thread nD τ).loc main_arg7) (ix2 (tok t n) d) := by
  show V m c main_arg7 _ = _
  rw [V_main_arg7]
  obtain ⟨h0, h1⟩ := idx7 t
  refine congrArg _ (funext fun a => Fin.ext ?_)
  match a with
  | ⟨0, _⟩ => show win0_7.index t 0 * 512 + 1 * n.val = 512 * (t.val / 64) + n.val; rw [h0]; omega
  | ⟨1, _⟩ => show win0_7.index t 1 * 2048 + 1 * d.val = d.val; rw [h1]; omega

/-- The gated activations of a point, in the arguments. -/
theorem gated_eq (c : Dev nD) (t : Fin cfg0.N) (r : Fin 256) (n : Fin 512) : gated m c t (ix2 r n)
    = act (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (expert t r) (tok t n) := by
  have ek : (⟨2 * (t.val % 64) + r.val / 128, by omega⟩ : Fin 128) = ⟨(expert t r).val / 128, by have := (expert t r).isLt; omega⟩ :=
    Fin.ext (by show 2 * (t.val % 64) + r.val / 128 = (256 * (t.val % 64) + r.val) / 128; omega)
  have ej : (⟨r.val % 128, Nat.mod_lt _ (by norm_num)⟩ : Fin 128) = ⟨(expert t r).val % 128, Nat.mod_lt _ (by norm_num)⟩ :=
    Fin.ext (by show r.val % 128 = (256 * (t.val % 64) + r.val) % 128; omega)
  show part _ _ _ _ _ _ (⟨2 * (t.val % 64) + r.val / 128, _⟩ : Fin 128) (⟨r.val % 128, _⟩ : Fin 128) r n = _
  rw [ek, ej]
  unfold part act headGate
  refine congrArg₂ (fun a b : EReal => a * gelu b) (Finset.sum_congr rfl fun h _ => ?_) (Finset.sum_congr rfl fun d _ => ?_)
  · rw [iblk3, iblk4, iblk5, iblk6]
  · rw [iblk0, iblk1]

/-- The second projection's rows. -/
abbrev upw (c : Dev nD) : S16384x2048.Idx → EReal := m ((c : Thread nD τ).loc main_arg2)

/-- An expert's term of the result at column `d`, token `n`; nothing past the last expert. -/
def term (c : Dev nD) (d : Fin 2048) (n : Fin 8192) (e : ℕ) : EReal :=
  if h : e < 16384 then upw m c (ix2 ⟨e, h⟩ d) * act (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) ⟨e, h⟩ n else 0

/-- A point's block product is the sum of its experts' terms. -/
theorem block (c : Dev nD) (t : Fin cfg0.N) (acc : Vec Ideal S2048x512 .f32) (d : Fin 2048) (n : Fin 512) :
    k0_pay25 (F := Ideal) acc (iblk m c 2 t) (scratch (F := Ideal) m c t) (ix2 d n)
      = (acc (ix2 d n) : EReal) + ∑ r ∈ Finset.range 256, term m c d (tok t n) (256 * (t.val % 64) + r) := by
  rw [scratch_eq]
  refine (pay25 acc (iblk m c 2 t) (gated m c t) d n).trans (congrArg _ ?_)
  rw [Finset.sum_range]
  refine Finset.sum_congr rfl fun r _ => ?_
  rw [iblk2, gated_eq]
  have h : 256 * (t.val % 64) + r.val < 16384 := (expert t r).isLt
  unfold term
  rw [dif_pos h]
  rfl

/-- The accumulator after a point: the terms of the experts up to the point's last. -/
theorem acc_eq (c : Dev nD) (s b : ℕ) (hs : s < 64) (h : 64 * b + s < cfg0.N) (d : Fin 2048) (n : Fin 512) :
    (outsAt0 m c (64 * b + s) h).2 (ix2 d n) = ∑ e ∈ Finset.range (256 * (s + 1)), term m c d (tok ⟨64 * b + s, h⟩ n) e := by
  induction s with
  | zero =>
    have e := outs_A (F := Ideal) m c ⟨64 * b + 0, h⟩ (by dsimp only; omega) (by dsimp only; omega)
    refine (congrFun e _).trans ((block m c _ _ d n).trans ?_)
    have z : (k0_pay2 (F := Ideal) (ix2 d n) : EReal) = 0 := by pointwise [k0_pay2]
    rw [z, zero_add]
    refine Finset.sum_congr rfl fun r _ => ?_
    congr 1
    dsimp only; omega
  | succ s ih =>
    have hp : 64 * b + s < cfg0.N := by omega
    have e : (outsAt0 m c (64 * b + (s + 1)) h).2 = k0_pay25 (outsAt0 m c (64 * b + s) hp).2 (iblk m c 2 ⟨64 * b + (s + 1), h⟩) (scratch (F := Ideal) m c ⟨64 * b + (s + 1), h⟩) := by
      by_cases h1 : (64 * b + (s + 1)) % 64 = 63
      · exact outs_C (F := Ideal) m c ⟨64 * b + (s + 1), h⟩ (by dsimp only; omega) h1
      · exact outs_B (F := Ideal) m c ⟨64 * b + (s + 1), h⟩ (by dsimp only; omega) h1
    refine (congrFun e _).trans ((block m c _ _ d n).trans ?_)
    have et : tok ⟨64 * b + (s + 1), h⟩ n = tok ⟨64 * b + s, hp⟩ n := Fin.ext (by
      show 512 * ((64 * b + (s + 1)) / 64) + n.val = 512 * ((64 * b + s) / 64) + n.val; omega)
    rw [ih (by omega) hp, et, show 256 * (s + 1 + 1) = 256 * (s + 1) + 256 by omega, Finset.sum_range_add]
    refine congrArg _ (Finset.sum_congr rfl fun r _ => ?_)
    congr 1
    dsimp only; omega

/-- The dense feed-forward of device `c`'s arguments. -/
def G (c : Dev nD) : Buf (Elt Ideal) ((c : Thread nD τ).loc main_v5) :=
  peer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- All the terms together. -/
theorem term_sum (c : Dev nD) (d : Fin 2048) (n : Fin 8192) : ∑ e ∈ Finset.range 16384, term m c d n e
    = ∑ e : Fin 16384, upw m c (ix2 e d) * act (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) e n := by
  rw [Finset.sum_range]
  exact Finset.sum_congr rfl fun e _ => dif_pos e.isLt

/-- What a run's last point leaves in the result's block, at an index. -/
theorem out_eq (c : Dev nD) (t : Fin cfg0.N) (h1 : t.val % 64 = 63) (n : Fin 512) (d : Fin 2048) :
    (outsAt0 m c t.val t.isLt).1 (ix2 n d) = G m c (ix2 (tok t n) d) := by
  have e := out_C (F := Ideal) m c t (by omega) h1
  refine (congrFun e _).trans ?_
  have p : ∀ (x : Vec Ideal S512x2048 .f32) (a : Vec Ideal S2048x512 .f32), k0_pay1 (F := Ideal) x a (ix2 n d) = (x (ix2 n d) : EReal) + a (ix2 d n) := by
    intro x a; pointwise [k0_pay1]
  refine (p _ _).trans ?_
  obtain ⟨v, hv⟩ := t
  have hw : v = 64 * (v / 64) + 63 := by dsimp only at h1; omega
  generalize v / 64 = b at hw
  subst hw
  rw [iblk7]
  refine congrArg _ ((acc_eq m c 63 _ (by norm_num) hv d n).trans (term_sum m c d _))

/-- What a flushing point writes back is the feed-forward's rows. -/
theorem flushed_eq (c : Dev nD) (t : Fin cfg0.N) (hf : (cfg0.win 8).flush t = true) :
    (dats m 0 c).flushed 8 t = ((cfg0.win 8).blk t).view.read (Elt Ideal) (G m c) := by
  rw [Value.flushed8]
  funext y
  have hy : y = (ix2 (y 0) (y 1) : S512x2048.Idx) := funext fun a => by match a with | ⟨0, _⟩ => rfl | ⟨1, _⟩ => rfl
  refine (congrArg (outsAt0 m c t.val t.isLt).1 hy).trans ((out_eq m c t ((flush0_8 t).mp hf) (y 0) (y 1)).trans (congrArg (G m c) ?_))
  obtain ⟨h, h'⟩ := idx8 t
  refine funext fun a => Fin.ext ?_
  match a with
  | ⟨0, _⟩ => show 512 * (t.val / 64) + (y 0).val = win0_8.index t 0 * 512 + 1 * (y 0).val; rw [h]; omega
  | ⟨1, _⟩ => show (y 1).val = win0_8.index t 1 * 2048 + 1 * (y 1).val; rw [h']; omega

/-- The indices of a point's block: its 512 rows. -/
theorem mem_blk (t : Fin cfg0.N) (i : S8192x2048.Idx) (hi : (i 0 : Nat) / 512 = t.val / 64) : i ∈ ((cfg0.win 8).blk t).view.set := by
  show i ∈ ((View.whole main_v5).slice (win0_8.rect t)).set
  rw [View.set_slice_whole, Rect.mem_set_unit]
  obtain ⟨h, h'⟩ := idx8 t
  have h1 : (i 1 : Nat) < 2048 := (i 1).isLt
  intro a
  match a with
  | ⟨0, _⟩ =>
    show win0_8.index t 0 * 512 ≤ (i 0 : Nat) ∧ (i 0 : Nat) < win0_8.index t 0 * 512 + 512
    rw [h]; omega
  | ⟨1, _⟩ =>
    show win0_8.index t 1 * 2048 ≤ (i 1 : Nat) ∧ (i 1 : Nat) < win0_8.index t 1 * 2048 + 2048
    rw [h']; omega

/-- Every row of the result is in the block of a run's last point. -/
theorem cover (i : S8192x2048.Idx) : ∃ t : Fin cfg0.N, (cfg0.win 8).flush t = true ∧ i ∈ ((cfg0.win 8).blk t).view.set := by
  have h0 : (i 0 : Nat) < 8192 := (i 0).isLt
  have hb : 64 * ((i 0).val / 512) + 63 < cfg0.N := lt_of_lt_of_eq (by omega : 64 * ((i 0).val / 512) + 63 < 1024) N_0.symm
  exact ⟨⟨64 * ((i 0).val / 512) + 63, hb⟩, (flush0_8 _).mpr (by dsimp only; omega), mem_blk _ i (by dsimp only; omega)⟩

/-- So the result array ends at the feed-forward, -/
theorem final (c : Dev nD) : (dats m 0 c).arrAt 8 cfg0.N = G m c :=
  (dats m 0 c).arrAt_eq_of_cover 8 (G m c) (fun t hf => flushed_eq m c t hf) cover

/-- and the run, read: the result at it, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.DenseIdeal.RefValue

end
-- ==== Proof.DenseRef.lean ====
/-
  The reference of PEER's dense feed-forward, read at an index.
-/
module

public import proofs.«01_k».proof.Proof.Gen.DenseRefIdeal.Run
public import proofs.«01_k».proof.Proof.DenseStep

@[expose] public section

set_option maxRecDepth 16384

noncomputable section

namespace Cert.DenseRefIdeal.RefValue

open Cert.DenseRefIdeal Cert.DenseRefIdeal.Gen Idealize.ShloMosaic Idealize.ShloMosaic.TcCoe Idealize.ShloMosaic.Tactic Idealize.SL.Sem
open Cert.DenseIdeal.RefValue

/-- The exact GELU, as the reference writes it. -/
theorem gelu_erfc (x : EReal) : Ideal.ofBits .f32 0x3F000000#32 * x * Ideal.erfc (-x * Ideal.ofBits .f32 0x3F3504F3#32) = gelu x := by
  unfold gelu
  rw [EReal.neg_mul, Ideal.erfc_neg]

/-- The reference's gates, as a table of experts. -/
def gates (R W C E : FVec Ideal S8x128x8192 .f32) : FVec Ideal S8192x16384 .f32 :=
  transpose S8192x16384 [1, 0] (shapeCast _ (Host.reduceAdd (select (cmpf .olt (broadcastInDim S8x128x128x8192 ![0, 1, 2, 3] bcast_S8x1x128x8192_S8x128x128x8192_0_1_2_3 (broadcastInDim S8x1x128x8192 ![0, 2, 3] bcast_S8x128x8192_S8x1x128x8192_0_2_3 R)) (broadcastInDim S8x128x128x8192 ![0, 1, 2, 3] bcast_S8x128x1x8192_S8x128x128x8192_0_1_2_3 (broadcastInDim S8x128x1x8192 ![0, 1, 3] bcast_S8x128x8192_S8x128x1x8192_0_1_3 C))) (mulf (broadcastInDim S8x128x128x8192 ![0, 1, 2, 3] bcast_S8x1x128x8192_S8x128x128x8192_0_1_2_3 (broadcastInDim S8x1x128x8192 ![0, 2, 3] bcast_S8x128x8192_S8x1x128x8192_0_2_3 W)) (broadcastInDim S8x128x128x8192 ![0, 1, 2, 3] bcast_S8x128x1x8192_S8x128x128x8192_0_1_2_3 (broadcastInDim S8x128x1x8192 ![0, 1, 3] bcast_S8x128x8192_S8x128x1x8192_0_1_3 E))) (broadcastInDim S8x128x128x8192 ![] bcast_S_S8x128x128x8192 (constant S_ .f32 0x00000000#32))) (constant S_ .f32 0x00000000#32) reducesTo_S8x128x128x8192_S128x128x8192_d0 h_S_) shapeCasts_S128x128x8192_S16384x8192) transposes_S16384x8192_S8192x16384_1_0

/-- A gate at an index. -/
theorem gates_apply (R W C E : FVec Ideal S8x128x8192 .f32) (n : Fin 8192) (e : Fin 16384) : gates R W C E (ix2 n e)
    = ∑ h : Fin 8, headGate R W C E ⟨e.val / 128, by omega⟩ ⟨e.val % 128, Nat.mod_lt _ (by norm_num)⟩ n h := by
  unfold gates headGate
  pointwise

/-- The reference's activations. -/
def acts (xn : FVec Ideal S8192x2048 .f32) (dn : FVec Ideal S16384x2048 .f32) : FVec Ideal S8192x16384 .f32 :=
  mulf (mulf (broadcastInDim S8192x16384 ![] bcast_S_S8192x16384 (constant S_ .f32 0x3F000000#32)) (Host.dotGeneral dot_S8192x2048_S2048x16384_S8192x16384_1_0_0_1_n_n none xn (transpose S2048x16384 [1, 0] dn transposes_S16384x2048_S2048x16384_1_0))) (Host.erfc (mulf (Host.negf (Host.dotGeneral dot_S8192x2048_S2048x16384_S8192x16384_1_0_0_1_n_n none xn (transpose S2048x16384 [1, 0] dn transposes_S16384x2048_S2048x16384_1_0))) (broadcastInDim S8192x16384 ![] bcast_S_S8192x16384 (constant S_ .f32 0x3F3504F3#32))))

/-- One at an index. -/
theorem acts_apply (xn : FVec Ideal S8192x2048 .f32) (dn : FVec Ideal S16384x2048 .f32) (n : Fin 8192) (e : Fin 16384) : acts xn dn (ix2 n e)
    = gelu (∑ d : Fin 2048, dn (ix2 e d) * xn (ix2 n d)) := by
  have e0 : (∑ d : Fin 2048, (dn (ix2 e d) : EReal) * xn (ix2 n d)) = ∑ d : Fin 2048, (xn (ix2 n d) : EReal) * dn (ix2 e d) :=
    Finset.sum_congr rfl fun d _ => mul_comm _ _
  rw [← gelu_erfc, e0]
  unfold acts
  pointwise

/-- The whole. -/
theorem whole (xn : FVec Ideal S8192x2048 .f32) (dn up : FVec Ideal S16384x2048 .f32) (R W C E : FVec Ideal S8x128x8192 .f32) (x : FVec Ideal S8192x2048 .f32) :
    addf (F := Ideal) (φ := .f32) x (Host.dotGeneral dot_S8192x16384_S16384x2048_S8192x2048_1_0_0_1_n_n none (mulf (gates R W C E) (acts xn dn)) up) = peer xn dn up R W C E x := by
  funext i
  unfold peer act
  pointwise
  refine congrArg _ (Finset.sum_congr rfl fun e _ => ?_)
  exact (congrArg₂ (fun a b : EReal => a * b * up (ix2 e (i 1))) (gates_apply R W C E (i 0) e) (acts_apply xn dn (i 0) e)).trans (mul_comm _ _)

variable (m : (ℓ : Loc nD τ sig) → Buf (Elt Ideal) ℓ) (ρ : Dev nD → PrngReg)

/-- The reference's run, read: its result is that function of its arguments, which it keeps. -/
theorem run : θ_run defs (onTc (τ := τ) (main (F := Ideal))) ⟨m, fun _ => 0, ρ⟩ fun r => ∀ c : Dev nD,
      r.2.mem ((c.tc : Thread nD τ).loc main_v25)
        = peer (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (whole ..), (h c).2⟩) (Cert.DenseRefIdeal.Value.run m ρ)

end Cert.DenseRefIdeal.RefValue

end
-- ==== Proof.DenseClaims.lean ====
/-
  PEER's dense feed-forward and its reference agree.
-/
module

public import proofs.«01_k».proof.Proof.DenseValue
public import proofs.«01_k».proof.Proof.DenseRef
public import proofs.«01_k».proof.Defs

@[expose] public section

noncomputable section

namespace Cert.DenseClaims

open Idealize.ShloMosaic Idealize.SL.Sem

/-- The dense feed-forward and its reference agree. -/
theorem agree : Cert.algebraic_DenseIdeal_DenseRefIdeal := fun m ρ m' ρ' _ hagree =>
  ⟨fun c => Cert.DenseIdeal.RefValue.G m c, Cert.DenseIdeal.RefValue.run m ρ,
    (θ_run _ _ _).mono (fun _ h c => ⟨(h c).1.trans (by
      obtain ⟨h0, h1, h2, h3, h4, h5, h6, h7⟩ := hagree c
      rw [h0, h1, h2, h3, h4, h5, h6, h7]; rfl), (h c).2⟩) (Cert.DenseRefIdeal.RefValue.run m' ρ')⟩

/-- The reference runs to its end and keeps its arguments. -/
theorem agree_frame : Cert.quiescent_DenseRefIdeal := fun m ρ _ =>
  (θ_run Cert.DenseRefIdeal.defs _ _).mono (fun r h => ⟨fun c => (h c).2, sem_eq_zero_of_no_sems (by decide) r.2⟩) (Cert.DenseRefIdeal.RefValue.run m ρ)

end Cert.DenseClaims

end
-- ==== Proof.FinalNormValue.lean ====
/-
  The last normalisation: each block of rows the kernel normalises holds the reference's rows.
-/
module

public import proofs.«01_k».proof.Proof.Gen.FinalNormIdeal.Value
public import proofs.«01_k».proof.Proof.Gen.FinalNormRefIdeal.Run
public import proofs.«01_k».proof.Proof.Common
public import proofs.«01_k».proof.Defs

@[expose] public section

set_option maxRecDepth 16384

noncomputable section

namespace Cert.FinalNormIdeal.RefValue

open Cert.FinalNormIdeal Cert.FinalNormIdeal.Gen Idealize.ShloMosaic Idealize.ShloMosaic.TcCoe Idealize.ShloMosaic.Tactic
open Idealize.SL.Sem Idealize.ShloMosaic.StableHlo
open Idealize.ShloMosaic.Pipeline (Dat)
open Cert.Common

variable (m : (ℓ : Loc nD τ sig) → Buf (Elt Ideal) ℓ) (ρ : Dev nD → PrngReg)

/-- The rows normalised, with the mean over 2048 columns and the constant under the root that the code names. -/
def norm (x : S8192x2048.Idx → EReal) (g : S2048.Idx → EReal) : S8192x2048.Idx → EReal :=
  rms (Ideal.ofBits (φ := .f32) 0x45000000#32) (Ideal.ofBits (φ := .f32) 0x358637BD#32) x g

/-- Where the blocks of a point lie: row block `t` of the input and of the result; the scale whole. -/
theorem idx (t : Fin cfg0.N) : win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, win0_0.index t 0 = t.val ∧ win0_0.index t 1 = 0 ∧ win0_1.index t 0 = 0 ∧ win0_1.index t 1 = 0
    ∧ win0_2.index t 0 = t.val ∧ win0_2.index t 1 = 0) t

/-- Row `r` of row block `t`. -/
def row (t : Fin cfg0.N) (r : Fin 512) : Fin 8192 := ⟨512 * t.val + r.val, by
  have h : t.val < 16 := lt_of_lt_of_eq t.isLt N_0
  omega⟩

/-- The input's block of a point. -/
theorem iblk0 (c : Dev nD) (t : Fin cfg0.N) (y : S512x2048.Idx) :
    iblk m c 0 t y = m ((c : Thread nD τ).loc main_arg0) (ix2 (row t (y 0)) (y 1)) := by
  show V m c main_arg0 _ = _
  rw [V_main_arg0]
  obtain ⟨h, h', -⟩ := idx t
  refine congrArg _ (funext fun a => Fin.ext ?_)
  match a with
  | ⟨0, _⟩ => show win0_0.index t 0 * 512 + 1 * (y 0).val = 512 * t.val + (y 0).val; rw [h]; omega
  | ⟨1, _⟩ => show win0_0.index t 1 * 2048 + 1 * (y 1).val = (y 1).val; rw [h']; omega

/-- The scale's block of a point: the scale as one row. -/
theorem iblk1 (c : Dev nD) (t : Fin cfg0.N) (y : S1x2048.Idx) :
    iblk m c 1 t y = m ((c : Thread nD τ).loc main_arg1) (ix1 (y 1)) := by
  have e : V m c main_v0 = fun z => m ((c : Thread nD τ).loc main_arg1) (ix1 (z 1)) := by
    have : V m c main_v0 = shapeCast S1x2048 (m ((c : Thread nD τ).loc main_arg1)) shapeCasts_S2048_S1x2048 := by
      show StableHlo.after hostOps0 (fun b => m (c, b)) main_v0 = _
      unfold hostOps0; after_results; rfl
    rw [this]
    funext z
    pointwise
  show V m c main_v0 _ = _
  rw [e]
  obtain ⟨-, -, h, h', -⟩ := idx t
  refine congrArg _ (congrArg ix1 (Fin.ext ?_))
  show win0_1.index t 1 * 2048 + 1 * (y 1).val = (y 1).val
  rw [h']; omega

/-- The normalised rows of device `c`'s arguments. -/
def G (c : Dev nD) : Buf (Elt Ideal) ((c : Thread nD τ).loc main_v1) :=
  norm (m ((c : Thread nD τ).loc main_arg0)) (m ((c : Thread nD τ).loc main_arg1))

/-- What a point writes back is its rows, normalised. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  funext y
  show k0_pay1 (F := Ideal) (iblk m c 0 t) (iblk m c 1 t) y = G m c (((cfg0.win 2).blk t).view.emb y)
  have e : (((cfg0.win 2).blk t).view.emb y) = (ix2 (row t (y 0)) (y 1) : S8192x2048.Idx) := by
    obtain ⟨-, -, -, -, h, h'⟩ := idx t
    refine funext fun a => Fin.ext ?_
    match a with
    | ⟨0, _⟩ => show win0_2.index t 0 * 512 + 1 * (y 0).val = 512 * t.val + (y 0).val; rw [h]; omega
    | ⟨1, _⟩ => show win0_2.index t 1 * 2048 + 1 * (y 1).val = (y 1).val; rw [h']; omega
  refine Eq.trans ?_ (congrArg (G m c) e).symm
  unfold G Cert.FinalNormIdeal.RefValue.norm rms
  pointwise [k0_pay1]
  simp only [iblk0, iblk1, add_zero, zero_add]
  rfl

/-- The indices of a point's block: its 512 rows. -/
theorem mem_blk (t : Fin cfg0.N) (i : S8192x2048.Idx) (hi : (i 0 : Nat) / 512 = t.val) : i ∈ ((cfg0.win 2).blk t).view.set := by
  show i ∈ ((View.whole main_v1).slice (win0_2.rect t)).set
  rw [View.set_slice_whole, Rect.mem_set_unit]
  obtain ⟨-, -, -, -, h, h'⟩ := idx t
  have h1 : (i 1 : Nat) < 2048 := (i 1).isLt
  intro a
  match a with
  | ⟨0, _⟩ =>
    show win0_2.index t 0 * 512 ≤ (i 0 : Nat) ∧ (i 0 : Nat) < win0_2.index t 0 * 512 + 512
    rw [h]; omega
  | ⟨1, _⟩ =>
    show win0_2.index t 1 * 2048 ≤ (i 1 : Nat) ∧ (i 1 : Nat) < win0_2.index t 1 * 2048 + 2048
    rw [h']; omega

/-- Every row of the result is in some point's block. -/
theorem cover (i : S8192x2048.Idx) : ∃ t : Fin cfg0.N, (cfg0.win 2).flush t = true ∧ i ∈ ((cfg0.win 2).blk t).view.set := by
  have h0 : (i 0 : Nat) < 8192 := (i 0).isLt
  exact ⟨⟨(i 0).val / 512, lt_of_lt_of_eq (by omega : (i 0).val / 512 < 16) N_0.symm⟩, flush0_2 _, mem_blk _ i rfl⟩

/-- So the result array ends at the normalised rows, -/
theorem final (c : Dev nD) : (dats m 0 c).arrAt 2 cfg0.N = G m c :=
  (dats m 0 c).arrAt_eq_of_cover 2 (G m c) (fun t _ => flushed_eq m c t) cover

/-- and the run, read: the result at the normalised rows, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.FinalNormIdeal.RefValue

namespace Cert.FinalNormRefIdeal.RefValue

open Cert.FinalNormRefIdeal Cert.FinalNormRefIdeal.Gen Idealize.ShloMosaic Idealize.ShloMosaic.TcCoe Idealize.SL.Sem

variable (m : (ℓ : Loc nD τ sig) → Buf (Elt Ideal) ℓ) (ρ : Dev nD → PrngReg)

/-- The reference's result is the same function of its arguments, which it keeps. -/
theorem run : θ_run defs (onTc (τ := τ) (main (F := Ideal))) ⟨m, fun _ => 0, ρ⟩ fun r => ∀ c : Dev nD,
      r.2.mem ((c.tc : Thread nD τ).loc main_v12)
        = Cert.FinalNormIdeal.RefValue.norm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext i
    unfold Cert.FinalNormIdeal.RefValue.norm Cert.Common.rms
    pointwise), (h c).2⟩) (Cert.FinalNormRefIdeal.Value.run m ρ)

end Cert.FinalNormRefIdeal.RefValue

namespace Cert.FinalNormClaims

open Idealize.ShloMosaic Idealize.SL.Sem

/-- The last normalisation and its reference agree. -/
theorem agree : Cert.algebraic_FinalNormIdeal_FinalNormRefIdeal := fun m ρ m' ρ' _ hagree =>
  ⟨fun c => Cert.FinalNormIdeal.RefValue.G m c, Cert.FinalNormIdeal.RefValue.run m ρ,
    (θ_run _ _ _).mono (fun _ h c => ⟨(h c).1.trans (by
      rw [(hagree c).1, (hagree c).2]; rfl), (h c).2⟩) (Cert.FinalNormRefIdeal.RefValue.run m' ρ')⟩

/-- The normalisation's reference runs to its end and keeps its arguments. -/
theorem agree_frame : Cert.quiescent_FinalNormRefIdeal := fun m ρ _ =>
  (θ_run Cert.FinalNormRefIdeal.defs _ _).mono (fun r h => ⟨fun c => (h c).2, sem_eq_zero_of_no_sems (by decide) r.2⟩) (Cert.FinalNormRefIdeal.RefValue.run m ρ)

end Cert.FinalNormClaims

end
-- ==== Proof.lean ====
/-
  The claims of this certificate, put together from the modules under Proof/.
-/
module

public import proofs.«01_k».proof.Defs
public import proofs.«01_k».proof.Proof.Gen.Dense.Skeleton
public import proofs.«01_k».proof.Proof.Gen.DenseIdeal.Skeleton
public import proofs.«01_k».proof.Proof.Gen.Dense.Frame
public import proofs.«01_k».proof.Proof.Gen.DenseIdeal.Frame
public import proofs.«01_k».proof.Proof.Gen.DenseIdeal.Value
public import proofs.«01_k».proof.Proof.Gen.DenseRefIdeal.Run
public import proofs.«01_k».proof.Proof.Gen.FinalNorm.Frame
public import proofs.«01_k».proof.Proof.Gen.FinalNormIdeal.Frame
public import proofs.«01_k».proof.Proof.Gen.FinalNormIdeal.Value
public import proofs.«01_k».proof.Proof.Gen.FinalNormRefIdeal.Run
public import proofs.«01_k».proof.Proof.Gen.Kernel.Frame
public import proofs.«01_k».proof.Proof.Gen.KernelIdeal.Frame
public import proofs.«01_k».proof.Proof.Gen.HgrnIn.Frame
public import proofs.«01_k».proof.Proof.Gen.HgrnInIdeal.Frame
public import proofs.«01_k».proof.Proof.Gen.ShortConv.Skeleton
public import proofs.«01_k».proof.Proof.Gen.ShortConvIdeal.Skeleton
public import proofs.«01_k».proof.Proof.Gen.ConfIn.Frame
public import proofs.«01_k».proof.Proof.Gen.ConfInIdeal.Frame
public import proofs.«01_k».proof.Proof.Gen.ConfOut.Skeleton
public import proofs.«01_k».proof.Proof.Gen.ConfOutIdeal.Skeleton
public import proofs.«01_k».proof.Proof.Gen.OutProj.Frame
public import proofs.«01_k».proof.Proof.Gen.OutProjIdeal.Frame
public import proofs.«01_k».proof.Proof.Gen.KernelIdeal.Value
public import proofs.«01_k».proof.Proof.Gen.HgrnInIdeal.Value
public import proofs.«01_k».proof.Proof.Gen.ConfInIdeal.Value
public import proofs.«01_k».proof.Proof.Gen.OutProjIdeal.Value
public import proofs.«01_k».proof.Proof.Gen.ReferenceIdeal.Run
public import proofs.«01_k».proof.Proof.Gen.HgrnInRefIdeal.Run
public import proofs.«01_k».proof.Proof.Gen.ShortConvRefIdeal.Run
public import proofs.«01_k».proof.Proof.Gen.ConfInRefIdeal.Run
public import proofs.«01_k».proof.Proof.Gen.ConfOutRefIdeal.Run
public import proofs.«01_k».proof.Proof.Gen.OutProjRefIdeal.Run
public import proofs.«01_k».proof.Proof.Gen.Pre_decay_in_range
public import proofs.«01_k».proof.Proof.ProjClaims
public import proofs.«01_k».proof.Proof.RecClaim
public import proofs.«01_k».proof.Proof.ShortConvClaims
public import proofs.«01_k».proof.Proof.ConfOutClaims
public import proofs.«01_k».proof.Proof.DenseClaims
public import proofs.«01_k».proof.Proof.FinalNormValue

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.HgrnIn.Gen.facts, Cert.HgrnInIdeal.Gen.facts, Cert.HgrnInRefIdeal.Gen.facts, Cert.ShortConv.Gen.facts, Cert.ShortConvIdeal.Gen.facts, Cert.ShortConvRefIdeal.Gen.facts, Cert.ConfIn.Gen.facts, Cert.ConfInIdeal.Gen.facts, Cert.ConfInRefIdeal.Gen.facts, Cert.ConfOut.Gen.facts, Cert.ConfOutIdeal.Gen.facts, Cert.ConfOutRefIdeal.Gen.facts, Cert.Dense.Gen.facts, Cert.DenseIdeal.Gen.facts, Cert.DenseRefIdeal.Gen.facts, Cert.FinalNorm.Gen.facts, Cert.FinalNormIdeal.Gen.facts, Cert.FinalNormRefIdeal.Gen.facts, Cert.OutProj.Gen.facts, Cert.OutProjIdeal.Gen.facts, Cert.OutProjRefIdeal.Gen.facts, Cert.Pre_decay_in_range.Gen.facts,
  fun m ρ _ => Cert.Kernel.Gen.frame m ρ, fun m ρ _ => Cert.KernelIdeal.Gen.frame m ρ, fun m ρ _ => Cert.KernelIdeal.Gen.frame m ρ,
  Cert.RecClaim.frame, fun m ρ _ => Cert.RecClaim.frame m ρ trivial,
  fun m ρ _ => Cert.HgrnIn.Gen.frame m ρ, fun m ρ _ => Cert.HgrnInIdeal.Gen.frame m ρ, Cert.ProjClaims.hgrn_frame,
  Cert.ShortConvClaims.frame_kernel, Cert.ShortConvClaims.frame_ideal, Cert.ShortConvClaims.frame,
  fun m ρ _ => Cert.ConfIn.Gen.frame m ρ, fun m ρ _ => Cert.ConfInIdeal.Gen.frame m ρ, Cert.ProjClaims.conf_frame,
  Cert.ConfOutClaims.frame_kernel, Cert.ConfOutClaims.frame_ideal, Cert.ConfOutClaims.frame,
  fun m ρ _ => Cert.Dense.Gen.frame m ρ, fun m ρ _ => Cert.DenseIdeal.Gen.frame m ρ, Cert.DenseClaims.agree_frame,
  fun m ρ _ => Cert.FinalNorm.Gen.frame m ρ, fun m ρ _ => Cert.FinalNormIdeal.Gen.frame m ρ, Cert.FinalNormClaims.agree_frame,
  fun m ρ _ => Cert.OutProj.Gen.frame m ρ, fun m ρ _ => Cert.OutProjIdeal.Gen.frame m ρ, Cert.ProjClaims.out_frame,
  trivial, Cert.RecClaim.agree, trivial, Cert.ProjClaims.hgrn, trivial, Cert.ShortConvClaims.agree, trivial, Cert.ProjClaims.conf, trivial, Cert.ConfOutClaims.agree, trivial, Cert.DenseClaims.agree, trivial, Cert.FinalNormClaims.agree, trivial, Cert.ProjClaims.out⟩

end Cert.Proof

end
